-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![4096, 512]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![1024, 1]⟩ ⟨2, ![4096, 1]⟩ 0 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![4, 512, 1024]⟩ ⟨3, ![16, 512, 1024]⟩ 0 4 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 1024]⟩ ⟨2, ![4096, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v16) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x512 : Shape := ⟨2, ![1024, 512]⟩
abbrev S512x16 : Shape := ⟨2, ![512, 16]⟩
abbrev S1024x1 : Shape := ⟨2, ![1024, 1]⟩
abbrev S4x512x1024 : Shape := ⟨3, ![4, 512, 1024]⟩
abbrev S1024x1024 : Shape := ⟨2, ![1024, 1024]⟩
abbrev S16x512x1024 : Shape := ⟨3, ![16, 512, 1024]⟩
abbrev S4x1024x1 : Shape := ⟨3, ![4, 1024, 1]⟩
abbrev S3 : Shape := ⟨1, ![3]⟩
abbrev S4 : Shape := ⟨1, ![4]⟩
abbrev S_ : Shape := ⟨0, ![]⟩
abbrev S1x1024x1 : Shape := ⟨3, ![1, 1024, 1]⟩
abbrev S1 : Shape := ⟨1, ![1]⟩
abbrev S2x512x1024 : Shape := ⟨3, ![2, 512, 1024]⟩
abbrev S1024x16 : Shape := ⟨2, ![1024, 16]⟩
abbrev S1x16 : Shape := ⟨2, ![1, 16]⟩
abbrev S16 : Shape := ⟨1, ![16]⟩
abbrev S1024 : Shape := ⟨1, ![1024]⟩
abbrev S1x512x1024 : Shape := ⟨3, ![1, 512, 1024]⟩
abbrev S512x1024 : Shape := ⟨2, ![512, 1024]⟩

abbrev nBuf : Space → Nat
  | .hbm => 5
  | .vmem => 7
  | .smem => 0
  | _ => 0

abbrev bufTy : (tb : Table) → Fin (tcTables nBuf tb) → BufTy
  | .hbm, ⟨0, _⟩ => ⟨S1024x512, .bf16⟩
  | .hbm, ⟨1, _⟩ => ⟨S512x16, .bf16⟩
  | .hbm, ⟨2, _⟩ => ⟨S1024x1, .i32⟩
  | .hbm, ⟨3, _⟩ => ⟨S4x512x1024, .bf16⟩
  | .hbm, ⟨4, _⟩ => ⟨S1024x1024, .f32⟩
  | .local _ .vmem, ⟨0, _⟩ => ⟨S1024x512, .bf16⟩
  | .local _ .vmem, ⟨1, _⟩ => ⟨S1024x1, .i32⟩
  | .local _ .vmem, ⟨2, _⟩ => ⟨S4x512x1024, .bf16⟩
  | .local _ .vmem, ⟨3, _⟩ => ⟨S1024x1024, .f32⟩
  | .local _ .vmem, ⟨4, _⟩ => ⟨S16x512x1024, .bf16⟩
  | .local _ .vmem, ⟨5, _⟩ => ⟨S4x1024x1, .i32⟩
  | .local _ .vmem, ⟨6, _⟩ => ⟨S1024x512, .bf16⟩
  | _, _ => ⟨S1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  (ofTc nBuf bufTy 1 23 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_5 : BitVec 32 := 1#32
  let v9 : BitVec 32 := Scalar.addi v2 c1_i32_5
  let c4_i32_6 : BitVec 32 := 4#32
  let v10 : BitVec 32 := Scalar.remsi v9 c4_i32_6
  let c1_i32_8 : BitVec 32 := 1#32
  let v11 : BitVec 32 := Scalar.muli v10 c1_i32_8
  let v12 : BitVec 32 := Scalar.addi c0_i32 v11
  v12.toNat
def k0_dev2 (d0 : Dev nD) : Nat :=
  let c0_i32_12 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v13 : BitVec 32 := Scalar.addi v2 c2_i32
  let c4_i32_9 : BitVec 32 := 4#32
  let v14 : BitVec 32 := Scalar.remsi v13 c4_i32_9
  let c1_i32_11 : BitVec 32 := 1#32
  let v15 : BitVec 32 := Scalar.muli v14 c1_i32_11
  let v16 : BitVec 32 := Scalar.addi c0_i32_12 v15
  v16.toNat
def k0_dev3 (d0 : Dev nD) : Nat :=
  let c0_i32_16 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v17 : BitVec 32 := Scalar.addi v2 c3_i32
  let c4_i32_13 : BitVec 32 := 4#32
  let v18 : BitVec 32 := Scalar.remsi v17 c4_i32_13
  let c1_i32_15 : BitVec 32 := 1#32
  let v19 : BitVec 32 := Scalar.muli v18 c1_i32_15
  let v20 : BitVec 32 := Scalar.addi c0_i32_16 v19
  v20.toNat
def k0_off1 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v108 : Index := Scalar.indexCast v2
  let c0_103 : Index := 0#32
  let c0_104 : Index := 0#32
  ![v108.toNat, 0, 0]
def k0_off2 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off3 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_110 : BitVec 32 := 0#32
  let c0_i32_111 : BitVec 32 := 0#32
  ![v2.toNat, 0, 0]
def k0_dev4 (d0 : Dev nD) : Nat :=
  let c0_i32_109 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_105 : BitVec 32 := 1#32
  let v112 : BitVec 32 := Scalar.addi v2 c1_i32_105
  let c4_i32_106 : BitVec 32 := 4#32
  let v113 : BitVec 32 := Scalar.remsi v112 c4_i32_106
  let c1_i32_108 : BitVec 32 := 1#32
  let v114 : BitVec 32 := Scalar.muli v113 c1_i32_108
  let v115 : BitVec 32 := Scalar.addi c0_i32_109 v114
  v115.toNat
def k0_dev5 (d0 : Dev nD) : Nat :=
  let c0_i32_118 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_114 : BitVec 32 := 2#32
  let v122 : BitVec 32 := Scalar.addi v2 c2_i32_114
  let c4_i32_115 : BitVec 32 := 4#32
  let v123 : BitVec 32 := Scalar.remsi v122 c4_i32_115
  let c1_i32_117 : BitVec 32 := 1#32
  let v124 : BitVec 32 := Scalar.muli v123 c1_i32_117
  let v125 : BitVec 32 := Scalar.addi c0_i32_118 v124
  v125.toNat
def k0_dev6 (d0 : Dev nD) : Nat :=
  let c0_i32_127 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_123 : BitVec 32 := 3#32
  let v132 : BitVec 32 := Scalar.addi v2 c3_i32_123
  let c4_i32_124 : BitVec 32 := 4#32
  let v133 : BitVec 32 := Scalar.remsi v132 c4_i32_124
  let c1_i32_126 : BitVec 32 := 1#32
  let v134 : BitVec 32 := Scalar.muli v133 c1_i32_126
  let v135 : BitVec 32 := Scalar.addi c0_i32_127 v134
  v135.toNat
def k0_off4 (d0 : Dev nD) (c0_i32_136 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_135 : BitVec 32 := 4#32
  let v144 : BitVec 32 := Scalar.muli v2 c4_i32_135
  let v145 : BitVec 32 := Scalar.addi v144 c0_i32_136
  let v146 : Index := Scalar.indexCast v145
  let c0_137 : Index := 0#32
  let c0_138 : Index := 0#32
  ![v146.toNat, 0, 0]
def k0_off5 (d0 : Dev nD) (c0_i32_18 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v21 : BitVec 32 := Scalar.subi v2 c0_i32_18
  let c4_i32_19 : BitVec 32 := 4#32
  let v22 : BitVec 32 := Scalar.addi v21 c4_i32_19
  let c4_i32_20 : BitVec 32 := 4#32
  let v23 : BitVec 32 := Scalar.remsi v22 c4_i32_20
  let c4_i32_23 : BitVec 32 := 4#32
  let v26 : BitVec 32 := Scalar.muli v23 c4_i32_23
  let c0_i32_24 : BitVec 32 := 0#32
  let v27 : BitVec 32 := Scalar.addi v26 c0_i32_24
  let c0_i32_143 : BitVec 32 := 0#32
  let c0_i32_144 : BitVec 32 := 0#32
  ![v27.toNat, 0, 0]
def k0_dev7 (d0 : Dev nD) : Nat :=
  let c0_i32_142 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_141 : BitVec 32 := 1#32
  let v150 : BitVec 32 := Scalar.muli v7 c1_i32_141
  let v151 : BitVec 32 := Scalar.addi c0_i32_142 v150
  v151.toNat
def k0_off6 (d0 : Dev nD) (c0_i32_63 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v66 : BitVec 32 := Scalar.addi v2 c0_i32_63
  let c4_i32_64 : BitVec 32 := 4#32
  let v67 : BitVec 32 := Scalar.remsi v66 c4_i32_64
  let c4_i32_67 : BitVec 32 := 4#32
  let v70 : BitVec 32 := Scalar.muli v67 c4_i32_67
  let c2_i32_68 : BitVec 32 := 2#32
  let v71 : BitVec 32 := Scalar.addi v70 c2_i32_68
  let c0_i32_157 : BitVec 32 := 0#32
  let c0_i32_158 : BitVec 32 := 0#32
  ![v71.toNat, 0, 0]
def k0_dev8 (d0 : Dev nD) : Nat :=
  let c0_i32_156 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_155 : BitVec 32 := 1#32
  let v166 : BitVec 32 := Scalar.muli v5 c1_i32_155
  let v167 : BitVec 32 := Scalar.addi c0_i32_156 v166
  v167.toNat
def k0_off7 (d0 : Dev nD) (c1_i32_161 : BitVec 32) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v174 : BitVec 32 := Scalar.addi v2 c1_i32_161
  let c4_i32_162 : BitVec 32 := 4#32
  let v175 : BitVec 32 := Scalar.remsi v174 c4_i32_162
  ![v175.toNat]
def k0_off8 (d0 : Dev nD) (c1_i32_161 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v174 : BitVec 32 := Scalar.addi v2 c1_i32_161
  let c4_i32_162 : BitVec 32 := 4#32
  let v175 : BitVec 32 := Scalar.remsi v174 c4_i32_162
  let c0_i32_166 : BitVec 32 := 0#32
  let c0_i32_167 : BitVec 32 := 0#32
  ![v175.toNat, 0, 0]
def k0_off9 (d0 : Dev nD) (c0_i32_221 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_220 : BitVec 32 := 4#32
  let v282 : BitVec 32 := Scalar.muli v2 c4_i32_220
  let v283 : BitVec 32 := Scalar.addi v282 c0_i32_221
  let v290 : Index := Scalar.indexCast v283
  let c0_222 : Index := 0#32
  let c0_223 : Index := 0#32
  ![v290.toNat, 0, 0]
def k0_off10 (d0 : Dev nD) (c0_i32_25 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v28 : BitVec 32 := Scalar.subi v2 c0_i32_25
  let c1_i32_26 : BitVec 32 := 1#32
  let v29 : BitVec 32 := Scalar.subi v28 c1_i32_26
  let c4_i32_27 : BitVec 32 := 4#32
  let v30 : BitVec 32 := Scalar.addi v29 c4_i32_27
  let c4_i32_28 : BitVec 32 := 4#32
  let v31 : BitVec 32 := Scalar.remsi v30 c4_i32_28
  let c4_i32_31 : BitVec 32 := 4#32
  let v34 : BitVec 32 := Scalar.muli v31 c4_i32_31
  let c0_i32_32 : BitVec 32 := 0#32
  let v35 : BitVec 32 := Scalar.addi v34 c0_i32_32
  let c0_i32_266 : BitVec 32 := 0#32
  let c0_i32_267 : BitVec 32 := 0#32
  ![v35.toNat, 0, 0]
def k0_off11 (d0 : Dev nD) (c0_i32_69 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v72 : BitVec 32 := Scalar.addi v2 c0_i32_69
  let c1_i32_70 : BitVec 32 := 1#32
  let v73 : BitVec 32 := Scalar.addi v72 c1_i32_70
  let c4_i32_71 : BitVec 32 := 4#32
  let v74 : BitVec 32 := Scalar.remsi v73 c4_i32_71
  let c4_i32_74 : BitVec 32 := 4#32
  let v77 : BitVec 32 := Scalar.muli v74 c4_i32_74
  let c2_i32_75 : BitVec 32 := 2#32
  let v78 : BitVec 32 := Scalar.addi v77 c2_i32_75
  let c0_i32_274 : BitVec 32 := 0#32
  let c0_i32_275 : BitVec 32 := 0#32
  ![v78.toNat, 0, 0]
def k0_dev9 (d0 : Dev nD) : Nat :=
  let c0_i32_281 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_280 : BitVec 32 := 1#32
  let v367 : BitVec 32 := Scalar.muli v7 c1_i32_280
  let v368 : BitVec 32 := Scalar.addi c0_i32_281 v367
  v368.toNat
def k0_dev10 (d0 : Dev nD) : Nat :=
  let c0_i32_289 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_288 : BitVec 32 := 1#32
  let v375 : BitVec 32 := Scalar.muli v5 c1_i32_288
  let v376 : BitVec 32 := Scalar.addi c0_i32_289 v375
  v376.toNat
def k0_off12 (d0 : Dev nD) (c0_i32_294 : BitVec 32) (c0_i32_302 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v383 : BitVec 32 := Scalar.subi v2 c0_i32_294
  let c1_i32_295 : BitVec 32 := 1#32
  let v384 : BitVec 32 := Scalar.subi v383 c1_i32_295
  let c4_i32_296 : BitVec 32 := 4#32
  let v385 : BitVec 32 := Scalar.addi v384 c4_i32_296
  let c4_i32_297 : BitVec 32 := 4#32
  let v386 : BitVec 32 := Scalar.remsi v385 c4_i32_297
  let c4_i32_301 : BitVec 32 := 4#32
  let v390 : BitVec 32 := Scalar.muli v386 c4_i32_301
  let v391 : BitVec 32 := Scalar.addi v390 c0_i32_302
  let v398 : Index := Scalar.indexCast v391
  let c0_303 : Index := 0#32
  let c0_304 : Index := 0#32
  ![v398.toNat, 0, 0]
def k0_off13 (d0 : Dev nD) (c0_i32_298 : BitVec 32) (c0_i32_325 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v387 : BitVec 32 := Scalar.addi v2 c0_i32_298
  let c1_i32_299 : BitVec 32 := 1#32
  let v388 : BitVec 32 := Scalar.addi v387 c1_i32_299
  let c4_i32_300 : BitVec 32 := 4#32
  let v389 : BitVec 32 := Scalar.remsi v388 c4_i32_300
  let c4_i32_323 : BitVec 32 := 4#32
  let v428 : BitVec 32 := Scalar.muli v389 c4_i32_323
  let c2_i32_324 : BitVec 32 := 2#32
  let v429 : BitVec 32 := Scalar.addi v428 c2_i32_324
  let v430 : BitVec 32 := Scalar.addi v429 c0_i32_325
  let v437 : Index := Scalar.indexCast v430
  let c0_326 : Index := 0#32
  let c0_327 : Index := 0#32
  ![v437.toNat, 0, 0]
def k0_dev11 (d0 : Dev nD) : Nat :=
  let c0_i32_366 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_365 : BitVec 32 := 1#32
  let v480 : BitVec 32 := Scalar.muli v7 c1_i32_365
  let v481 : BitVec 32 := Scalar.addi c0_i32_366 v480
  v481.toNat
def k0_dev12 (d0 : Dev nD) : Nat :=
  let c0_i32_374 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_373 : BitVec 32 := 1#32
  let v488 : BitVec 32 := Scalar.muli v5 c1_i32_373
  let v489 : BitVec 32 := Scalar.addi c0_i32_374 v488
  v489.toNat
abbrev stage0_0 : Fin 1 → Memref sig .tc .vmem S1024x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4096x512 : Shape := ⟨2, ![4096, 512]⟩
abbrev S512x16 : Shape := ⟨2, ![512, 16]⟩
abbrev S4096x1 : Shape := ⟨2, ![4096, 1]⟩
abbrev S16x512x1024 : Shape := ⟨3, ![16, 512, 1024]⟩
abbrev S16 : Shape := ⟨1, ![16]⟩
abbrev S1x16 : Shape := ⟨2, ![1, 16]⟩
abbrev S4096x16 : Shape := ⟨2, ![4096, 16]⟩
abbrev S_ : Shape := ⟨0, ![]⟩
abbrev S4096x16x1024 : Shape := ⟨3, ![4096, 16, 1024]⟩
abbrev S4096x16x1 : Shape := ⟨3, ![4096, 16, 1]⟩
abbrev S4096x1024 : Shape := ⟨2, ![4096, 1024]⟩

abbrev nBuf : Space → Nat
  | .hbm => 29
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S512x16, .bf16⟩
  | .hbm, ⟨2, _⟩ => ⟨S4096x1, .i32⟩
  | .hbm, ⟨3, _⟩ => ⟨S16x512x1024, .bf16⟩
  | .hbm, ⟨4, _⟩ => ⟨S16, .i32⟩
  | .hbm, ⟨5, _⟩ => ⟨S1x16, .i32⟩
  | .hbm, ⟨6, _⟩ => ⟨S4096x16, .i32⟩
  | .hbm, ⟨7, _⟩ => ⟨S4096x16, .i32⟩
  | .hbm, ⟨8, _⟩ => ⟨S4096x16, .i1⟩
  | .hbm, ⟨9, _⟩ => ⟨S4096x16, .i32⟩
  | .hbm, ⟨10, _⟩ => ⟨S_, .i32⟩
  | .hbm, ⟨11, _⟩ => ⟨S_, .i32⟩
  | .hbm, ⟨12, _⟩ => ⟨S4096x16, .i32⟩
  | .hbm, ⟨13, _⟩ => ⟨S4096x16, .i32⟩
  | .hbm, ⟨14, _⟩ => ⟨S_, .i32⟩
  | .hbm, ⟨15, _⟩ => ⟨S4096x16, .i32⟩
  | .hbm, ⟨16, _⟩ => ⟨S4096x16, .i1⟩
  | .hbm, ⟨17, _⟩ => ⟨S4096x16, .i1⟩
  | .hbm, ⟨18, _⟩ => ⟨S4096x512, .f32⟩
  | .hbm, ⟨19, _⟩ => ⟨S16x512x1024, .f32⟩
  | .hbm, ⟨20, _⟩ => ⟨S4096x16x1024, .f32⟩
  | .hbm, ⟨21, _⟩ => ⟨S4096x16x1, .i1⟩
  | .hbm, ⟨22, _⟩ => ⟨S_, .f32⟩
  | .hbm, ⟨23, _⟩ => ⟨S_, .f32⟩
  | .hbm, ⟨24, _⟩ => ⟨S4096x16x1024, .i1⟩
  | .hbm, ⟨25, _⟩ => ⟨S4096x16x1024, .f32⟩
  | .hbm, ⟨26, _⟩ => ⟨S4096x16x1024, .f32⟩
  | .hbm, ⟨27, _⟩ => ⟨S_, .f32⟩
  | .hbm, ⟨28, _⟩ => ⟨S4096x1024, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_call0_c : Ref sig .tc := ⟨.hbm, 10, rfl⟩
abbrev main_call0_call0_v0 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v15 : Ref sig .tc := ⟨.hbm, 26, rfl⟩
abbrev main_cst_0 : Ref sig .tc := ⟨.hbm, 27, rfl⟩
abbrev main_v16 : Ref sig .tc := ⟨.hbm, 28, rfl⟩

abbrev nD : Nat := 1
abbrev τ : Topo := Topo.v7x

variable {F : FTy → Type} [FloatOps F]
-- ==== Proof.Proto.lean ====
/-
The protocol of the expert-gathering kernel, written down before its run is proved: the four devices, the twenty
semaphore cells each of them owns, what each cell's round hands over, in which order every device pays what it owes,
and the levels that rule out a circular wait.

Each device runs the same program. It signals the three others on the runtime's barrier semaphore and waits for three
units; it copies its routes to the three others; and it passes expert weights around the ring in both directions, the
first two experts of each device to the right and the last two to the left, three hops each way.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline library's copy and the kernel's own rounds (duties `Fin 4`) -/

abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Devices -/

/-- The device `n` places further round the ring. -/
def sh (c : Dev nD) (n : ℕ) : Dev nD := ⟨(c.val + n) % 4, Nat.mod_lt _ (by decide)⟩

/-! ## The cells -/

/-- The runtime's barrier semaphore. -/
abbrev barS : Sem sig := (SemArray.scalar (sig.barrier 0 rfl) : Sems sig S_).sem

/-- The DMA semaphore of cell `k`: cells 1–3 the sends to the right, 4–6 the arrivals from the left, 7–9 the sends to
    the left, 10–12 the arrivals from the right, 13–15 the route sends, 16–19 the route arrivals by their sender. -/
def qsem (k : Fin 20) : DmaSem sig := (⟨k.val + 3, by have := k.isLt; omega⟩ : Fin 23)

/-- Cell `k` of a device: the barrier at 0, a DMA semaphore otherwise. -/
def csem (k : Fin 20) : SemLoc sig := if k.val = 0 then .reg barS else .dma (qsem k)

abbrev kcell (ck : Dev nD × Fin 20) : GSem nD τ sig := ((ck.1 : Thread nD τ), csem ck.2)

/-- The number of the cell on a semaphore, 99 for the staging semaphores. -/
def kOf : SemLoc sig → ℕ
  | .reg _ => 0
  | .dma q => if 4 ≤ q.val then q.val - 3 else 99

theorem kOf_csem (k : Fin 20) : kOf (csem k) = k.val := by revert k; decide

theorem csem_injective : Function.Injective csem := fun a b h => by
  have := congrArg kOf h; rw [kOf_csem, kOf_csem] at this; exact Fin.ext this

theorem kcell_injective : Function.Injective (kcell : Dev nD × Fin 20 → GSem nD τ sig) := by
  rintro ⟨c, k⟩ ⟨c', k'⟩ h
  have h1 : c = c' := by have := congrArg (fun g : GSem nD τ sig => g.1.1) h; exact this
  have h2 : k = k' := csem_injective (congrArg Prod.snd h)
  rw [h1, h2]

/-! ## The contents every device's buffers come to hold -/

/-- The token block device `c` fetched. -/
def xstg (c : Dev nD) : (cc0_stg0_0 : Ref sig .tc).ty.Contents (Elt F) :=
  (win0_0.blk (0 : Fin 1)).view.read (Elt F) (m ((c : Thread nD τ).loc main_arg0))
/-- The route block device `c` fetched. -/
def rstg (c : Dev nD) : (cc0_stg1_0 : Ref sig .tc).ty.Contents (Elt F) :=
  (win0_1.blk (0 : Fin 1)).view.read (Elt F) (m ((c : Thread nD τ).loc main_arg2))
/-- The expert block device `c` fetched. -/
def wstg (c : Dev nD) : (cc0_stg2_0 : Ref sig .tc).ty.Contents (Elt F) :=
  (win0_2.blk (0 : Fin 1)).view.read (Elt F) (m ((c : Thread nD τ).loc main_arg3))

/-- Expert `e`'s place in its device's block of four. -/
def wIdx (i : S16x512x1024.Idx) : S4x512x1024.Idx := fun a : Fin 3 =>
  ⟨![(i 0).val % 4, (i 1).val, (i 2).val] a, by
    have h1 := (i 1).isLt; have h2 := (i 2).isLt
    fin_cases a
    · exact Nat.mod_lt _ (by decide)
    · exact h1
    · exact h2⟩
/-- A token's place in its device's route block. -/
def rIdx (i : S4x1024x1.Idx) : S1024x1.Idx := fun a : Fin 2 =>
  ⟨![(i 1).val, (i 2).val] a, by
    have h1 := (i 1).isLt; have h2 := (i 2).isLt
    fin_cases a
    · exact h1
    · exact h2⟩

/-- All sixteen experts: what every device's gathered buffer holds in the end. -/
def WG : (cc0_scratch0 : Ref sig .tc).ty.Contents (Elt F) := fun i : S16x512x1024.Idx =>
  wstg m ⟨(i 0).val / 4, by have : (i 0).val < 16 := (i 0).isLt; show _ < 4; omega⟩ (wIdx i)
/-- All four devices' routes. -/
def RG : (cc0_scratch1 : Ref sig .tc).ty.Contents (Elt F) := fun i : S4x1024x1.Idx =>
  rstg m ⟨(i 0).val, (i 0).isLt⟩ (rIdx i)

/-! ## The pieces of the gathered buffers -/

/-- Piece `t` of the experts: experts `2t` and `2t+1`. -/
def Wset (t : Fin 8) : Finset S16x512x1024.Idx := Finset.univ.filter fun i => 2 * t.val ≤ (i 0).val ∧ (i 0).val < 2 * t.val + 2
/-- Piece `o` of the routes: device `o`'s. -/
def Rset (o : Dev nD) : Finset S4x1024x1.Idx := Finset.univ.filter fun i => (i 0).val = o.val

/-- The first and the second pair of experts of device `o`. -/
def lo (o : Dev nD) : Fin 8 := ⟨2 * o.val, by have : o.val < 4 := o.isLt; omega⟩
def hi (o : Dev nD) : Fin 8 := ⟨2 * o.val + 1, by have : o.val < 4 := o.isLt; omega⟩

/-- Piece `t` of the experts on device `c`, gathered; -/
def slot (c : Dev nD) (t : Fin 8) (q : PosShare TreeShare) : sProp 𝕄 :=
  (((c : Thread nD τ).loc cc0_scratch0) ↦[Wset t]{q} WG m)
/-- the same at any contents; -/
def slotE (c : Dev nD) (t : Fin 8) : sProp 𝕄 :=
  iprop(∃ f : Buf (Elt F) ((c : Thread nD τ).loc cc0_scratch0), (((c : Thread nD τ).loc cc0_scratch0) ↦[Wset t]{fullShare} f))
/-- piece `o` of the routes on device `c`, gathered; -/
def row (c : Dev nD) (o : Dev nD) (q : PosShare TreeShare) : sProp 𝕄 :=
  (((c : Thread nD τ).loc cc0_scratch1) ↦[Rset o]{q} RG m)
/-- the same at any contents. -/
def rowE (c : Dev nD) (o : Dev nD) : sProp 𝕄 :=
  iprop(∃ f : Buf (Elt F) ((c : Thread nD τ).loc cc0_scratch1), (((c : Thread nD τ).loc cc0_scratch1) ↦[Rset o]{fullShare} f))

instance slot_storable (c : Dev nD) (t) (q) : BI.Storable (upEmb : UEmb _ 𝕄) (slot m c t q) := by unfold slot; infer_instance
omit [FloatOps F] in
instance slotE_storable (c : Dev nD) (t) : BI.Storable (upEmb : UEmb _ 𝕄) (slotE (F := F) c t) := by unfold slotE; infer_instance
instance row_storable (c : Dev nD) (o) (q) : BI.Storable (upEmb : UEmb _ 𝕄) (row m c o q) := by unfold row; infer_instance
omit [FloatOps F] in
instance rowE_storable (c : Dev nD) (o) : BI.Storable (upEmb : UEmb _ 𝕄) (rowE (F := F) c o) := by unfold rowE; infer_instance

/-- The shares of its own route piece a device lends to its three route sends; the fourth it keeps. -/
def rq (j : ℕ) : PosShare TreeShare :=
  match j with
  | 0 => fullShare.left.left
  | 1 => fullShare.left.right
  | 2 => fullShare.right.left
  | _ => fullShare.right.right

/-! ## The schedule -/

/-- What the device `d` places before `c` hands over with its barrier signal: its room for `c`'s routes, and its room
    for the experts `c` will send it if it is a neighbour. -/
def barPay (c : Dev nD) (d : ℕ) : sProp 𝕄 :=
  match d with
  | 1 => iprop(rowE (sh c 3) c ∗ slotE (sh c 3) (hi (sh c 0)) ∗ slotE (sh c 3) (hi (sh c 1)) ∗ slotE (sh c 3) (hi (sh c 2)))
  | 2 => rowE (sh c 2) c
  | 3 => iprop(rowE (sh c 1) c ∗ slotE (sh c 1) (lo (sh c 4)) ∗ slotE (sh c 1) (lo (sh c 3)) ∗ slotE (sh c 1) (lo (sh c 2)))
  | _ => iprop(emp)

/-- What the round of cell `n` of device `c` hands over. -/
def payN (c : Dev nD) (n : ℕ) (d : ℕ) : sProp 𝕄 :=
  if n = 0 then barPay c d
  else if n ≤ 3 then slot m c (lo (sh c (5 - n))) fullShare.left
  else if n ≤ 6 then slot m c (lo (sh c (7 - n))) fullShare
  else if n ≤ 9 then slot m c (hi (sh c (n - 7))) fullShare.left
  else if n ≤ 12 then slot m c (hi (sh c (n - 9))) fullShare
  else if n ≤ 15 then row m c c (rq (n - 13))
  else if h : n < 20 then row m c ⟨n - 16, by show _ < 4; omega⟩ fullShare
  else iprop(emp)

/-- The duties of cell `n` of device `c`: three at the barrier, one on each DMA cell; none on the arrival cell of its
    own routes, which it never sends itself. -/
def dutyN (c : Dev nD) (n : ℕ) : Finset (Fin 4) :=
  if n = 0 then {1, 2, 3} else if n < 20 ∧ n ≠ 16 + c.val then {0} else ∅

/-- The credit of one piece of experts and of one piece of routes. -/
abbrev wRef : View sig .tc .vmem S2x512x1024 .bf16 :=
  ((Memref.whole cc0_scratch0 : Memref sig .tc .vmem S16x512x1024 .bf16).slice (Rect.unit (s := S16x512x1024) (k0_off5 0 0#32) S2x512x1024.size (k0_off5_inb 0 0)) (fun _ => rfl)).view
abbrev rRef : View sig .tc .vmem S1x1024x1 .i32 :=
  ((Memref.whole cc0_scratch1 : Memref sig .tc .vmem S4x1024x1 .i32).slice (Rect.unit (s := S4x1024x1) (k0_off3 0) S1x1024x1.size (k0_off3_inb 0)) (fun _ => rfl)).view
def NW : ℕ := wRef.dmaCredit
def NR : ℕ := rRef.dmaCredit
theorem NW_pos : 0 < NW := View.dmaCredit_pos _ (by decide)
theorem NR_pos : 0 < NR := View.dmaCredit_pos _ (by decide)

/-- What one duty of cell `n` pays. -/
def amtN (n : ℕ) : ℕ := if n = 0 then 1 else if n ≤ 12 then NW else NR
theorem amtN_pos (n : ℕ) : 0 < amtN n := by
  unfold amtN; split
  · exact Nat.one_pos
  · split
    · exact NW_pos
    · exact NR_pos

/-- Every cell has one round. -/
def Rd : Rounds.Schedule (GSem nD τ sig) (Fin 4) 𝕄 where
  duties g r := if r = 0 ∧ g.1.2 = .tc then dutyN g.1.1 (kOf g.2) else ∅
  unitless _ := False
  amount g _ _ := amtN (kOf g.2)
  payload g _ d := payN m g.1.1 (kOf g.2) d.val
  amount_pos g _ _ _ := amtN_pos _

instance Rd_payload_storable (g : GSem nD τ sig) (r : ℕ) (d : Fin 4) :
    BI.Storable (upEmb : UEmb _ 𝕄) ((Rd m).payload g r d) := by
  show BI.Storable upEmb (payN m g.1.1 (kOf g.2) d.val)
  unfold payN barPay
  (repeat' split) <;> infer_instance

section Sched
variable (c : Dev nD) (k : Fin 20)

theorem duties_k : (Rd m).duties (kcell (c, k)) 0 = dutyN c k.val := by
  dsimp only [Rd]; rw [if_pos ⟨rfl, rfl⟩, kOf_csem]
theorem duties_later (g : GSem nD τ sig) : ∀ r, 1 ≤ r → (Rd m).duties g r = ∅ :=
  fun r hr => by dsimp only [Rd]; rw [if_neg fun h => by omega]
theorem amount_k (d : Fin 4) : (Rd m).amount (kcell (c, k)) 0 d = amtN k.val := by dsimp only [Rd]; rw [kOf_csem]
theorem payload_k (d : Fin 4) : (Rd m).payload (kcell (c, k)) 0 d = payN m c k.val d.val := by dsimp only [Rd]; rw [kOf_csem]

theorem expect_k (hd : dutyN c k.val = {0}) : (Rd m).expect (kcell (c, k)) 0 = amtN k.val := by
  unfold Schedule.expect Schedule.amountOf
  rw [duties_k, hd, Finset.sum_singleton, amount_k]
theorem expect_bar : (Rd m).expect (kcell (c, 0)) 0 = 3 := by
  unfold Schedule.expect Schedule.amountOf
  rw [duties_k, Finset.sum_congr rfl fun d _ => amount_k m c 0 d]
  rfl
theorem rest_k (hd : dutyN c k.val = {0}) :
    bigSep ((Rd m).duties (kcell (c, k)) 0 \ ∅) (fun d => (Rd m).payload (kcell (c, k)) 0 d) = payN m c k.val 0 := by
  rw [Finset.sdiff_empty, duties_k, hd, bigSep_singleton, payload_k]; rfl
theorem rest_bar :
    bigSep ((Rd m).duties (kcell (c, 0)) 0 \ ∅) (fun d => (Rd m).payload (kcell (c, 0)) 0 d)
      = iprop(barPay c 1 ∗ barPay c 2 ∗ barPay c 3) := by
  rw [Finset.sdiff_empty, duties_k, show dutyN c (0 : Fin 20).val = {1, 2, 3} from rfl,
    bigSep_eq_bigSepL_of_eq [1, 2, 3] (by decide) (by decide)]
  rfl

end Sched

/-! ## What each device owes at launch, in the order it pays -/

/-- The arrival cell of device `o`'s routes. -/
def rk (o : Dev nD) : Fin 20 := ⟨16 + o.val, by have : o.val < 4 := o.isLt; omega⟩

/-- The payments of device `c` in program order. -/
def pays (c : Dev nD) : List (Dev nD × Fin 20) :=
  [(sh c 1, 0), (sh c 2, 0), (sh c 3, 0),
   (sh c 1, rk c), (sh c 2, rk c),
   (sh c 3, rk c),
   (sh c 1, 4), (sh c 3, 10), (sh c 1, 5), (sh c 3, 11), (sh c 1, 6), (sh c 3, 12)]

/-- A list of payments still owed, as tallies; the next payment is the last summand. -/
def owedT : List (Dev nD × Fin 20) → CellTallies nD τ sig Unit
  | [] => 0
  | ck :: l => owedT l + tallyAt (kcell ck) () (amtN ck.2.val)

/-- What device `c` still owes after its first `n` payments. -/
def owedAt (c : Dev nD) (n : ℕ) : CellTallies nD τ sig Unit := owedT ((pays c).drop n)

theorem owedT_apply (l : List (Dev nD × Fin 20)) (ck : Dev nD × Fin 20) :
    owedT l (kcell ck) () = l.count ck * amtN ck.2.val := by
  induction l with
  | nil => simp [owedT]
  | cons a l ih =>
    rw [owedT, Pi.add_apply, Finsupp.add_apply, ih, tallyAt_apply]
    by_cases h : a = ck
    · subst h; rw [if_pos ⟨rfl, rfl⟩, List.count_cons_self, Nat.add_mul, Nat.one_mul]
    · rw [if_neg (fun h' => h (kcell_injective h'.1).symm), List.count_cons_of_ne h]; rfl

theorem owedT_pos {l : List (Dev nD × Fin 20)} {g : GSem nD τ sig} {u : Unit} (h : 0 < owedT l g u) :
    ∃ ck ∈ l, g = kcell ck := by
  induction l with
  | nil => exact absurd h (by simp [owedT])
  | cons a l ih =>
    rw [owedT, Pi.add_apply, Finsupp.add_apply, tallyAt_apply] at h
    by_cases hg : g = kcell a
    · exact ⟨a, List.mem_cons_self, hg⟩
    · rw [if_neg (fun h' => hg h'.1), Nat.add_zero] at h
      obtain ⟨ck, h1, h2⟩ := ih h
      exact ⟨ck, List.mem_cons_of_mem _ h1, h2⟩

/-! ## Levels -/

def L (g : GSem nD τ sig) : Finset Unit := if g.1.2 = .tc then {()} else ∅
/-- The level of cell `n`: the barrier 1, the route arrivals 2, the expert arrivals 3, 4, 5 by hop; all else 0. -/
def lvN (n : ℕ) : ℕ :=
  if n = 0 then 1 else if n ≤ 3 then 0 else if n ≤ 6 then n - 1 else if n ≤ 9 then 0 else if n ≤ 12 then n - 7
  else if n ≤ 15 then 0 else if n ≤ 19 then 2 else 0
def lv (g : GSem nD τ sig) (_ : Unit) : ℕ := lvN (kOf g.2)

theorem L_of_ne (g : GSem nD τ sig) (h : g.1.2 ≠ .tc) : L g = ∅ := if_neg h
theorem L_tc (c : Dev nD) (sm : SemLoc sig) : L ((c : Thread nD τ), sm) = {()} := if_pos rfl

omit [FloatOps F] in
/-- A device may wait on a semaphore whose level is below that of everything it still owes. -/
theorem mayWait_of (c : Dev nD) (sm : SemLoc sig) (l : List (Dev nD × Fin 20))
    (h : ∀ ck ∈ l, lvN (kOf sm) < lvN ck.2.val) :
    (levAts L lv : sProp 𝕄) ⊢ MayWait (c : Thread nD τ) sm () (owedT l) :=
  MayOwe.of_cut (L := L) (lev := lv) (lvN (kOf sm))
    (fun p hp => by rw [Finset.mem_singleton.mp hp, L_tc]; exact Finset.mem_singleton_self _)
    (fun g u hg => by obtain ⟨ck, _, rfl⟩ := owedT_pos hg; rw [L_tc]; exact Finset.mem_singleton_self _)
    (fun p hp => by rw [Finset.mem_singleton.mp hp]; exact le_refl _)
    (fun g u hg => by
      obtain ⟨ck, hck, rfl⟩ := owedT_pos hg
      have := h ck hck
      show lvN (kOf sm) < lvN (kOf (csem ck.2))
      rw [kOf_csem]; exact this)

/-! ## The tokens a device pays with -/

/-- The cell of the `i`-th token device `p` pays with: three barrier signals; three sends and arrivals to the right;
    three sends and arrivals to the left; three route sends; the route arrivals on the devices `p`, `p+1`, `p+2`, `p+3`. -/
def tokCell (pi : Dev nD × Fin 22) : Dev nD × Fin 20 :=
  let p := pi.1
  let n := pi.2.val
  if n < 3 then (sh p (n + 1), 0)
  else if h : n < 6 then (p, ⟨n - 2, by omega⟩)
  else if h : n < 9 then (sh p 1, ⟨n - 2, by omega⟩)
  else if h : n < 12 then (p, ⟨n - 2, by omega⟩)
  else if h : n < 15 then (sh p 3, ⟨n - 2, by omega⟩)
  else if h : n < 18 then (p, ⟨n - 2, by omega⟩)
  else (sh p (n - 18), rk p)
/-- Its duty. -/
def tokDuty (i : Fin 22) : Fin 4 := if i.val = 0 then 1 else if i.val = 1 then 2 else if i.val = 2 then 3 else 0

/-- Different tokens are of different cells or duties. -/
theorem tok_injective : Function.Injective fun pi : Dev nD × Fin 22 => (tokCell pi, tokDuty pi.2) := by
  have h : ∀ a b : Dev nD × Fin 22, (tokCell a, tokDuty a.2) = (tokCell b, tokDuty b.2) → a = b := by decide +kernel
  exact fun a b => h a b

end Cert.KProof

end
-- ==== Proof.Steps.lean ====
/-
One rule per kind of operation the kernel performs, at the kernel's cells and buffers: the barrier signal and wait, the
waits on DMA semaphores, the two kinds of remote copy, and the loads and stores of its buffers. The run of the body
(Proof/Body.lean) is a sequence of applications of these.
-/
module

public import proofs.«01_k».proof.Proof.Proto

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-! ## What the run holds -/

/-- The cells' invariants under the names `K` and that every cell has reached round 0. -/
def records (K : Dev nD × Fin 20 → ℕ) : sProp 𝕄 :=
  iprop((bigSep Finset.univ fun ck : Dev nD × Fin 20 => cellInv ER (Rd m) (K ck) (kcell ck))
    ∗ bigSep Finset.univ fun ck : Dev nD × Fin 20 => reached ER (kcell ck) 0)

instance records_persistent (K : Dev nD × Fin 20 → ℕ) : BI.Persistent (records m K) := by unfold records; infer_instance

/-- Everything persistent the run uses: the records and the levels. -/
def ctx (K : Dev nD × Fin 20 → ℕ) : sProp 𝕄 := iprop(records m K ∗ levAts L lv)

instance ctx_persistent (K : Dev nD × Fin 20 → ℕ) : BI.Persistent (ctx m K) := by unfold ctx; infer_instance

theorem inv_at (K : Dev nD × Fin 20 → ℕ) (ck : Dev nD × Fin 20) :
    (bigSep Finset.univ fun ck : Dev nD × Fin 20 => (cellInv ER (Rd m) (K ck) (kcell ck) : sProp 𝕄)) ⊢ cellInv ER (Rd m) (K ck) (kcell ck) :=
  bigSep_elim (Finset.mem_univ ck)
omit [FloatOps F] in
theorem reached_at (ck : Dev nD × Fin 20) :
    (bigSep Finset.univ fun ck : Dev nD × Fin 20 => (reached ER (kcell ck) 0 : sProp 𝕄)) ⊢ reached ER (kcell ck) 0 :=
  bigSep_elim (Finset.mem_univ ck)

theorem ctx_inv (K : Dev nD × Fin 20 → ℕ) (ck : Dev nD × Fin 20) : ctx m K ⊢ cellInv ER (Rd m) (K ck) (kcell ck) := by
  unfold ctx records
  iintro ⟨⟨H, -⟩, -⟩
  iapply (inv_at m K ck)
  iexact H
theorem ctx_reached (K : Dev nD × Fin 20 → ℕ) (ck : Dev nD × Fin 20) : ctx m K ⊢ reached ER (kcell ck) 0 := by
  unfold ctx records
  iintro ⟨⟨-, H⟩, -⟩
  iapply (reached_at (F := F) ck)
  iexact H
theorem ctx_lev (K : Dev nD × Fin 20 → ℕ) : ctx m K ⊢ levAts L lv := by
  unfold ctx
  iintro ⟨-, H⟩
  iexact H

/-- Device `c` still owes the payments `l`. -/
def ow (c : Dev nD) (l : List (Dev nD × Fin 20)) : sProp 𝕄 := iprop(∃ W, owes (c : Thread nD τ) (owedT l) W)
/-- Device `c` is at the start of the round of its cell `k`; -/
def pos (c : Dev nD) (k : Fin 20) : sProp 𝕄 := atPos ER (kcell (c, k)) 0 ∅ 0
/-- holds the credit of that round; -/
def cr (c : Dev nD) (k : Fin 20) : sProp 𝕄 := cred (tallyAt (kcell (c, k)) () (amtN k.val))
/-- has closed it. -/
def zz (c : Dev nD) (k : Fin 20) : sProp 𝕄 := semVal (kcell (c, k)) 0
/-- The token of one payment of cell `ck`. -/
def tk (ck : Dev nD × Fin 20) (d : Fin 4) : sProp 𝕄 := dutyTok ER (kcell ck) 0 d

/-- A whole buffer of device `c` at contents `f`. -/
def wh (c : Dev nD) (b : Ref sig .tc) (f : Buf (Elt F) ((c : Thread nD τ).loc b)) : sProp 𝕄 := (((c : Thread nD τ).loc b) ↦{fullShare} f)

section Rules

variable (K : Dev nD × Fin 20 → ℕ) (c : Dev nD) {α : Type}

/-! ## Signals and waits -/

/-- A barrier signal to device `n` pays its duty `d` and hands over what that duty carries. -/
theorem wp_sig (n c' : Dev nD) (hn : n = c') (d : Fin 4) (hd : d ∈ dutyN c' 0) (k' : ℕ) (hk : k' = 1) (l : List (Dev nD × Fin 20))
    {k : PUnit → Prog (TpuEff nD τ sig (Elt F) Λ₀ .tc) α} {Q : α → sProp 𝕄} :
    iprop(ctx m K ∗ ow c ((c', 0) :: l) ∗ tk (c', 0) d ∗ barPay c' d.val)
      ⊢ iprop((ow c l -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS k') k) Q) := by
  subst hn; subst hk
  unfold ow tk
  iintro ⟨#Hctx, ⟨%W, HO⟩, Ht, Hp⟩ Hk
  iapply (Rounds.wp_signal 𝒱₀ ER (Rd m) (c : Thread nD τ) none (dst := (n : Thread nD τ)) (κ := K (n, 0)) (r := 0)
      (d := d) (by have := duties_k m n 0; exact this ▸ hd) (amount_k m n 0 d) () (owedT l) rfl) $$ [HO Ht Hp]
  · isplitr; · iapply (ctx_inv m K (n, 0)); iexact Hctx
    isplitl [HO]; · iexact HO
    isplitl [Ht]; · iexact Ht
    isplitl [Hp]
    · rw [show (Rd m).payload ((n : Thread nD τ), .reg barS) 0 d = barPay n d.val from payload_k m n 0 d]; iexact Hp
    iapply (ctx_reached m K (n, 0)); iexact Hctx
  iintro HO
  iapply Hk
  iexists W; iexact HO

/-- The barrier wait takes the three units, hands over what the three others gave, and closes the cell. -/
theorem wp_barwait (k' : ℕ) (hk : k' = 3) (l : List (Dev nD × Fin 20)) (hl : ∀ ck ∈ l, 1 < lvN ck.2.val)
    {k : PUnit → Prog (TpuEff nD τ sig (Elt F) Λ₀ .tc) α} {Q : α → sProp 𝕄} :
    iprop(ctx m K ∗ cred (tallyAt (kcell (c, 0)) () 3) ∗ ow c l ∗ pos c 0)
      ⊢ iprop(((ow c l ∗ zz c 0 ∗ barPay c 1 ∗ barPay c 2 ∗ barPay c 3)
              -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS k') k) Q) := by
  subst hk
  unfold ow pos zz
  iintro ⟨#Hctx, Hc, ⟨%W, HO⟩, Ha⟩ Hk
  iapply (Rounds.wp_wait_rest_token 𝒱₀ ER (Rd m) (c : Thread nD τ) none (κ := K (c, 0)) (sm := .reg barS)
      (wpE_semWait_eq 𝒱₀ (c : Thread nD τ) none Set.univ) (Set.mem_univ _) () (O := owedT l) (W := W) (R := 0) (m := 0) (T := ∅)
      (by rw [Nat.zero_add]; exact (expect_bar m c).symm)) $$ [Hc HO Ha]
  · isplitr; · iapply (ctx_inv m K (c, 0)); iexact Hctx
    isplitl [Hc]; · iexact Hc
    isplitl [HO]; · iexact HO
    isplitr
    · iapply (mayWait_of c (.reg barS) l hl); iapply (ctx_lev m K); iexact Hctx
    iexact Ha
  iintro ⟨HO, Ha, -, Hp⟩
  ihave Hp' := (Entails.of_eq (show bigSep ((Rd m).duties ((c : Thread nD τ), .reg barS) 0 \ ∅)
    (fun d => (Rd m).payload ((c : Thread nD τ), .reg barS) 0 d) = _ from rest_bar m c)) $$ Hp
  imod (Rounds.cell_close ER (Rd m) (Set.mem_univ (K (c, 0))) (fun h => h) (R := 0 + 1) (duties_later m (kcell (c, 0)))) $$ [Ha] with Hz
  · isplitr; · iapply (ctx_inv m K (c, 0)); iexact Hctx
    iexact Ha
  iapply Hk
  isplitl [HO]; · iexists _; iexact HO
  isplitl [Hz]; · iexact Hz
  iexact Hp'

/-- A wait on one of the device's own DMA cells takes the round's credit, hands over its payload, and closes the cell. -/
theorem wp_dwait (k : Fin 20) (hd : dutyN c k.val = {0}) (sm : DmaSem sig) (hsm : SemLoc.dma sm = csem k)
    (l : List (Dev nD × Fin 20)) (hl : ∀ ck ∈ l, lvN k.val < lvN ck.2.val)
    {sp sp' : Space} {s s' : Shape} {e e' : EltTy}
    {src : Memref sig .tc sp' s' e'} {dst : Memref sig .tc sp s e} {hsrc : src.view.WordExact} {hdst : dst.view.WordExact}
    (hc : dst.view.dmaCredit = amtN k.val)
    {kk : PUnit → Prog (TpuEff nD τ sig (Elt F) Λ₀ .tc) α} {Q : α → sProp 𝕄} :
    iprop(ctx m K ∗ cr c k ∗ ow c l ∗ pos c k)
      ⊢ iprop(((ow c l ∗ zz c k ∗ payN m c k.val 0)
              -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 sm src dst hsrc hdst) kk) Q) := by
  unfold ow pos zz cr
  rw [← hc]
  have hcell : kcell (c, k) = ((c : Thread nD τ), .dma sm) := by unfold kcell; rw [← hsm]
  iintro ⟨#Hctx, Hc, ⟨%W, HO⟩, Ha⟩ Hk
  ihave #Hinv := (ctx_inv m K (c, k)) $$ Hctx
  rw [hcell]
  iapply (Rounds.wp_wait_rest_token 𝒱₀ ER (Rd m) (c : Thread nD τ) none (κ := K (c, k)) (sm := .dma sm)
      (wpE_waitDma2_eq 𝒱₀ (c : Thread nD τ) none Set.univ) (Set.mem_univ _) () (O := owedT l) (W := W) (R := 0) (m := 0) (T := ∅)
      (by rw [Nat.zero_add, hc, ← hcell]; exact (expect_k m c k hd).symm)) $$ [Hc HO Ha]
  · isplitr; · iexact Hinv
    isplitl [Hc]; · iexact Hc
    isplitl [HO]; · iexact HO
    isplitr
    · iapply (mayWait_of c (.dma sm) l (by rw [hsm, kOf_csem]; exact hl)); iapply (ctx_lev m K); iexact Hctx
    iexact Ha
  iintro ⟨HO, Ha, -, Hp⟩
  rw [← hcell]
  ihave Hp' := (Entails.of_eq (rest_k m c k hd)) $$ Hp
  imod (Rounds.cell_close ER (Rd m) (Set.mem_univ (K (c, k))) (fun h => h) (R := 0 + 1) (duties_later m (kcell (c, k)))) $$ [Ha] with Hz
  · isplitr; · iapply (ctx_inv m K (c, k)); iexact Hctx
    iexact Ha
  iapply Hk
  isplitl [HO]; · iexists _; iexact HO
  isplitl [Hz]; · iexact Hz
  iexact Hp'

/-! ## The pieces as the views' element sets -/

abbrev WA : Memref sig .tc .vmem S16x512x1024 .bf16 := Memref.whole cc0_scratch0
abbrev RA' : Memref sig .tc .vmem S4x1024x1 .i32 := Memref.whole cc0_scratch1
abbrev XB : Memref sig .tc .vmem S1024x512 .bf16 := Memref.whole cc0_scratch2

/-- A pair of experts at offset `2t` is piece `t`; -/
theorem wrect_set (off : Fin 3 → ℕ) (inb : ∀ a, off a + S2x512x1024.size a ≤ S16x512x1024.size a) (t : Fin 8) (h : off = ![2 * t.val, 0, 0]) :
    (Rect.unit (s := S16x512x1024) off S2x512x1024.size inb).set = Wset t := by
  subst h
  ext i
  rw [Rect.mem_set_unit]
  unfold Wset
  rw [Finset.mem_filter]
  have h1 : (i 1).val < 512 := (i 1).isLt
  have h2 : (i 2).val < 1024 := (i 2).isLt
  constructor
  · intro h; exact ⟨Finset.mem_univ _, (h 0).1, (h 0).2⟩
  · rintro ⟨-, h3, h4⟩ a
    fin_cases a
    · exact ⟨h3, h4⟩
    · exact ⟨Nat.zero_le _, by show (i 1).val < 0 + 512; omega⟩
    · exact ⟨Nat.zero_le _, by show (i 2).val < 0 + 1024; omega⟩

/-- one expert at offset `2t` or `2t+1` lies in piece `t`; -/
theorem erect_sub (off : Fin 3 → ℕ) (inb : ∀ a, off a + S1x512x1024.size a ≤ S16x512x1024.size a) (t : Fin 8) (j : ℕ) (hj : j < 2)
    (h : off = ![2 * t.val + j, 0, 0]) :
    (Rect.unit (s := S16x512x1024) off S1x512x1024.size inb).set ⊆ Wset t := by
  subst h
  intro i hi
  rw [Rect.mem_set_unit] at hi
  unfold Wset
  rw [Finset.mem_filter]
  have h0 : 2 * t.val + j ≤ (i 0).val ∧ (i 0).val < 2 * t.val + j + 1 := hi 0
  exact ⟨Finset.mem_univ _, by omega, by omega⟩

/-- one row of routes at offset `o` is piece `o`. -/
theorem rrect_set (off : Fin 3 → ℕ) (inb : ∀ a, off a + S1x1024x1.size a ≤ S4x1024x1.size a) (o : Dev nD) (h : off = ![o.val, 0, 0]) :
    (Rect.unit (s := S4x1024x1) off S1x1024x1.size inb).set = Rset o := by
  subst h
  ext i
  rw [Rect.mem_set_unit]
  unfold Rset
  rw [Finset.mem_filter]
  have h1 : (i 1).val < 1024 := (i 1).isLt
  have h2 : (i 2).val < 1 := (i 2).isLt
  constructor
  · intro h
    have h0 : o.val ≤ (i 0).val ∧ (i 0).val < o.val + 1 := h 0
    exact ⟨Finset.mem_univ _, by omega⟩
  · rintro ⟨-, h3⟩ a
    fin_cases a
    · exact ⟨by show o.val ≤ (i 0).val; omega, by show (i 0).val < o.val + 1; omega⟩
    · exact ⟨Nat.zero_le _, by show (i 1).val < 0 + 1024; omega⟩
    · exact ⟨Nat.zero_le _, by show (i 2).val < 0 + 1; omega⟩

/-- Writing what the gathered contents hold leaves the gathered contents on the written elements. -/
theorem pts_write_read {ℓ : Loc nD τ sig} {sp : Space} {s : Shape} {e : EltTy} (v : View sig .tc sp s e) (d : Dev nD)
    (f g : v.ty.Contents (Elt F)) (q : PosShare TreeShare) :
    (v.loc (d : Thread nD τ) ↦[v.set]{q} v.write (Elt F) f (v.read (Elt F) g) Finset.univ : sProp 𝕄)
      = (v.loc (d : Thread nD τ) ↦[v.set]{q} g) := by
  refine pointsTo_congr fun i hi => ?_
  rw [View.write_read_eq_piecewise]
  exact Finset.piecewise_eq_of_mem _ _ _ hi

/-! ## Remote copies -/

/-- A view's credit depends on its buffer, shape and element type only. -/
theorem credit_congr {sp : Space} {s : Shape} {e : EltTy} (v w : View sig .tc sp s e) (h : v.ref = w.ref) : v.dmaCredit = w.dmaCredit :=
  (View.dmaCredit_ref v).symm.trans
    ((congrArg (fun b : Ref sig .tc => b.dmaCredit s e) h).trans (View.dmaCredit_ref w))
theorem wview_ref (off : Fin 3 → ℕ) (inb : ∀ a, off a + S2x512x1024.size a ≤ S16x512x1024.size a) :
    (WA.slice (Rect.unit (s := S16x512x1024) off S2x512x1024.size inb) (fun _ => rfl)).view.ref = cc0_scratch0 := rfl
theorem rview_ref (off : Fin 3 → ℕ) (inb : ∀ a, off a + S1x1024x1.size a ≤ S4x1024x1.size a) :
    (RA'.slice (Rect.unit (s := S4x1024x1) off S1x1024x1.size inb) (fun _ => rfl)).view.ref = cc0_scratch1 := rfl
theorem NW_eq : wRef.dmaCredit = NW := rfl
theorem NR_eq : rRef.dmaCredit = NR := rfl
theorem amtN_W (n : ℕ) (h0 : n ≠ 0) (h : n ≤ 12) : amtN n = NW := by unfold amtN; rw [if_neg h0, if_pos h]
theorem amtN_R (n : ℕ) (h : ¬ n ≤ 12) : amtN n = NR := by unfold amtN; rw [if_neg (by omega), if_neg h]
theorem wcred (off : Fin 3 → ℕ) (inb : ∀ a, off a + S2x512x1024.size a ≤ S16x512x1024.size a) :
    (WA.slice (Rect.unit (s := S16x512x1024) off S2x512x1024.size inb) (fun _ => rfl)).view.dmaCredit = NW := by
  exact (credit_congr _ wRef ((wview_ref off inb).trans (wview_ref _ _).symm)).trans NW_eq
theorem rcred (off : Fin 3 → ℕ) (inb : ∀ a, off a + S1x1024x1.size a ≤ S4x1024x1.size a) :
    (RA'.slice (Rect.unit (s := S4x1024x1) off S1x1024x1.size inb) (fun _ => rfl)).view.dmaCredit = NR := by
  exact (credit_congr _ rRef ((rview_ref off inb).trans (rview_ref _ _).symm)).trans NR_eq

/-- A copy of piece `t` of the experts to device `n`: a share of the source is lent to the send cell `ks`, the piece
    arrives at `n`'s cell `kr`. -/
theorem wp_sendW (n c' : Dev nD) (hn : n = c') (ks kr : Fin 20) (sS sR : DmaSem sig) (hsS : SemLoc.dma sS = csem ks) (hsR : SemLoc.dma sR = csem kr)
    (hds : dutyN c ks.val = {0}) (hdr : dutyN c' kr.val = {0}) (has : amtN ks.val = NW) (har : amtN kr.val = NW)
    (off : Fin 3 → ℕ) (inb : ∀ a, off a + S2x512x1024.size a ≤ S16x512x1024.size a) (t : Fin 8) (hoff : off = ![2 * t.val, 0, 0])
    (hps : payN m c ks.val 0 = slot m c t fullShare.left) (hpr : payN m c' kr.val 0 = slot m c' t fullShare)
    (l : List (Dev nD × Fin 20))
    {hsrc : (WA.slice (Rect.unit (s := S16x512x1024) off S2x512x1024.size inb) (fun _ => rfl)).view.WordExact}
    {hdst : (WA.slice (Rect.unit (s := S16x512x1024) off S2x512x1024.size inb) (fun _ => rfl)).view.WordExact}
    {hsc : (WA.slice (Rect.unit (s := S16x512x1024) off S2x512x1024.size inb) (fun _ => rfl) : Memref sig (Dev.tc n : Thread nD τ).2.kind .vmem S2x512x1024 .bf16).view.ref.isScScratch = false}
    {hsem : DmaTarget.Typed .vmem (.dma sR) (.remote (Dev.tc n : Thread nD τ) (WA.slice (Rect.unit (s := S16x512x1024) off S2x512x1024.size inb) (fun _ => rfl) : Memref sig (Dev.tc n : Thread nD τ).2.kind .vmem S2x512x1024 .bf16) (.dma sS) hsc)}
    {k : PUnit → Prog (TpuEff nD τ sig (Elt F) Λ₀ .tc) α} {Q : α → sProp 𝕄} :
    iprop(ctx m K ∗ ow c ((c', kr) :: l) ∗ tk (c, ks) 0 ∗ tk (c', kr) 0 ∗ slot m c t fullShare.left ∗ slotE c' t)
      ⊢ iprop(((cr c ks ∗ ow c l) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (WA.slice (Rect.unit (s := S16x512x1024) off S2x512x1024.size inb) (fun _ => rfl))
                (.remote (Dev.tc n : Thread nD τ) (WA.slice (Rect.unit (s := S16x512x1024) off S2x512x1024.size inb) (fun _ => rfl)) (.dma sS) hsc)
                (.dma sR) hsrc hdst hsem) k) Q) := by
  subst hn
  have hset : (WA.slice (Rect.unit (s := S16x512x1024) off S2x512x1024.size inb) (fun _ => rfl)).view.set = Wset t := by
    rw [← wrect_set off inb t hoff]; exact View.set_slice_whole _ _
  have hcs : kcell (c, ks) = ((c : Thread nD τ), .dma sS) := by unfold kcell; rw [← hsS]
  have hcr : kcell (n, kr) = ((n : Thread nD τ), .dma sR) := by unfold kcell; rw [← hsR]
  unfold ow tk cr slotE
  rw [has]
  iintro ⟨#Hctx, ⟨%W, HO⟩, Hts, Htr, Hs, ⟨%fd, Hd⟩⟩ Hk
  ihave #Hi1 := (ctx_inv m K (c, ks)) $$ Hctx
  ihave #Hi2 := (ctx_inv m K (n, kr)) $$ Hctx
  ihave #Hr1 := (ctx_reached m K (c, ks)) $$ Hctx
  ihave #Hr2 := (ctx_reached m K (n, kr)) $$ Hctx
  have hO : owedT ((n, kr) :: l) = owedT l + tallyAt ((n : Thread nD τ), .dma sR) () NW := by rw [owedT, har, hcr]
  rw [hO, hcs, hcr]
  have h1 : (Rd m).duties ((c : Thread nD τ), .dma sS) 0 = {0} := by rw [← hcs, duties_k, hds]
  have h2 : (Rd m).duties ((n : Thread nD τ), .dma sR) 0 = {0} := by rw [← hcr, duties_k, hdr]
  iapply (Rounds.wp_send_pointsTo 𝒱₀ ER (Rd m) (c : Thread nD τ) none (κ₁ := K (c, ks)) (κ₂ := K (n, kr))
    (r₁ := 0) (r₂ := 0) (d₁ := 0) (d₂ := 0) (fd := fd) (fs := WG m) (q := fullShare.left)
    (by rw [h1]; exact Finset.mem_singleton_self _) (by rw [h2]; exact Finset.mem_singleton_self _)
    () () NW ((View.amount_dma _ _).trans (wcred off inb)) (by rw [← hcs, amount_k, has]) (by rw [← hcr, amount_k, har]) (owedT l) rfl (W := W)
    (by rw [← hcs, payload_k]; show _ ⊢ payN m c ks.val 0; rw [hps]; unfold slot; rw [hset])
    (by rw [← hcr, payload_k]; show _ ⊢ payN m n kr.val 0; rw [hpr]; unfold slot; rw [← hset]; exact Entails.of_eq (pts_write_read (ℓ := (n : Thread nD τ).loc cc0_scratch0) _ n _ _ _)))
    $$ [HO Hts Htr Hs Hd]
  · isplitr; · iexact Hi1
    isplitr; · iexact Hi2
    isplitl [Hs]; · rw [hset]; unfold slot; iexact Hs
    isplitl [Hd]; · rw [hset]; iexact Hd
    isplitl [HO]; · iexact HO
    isplitl [Hts]; · iexact Hts
    isplitr; · iexact Hr1
    isplitl [Htr]; · iexact Htr
    iexact Hr2
  iintro ⟨Hc, HO⟩
  iapply Hk
  isplitl [Hc]; · iexact Hc
  iexists W; iexact HO

/-- A copy of the device's own routes to device `n`. -/
theorem wp_sendR (n c' : Dev nD) (hn : n = c') (ks kr : Fin 20) (sS sR : DmaSem sig) (hsS : SemLoc.dma sS = csem ks) (hsR : SemLoc.dma sR = csem kr)
    (hds : dutyN c ks.val = {0}) (hdr : dutyN c' kr.val = {0}) (has : amtN ks.val = NR) (har : amtN kr.val = NR)
    (off : Fin 3 → ℕ) (inb : ∀ a, off a + S1x1024x1.size a ≤ S4x1024x1.size a) (hoff : off = ![c.val, 0, 0]) (q : PosShare TreeShare)
    (hps : payN m c ks.val 0 = row m c c q) (hpr : payN m c' kr.val 0 = row m c' c fullShare)
    (l : List (Dev nD × Fin 20))
    {hsrc : (RA'.slice (Rect.unit (s := S4x1024x1) off S1x1024x1.size inb) (fun _ => rfl)).view.WordExact}
    {hdst : (RA'.slice (Rect.unit (s := S4x1024x1) off S1x1024x1.size inb) (fun _ => rfl)).view.WordExact}
    {hsc : (RA'.slice (Rect.unit (s := S4x1024x1) off S1x1024x1.size inb) (fun _ => rfl) : Memref sig (Dev.tc n : Thread nD τ).2.kind .vmem S1x1024x1 .i32).view.ref.isScScratch = false}
    {hsem : DmaTarget.Typed .vmem (.dma sR) (.remote (Dev.tc n : Thread nD τ) (RA'.slice (Rect.unit (s := S4x1024x1) off S1x1024x1.size inb) (fun _ => rfl) : Memref sig (Dev.tc n : Thread nD τ).2.kind .vmem S1x1024x1 .i32) (.dma sS) hsc)}
    {k : PUnit → Prog (TpuEff nD τ sig (Elt F) Λ₀ .tc) α} {Q : α → sProp 𝕄} :
    iprop(ctx m K ∗ ow c ((c', kr) :: l) ∗ tk (c, ks) 0 ∗ tk (c', kr) 0 ∗ row m c c q ∗ rowE c' c)
      ⊢ iprop(((cr c ks ∗ ow c l) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (RA'.slice (Rect.unit (s := S4x1024x1) off S1x1024x1.size inb) (fun _ => rfl))
                (.remote (Dev.tc n : Thread nD τ) (RA'.slice (Rect.unit (s := S4x1024x1) off S1x1024x1.size inb) (fun _ => rfl)) (.dma sS) hsc)
                (.dma sR) hsrc hdst hsem) k) Q) := by
  subst hn
  have hset : (RA'.slice (Rect.unit (s := S4x1024x1) off S1x1024x1.size inb) (fun _ => rfl)).view.set = Rset c := by
    rw [← rrect_set off inb c hoff]; exact View.set_slice_whole _ _
  have hcs : kcell (c, ks) = ((c : Thread nD τ), .dma sS) := by unfold kcell; rw [← hsS]
  have hcr : kcell (n, kr) = ((n : Thread nD τ), .dma sR) := by unfold kcell; rw [← hsR]
  unfold ow tk cr rowE
  rw [has]
  iintro ⟨#Hctx, ⟨%W, HO⟩, Hts, Htr, Hs, ⟨%fd, Hd⟩⟩ Hk
  ihave #Hi1 := (ctx_inv m K (c, ks)) $$ Hctx
  ihave #Hi2 := (ctx_inv m K (n, kr)) $$ Hctx
  ihave #Hr1 := (ctx_reached m K (c, ks)) $$ Hctx
  ihave #Hr2 := (ctx_reached m K (n, kr)) $$ Hctx
  have hO : owedT ((n, kr) :: l) = owedT l + tallyAt ((n : Thread nD τ), .dma sR) () NR := by rw [owedT, har, hcr]
  rw [hO, hcs, hcr]
  have h1 : (Rd m).duties ((c : Thread nD τ), .dma sS) 0 = {0} := by rw [← hcs, duties_k, hds]
  have h2 : (Rd m).duties ((n : Thread nD τ), .dma sR) 0 = {0} := by rw [← hcr, duties_k, hdr]
  iapply (Rounds.wp_send_pointsTo 𝒱₀ ER (Rd m) (c : Thread nD τ) none (κ₁ := K (c, ks)) (κ₂ := K (n, kr))
    (r₁ := 0) (r₂ := 0) (d₁ := 0) (d₂ := 0) (fd := fd) (fs := RG m) (q := q)
    (by rw [h1]; exact Finset.mem_singleton_self _) (by rw [h2]; exact Finset.mem_singleton_self _)
    () () NR ((View.amount_dma _ _).trans (rcred off inb)) (by rw [← hcs, amount_k, has]) (by rw [← hcr, amount_k, har]) (owedT l) rfl (W := W)
    (by rw [← hcs, payload_k]; show _ ⊢ payN m c ks.val 0; rw [hps]; unfold row; rw [hset])
    (by rw [← hcr, payload_k]; show _ ⊢ payN m n kr.val 0; rw [hpr]; unfold row; rw [← hset]; exact Entails.of_eq (pts_write_read (ℓ := (n : Thread nD τ).loc cc0_scratch1) _ n _ _ _)))
    $$ [HO Hts Htr Hs Hd]
  · isplitr; · iexact Hi1
    isplitr; · iexact Hi2
    isplitl [Hs]; · rw [hset]; unfold row; iexact Hs
    isplitl [Hd]; · rw [hset]; iexact Hd
    isplitl [HO]; · iexact HO
    isplitl [Hts]; · iexact Hts
    isplitr; · iexact Hr1
    isplitl [Htr]; · iexact Htr
    iexact Hr2
  iintro ⟨Hc, HO⟩
  iapply Hk
  isplitl [Hc]; · iexact Hc
  iexists W; iexact HO

/-! ## Loads and stores -/

/-- One expert of the gathered buffer, at the offsets a load reads it at. -/
def ldW (off : Fin 3 → ℕ) (inb : ∀ a, off a + S1x512x1024.size a ≤ S16x512x1024.size a) : Vec F S1x512x1024 .bf16 :=
  WA.view.readAt (Elt F) (Rect.unit (s := S16x512x1024) off S1x512x1024.size inb).toLoadRect (WG m)
/-- One device's routes in the gathered buffer. -/
def ldR (off : Fin 3 → ℕ) (inb : ∀ a, off a + S1x1024x1.size a ≤ S4x1024x1.size a) : Vec F S1x1024x1 .i32 :=
  RA'.view.readAt (Elt F) (Rect.unit (s := S4x1024x1) off S1x1024x1.size inb).toLoadRect (RG m)

/-- A load of one expert from a held piece. -/
theorem wp_ldW (off : Fin 3 → ℕ) (inb : ∀ a, off a + S1x512x1024.size a ≤ S16x512x1024.size a) (t : Fin 8) (j : ℕ) (hj : j < 2)
    (h : off = ![2 * t.val + j, 0, 0]) (q : PosShare TreeShare)
    {hl : WA.view.LoadsAt (Rect.unit (s := S16x512x1024) off S1x512x1024.size inb).toLoadRect}
    {k : Vec F S1x512x1024 .bf16 → Prog (TpuEff nD τ sig (Elt F) Λ₀ .tc) α} {Q : α → sProp 𝕄} :
    slot m c t q ⊢ iprop((slot m c t q -∗ wp frame (wpE (defs₀ (F := F)) 𝒱₀ (c : Thread nD τ) none) Set.univ (k (ldW m off inb)) Q)
      -∗ wp frame (wpE (defs₀ (F := F)) 𝒱₀ (c : Thread nD τ) none) Set.univ
          (.op (.load WA (Rect.unit (s := S16x512x1024) off S1x512x1024.size inb).toLoadRect hl) k) Q) := by
  unfold slot ldW
  exact wp_load 𝒱₀ (c : Thread nD τ) none Set.univ (m := WA) (by
    intro i hi
    obtain ⟨x, hx, rfl⟩ := Finset.mem_map.mp hi
    exact erect_sub off inb t j hj h hx)

/-- A load of one device's routes from a held piece. -/
theorem wp_ldR (off : Fin 3 → ℕ) (inb : ∀ a, off a + S1x1024x1.size a ≤ S4x1024x1.size a) (o : Dev nD)
    (h : off = ![o.val, 0, 0]) (q : PosShare TreeShare)
    {hl : RA'.view.LoadsAt (Rect.unit (s := S4x1024x1) off S1x1024x1.size inb).toLoadRect}
    {k : Vec F S1x1024x1 .i32 → Prog (TpuEff nD τ sig (Elt F) Λ₀ .tc) α} {Q : α → sProp 𝕄} :
    row m c o q ⊢ iprop((row m c o q -∗ wp frame (wpE (defs₀ (F := F)) 𝒱₀ (c : Thread nD τ) none) Set.univ (k (ldR m off inb)) Q)
      -∗ wp frame (wpE (defs₀ (F := F)) 𝒱₀ (c : Thread nD τ) none) Set.univ
          (.op (.load RA' (Rect.unit (s := S4x1024x1) off S1x1024x1.size inb).toLoadRect hl) k) Q) := by
  unfold row ldR
  exact wp_load 𝒱₀ (c : Thread nD τ) none Set.univ (m := RA') (by
    intro i hi
    obtain ⟨x, hx, rfl⟩ := Finset.mem_map.mp hi
    exact (rrect_set off inb o h) ▸ hx)

end Rules

end Cert.KProof

end
-- ==== Proof.Access.lean ====
/-
The loads and stores of the kernel's buffers: whole staging buffers and scratch, halves of the fetched experts, one
expert or one row of routes, and the stores that put a device's own pieces into the gathered buffers.
-/
module

public import Idealize.ShloMosaic.Lib.Pipeline.Value
public import proofs.«01_k».proof.Proof.Steps

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev AX : Memref sig .tc .vmem S1024x512 .bf16 := Memref.whole cc0_stg0_0
abbrev AR : Memref sig .tc .vmem S1024x1 .i32 := Memref.whole cc0_stg1_0
abbrev AW : Memref sig .tc .vmem S4x512x1024 .bf16 := Memref.whole cc0_stg2_0
abbrev AO : Memref sig .tc .vmem S1024x1024 .f32 := Memref.whole cc0_stg3_0

theorem zero2 : (![0, 0] : Fin 2 → ℕ) = fun _ => 0 := by funext a; fin_cases a <;> rfl

section Rules

variable (c : Dev nD) {α : Type}

/-- A load of the whole token block. -/
theorem wp_ldX (f : Buf (Elt F) ((c : Thread nD τ).loc cc0_stg0_0)) (inb : ∀ a, (![0, 0] : Fin 2 → ℕ) a + S1024x512.size a ≤ S1024x512.size a)
    {hl : AX.view.LoadsAt (Rect.unit (s := S1024x512) ![0, 0] S1024x512.size inb).toLoadRect}
    {k : Vec F S1024x512 .bf16 → Prog (TpuEff nD τ sig (Elt F) Λ₀ .tc) α} {Q : α → sProp 𝕄} :
    wh c cc0_stg0_0 f ⊢ iprop((wh c cc0_stg0_0 f -∗ wp frame (wpE (defs₀ (F := F)) 𝒱₀ (c : Thread nD τ) none) Set.univ (k f) Q)
      -∗ wp frame (wpE (defs₀ (F := F)) 𝒱₀ (c : Thread nD τ) none) Set.univ
          (.op (.load AX (Rect.unit (s := S1024x512) ![0, 0] S1024x512.size inb).toLoadRect hl) k) Q) := by
  have H : ∀ g, AX.view.readAt (Elt F) (Rect.unit (s := S1024x512) ![0, 0] S1024x512.size inb).toLoadRect f = g →
      (wh c cc0_stg0_0 f ⊢ iprop((wh c cc0_stg0_0 f -∗ wp frame (wpE (defs₀ (F := F)) 𝒱₀ (c : Thread nD τ) none) Set.univ (k g) Q)
        -∗ wp frame (wpE (defs₀ (F := F)) 𝒱₀ (c : Thread nD τ) none) Set.univ
          (.op (.load AX (Rect.unit (s := S1024x512) ![0, 0] S1024x512.size inb).toLoadRect hl) k) Q)) := by
    rintro _ rfl
    exact wp_load 𝒱₀ (c : Thread nD τ) none Set.univ (m := AX) (Finset.subset_univ _)
  exact H f (Memref.readAt_unit_zero (Elt F) cc0_stg0_0 zero2 inb f)

/-- A load of the whole route block. -/
theorem wp_ldRt (f : Buf (Elt F) ((c : Thread nD τ).loc cc0_stg1_0)) (inb : ∀ a, (![0, 0] : Fin 2 → ℕ) a + S1024x1.size a ≤ S1024x1.size a)
    {hl : AR.view.LoadsAt (Rect.unit (s := S1024x1) ![0, 0] S1024x1.size inb).toLoadRect}
    {k : Vec F S1024x1 .i32 → Prog (TpuEff nD τ sig (Elt F) Λ₀ .tc) α} {Q : α → sProp 𝕄} :
    wh c cc0_stg1_0 f ⊢ iprop((wh c cc0_stg1_0 f -∗ wp frame (wpE (defs₀ (F := F)) 𝒱₀ (c : Thread nD τ) none) Set.univ (k f) Q)
      -∗ wp frame (wpE (defs₀ (F := F)) 𝒱₀ (c : Thread nD τ) none) Set.univ
          (.op (.load AR (Rect.unit (s := S1024x1) ![0, 0] S1024x1.size inb).toLoadRect hl) k) Q) := by
  have H : ∀ g, AR.view.readAt (Elt F) (Rect.unit (s := S1024x1) ![0, 0] S1024x1.size inb).toLoadRect f = g →
      (wh c cc0_stg1_0 f ⊢ iprop((wh c cc0_stg1_0 f -∗ wp frame (wpE (defs₀ (F := F)) 𝒱₀ (c : Thread nD τ) none) Set.univ (k g) Q)
        -∗ wp frame (wpE (defs₀ (F := F)) 𝒱₀ (c : Thread nD τ) none) Set.univ
          (.op (.load AR (Rect.unit (s := S1024x1) ![0, 0] S1024x1.size inb).toLoadRect hl) k) Q)) := by
    rintro _ rfl
    exact wp_load 𝒱₀ (c : Thread nD τ) none Set.univ (m := AR) (Finset.subset_univ _)
  exact H f (Memref.readAt_unit_zero (Elt F) cc0_stg1_0 zero2 inb f)

/-- A load of the whole converted token block. -/
theorem wp_ldB (f : Buf (Elt F) ((c : Thread nD τ).loc cc0_scratch2)) (inb : ∀ a, (![0, 0] : Fin 2 → ℕ) a + S1024x512.size a ≤ S1024x512.size a)
    {hl : XB.view.LoadsAt (Rect.unit (s := S1024x512) ![0, 0] S1024x512.size inb).toLoadRect}
    {k : Vec F S1024x512 .bf16 → Prog (TpuEff nD τ sig (Elt F) Λ₀ .tc) α} {Q : α → sProp 𝕄} :
    wh c cc0_scratch2 f ⊢ iprop((wh c cc0_scratch2 f -∗ wp frame (wpE (defs₀ (F := F)) 𝒱₀ (c : Thread nD τ) none) Set.univ (k f) Q)
      -∗ wp frame (wpE (defs₀ (F := F)) 𝒱₀ (c : Thread nD τ) none) Set.univ
          (.op (.load XB (Rect.unit (s := S1024x512) ![0, 0] S1024x512.size inb).toLoadRect hl) k) Q) := by
  have H : ∀ g, XB.view.readAt (Elt F) (Rect.unit (s := S1024x512) ![0, 0] S1024x512.size inb).toLoadRect f = g →
      (wh c cc0_scratch2 f ⊢ iprop((wh c cc0_scratch2 f -∗ wp frame (wpE (defs₀ (F := F)) 𝒱₀ (c : Thread nD τ) none) Set.univ (k g) Q)
        -∗ wp frame (wpE (defs₀ (F := F)) 𝒱₀ (c : Thread nD τ) none) Set.univ
          (.op (.load XB (Rect.unit (s := S1024x512) ![0, 0] S1024x512.size inb).toLoadRect hl) k) Q)) := by
    rintro _ rfl
    exact wp_load 𝒱₀ (c : Thread nD τ) none Set.univ (m := XB) (Finset.subset_univ _)
  exact H f (Memref.readAt_unit_zero (Elt F) cc0_scratch2 zero2 inb f)

/-- A store of the whole converted token block. -/
theorem wp_stB (f : Buf (Elt F) ((c : Thread nD τ).loc cc0_scratch2)) (w : Vec F S1024x512 .bf16) (inb : ∀ a, (![0, 0] : Fin 2 → ℕ) a + S1024x512.size a ≤ S1024x512.size a)
    {hx : (XB.access (Rect.unit (s := S1024x512) ![0, 0] S1024x512.size inb)).Stores Finset.univ}
    {hm : (Finset.univ : Finset (Rect.unit (s := S1024x512) ![0, 0] S1024x512.size inb).shape.Idx) = Finset.univ ∨ ∀ a, (Rect.unit (s := S1024x512) ![0, 0] S1024x512.size inb).stride a = 1}
    {k : PUnit → Prog (TpuEff nD τ sig (Elt F) Λ₀ .tc) α} {Q : α → sProp 𝕄} :
    wh c cc0_scratch2 f ⊢ iprop((wh c cc0_scratch2 w -∗ wp frame (wpE (defs₀ (F := F)) 𝒱₀ (c : Thread nD τ) none) Set.univ (k ⟨⟩) Q)
      -∗ wp frame (wpE (defs₀ (F := F)) 𝒱₀ (c : Thread nD τ) none) Set.univ
          (.op (.store XB (Rect.unit (s := S1024x512) ![0, 0] S1024x512.size inb) w Finset.univ hx hm) k) Q) := by
  have H : ∀ g, (XB.access (Rect.unit (s := S1024x512) ![0, 0] S1024x512.size inb)).write (Elt F) f w Finset.univ = g →
      (wh c cc0_scratch2 f ⊢ iprop((wh c cc0_scratch2 g -∗ wp frame (wpE (defs₀ (F := F)) 𝒱₀ (c : Thread nD τ) none) Set.univ (k ⟨⟩) Q)
        -∗ wp frame (wpE (defs₀ (F := F)) 𝒱₀ (c : Thread nD τ) none) Set.univ
          (.op (.store XB (Rect.unit (s := S1024x512) ![0, 0] S1024x512.size inb) w Finset.univ hx hm) k) Q)) := by
    rintro _ rfl
    exact wp_store 𝒱₀ (c : Thread nD τ) none Set.univ (m := XB) (r := Rect.unit (s := S1024x512) ![0, 0] S1024x512.size inb) (Mk := Finset.univ) (Finset.subset_univ _)
  exact H w (Memref.write_access_unit_zero_univ (Elt F) cc0_scratch2 zero2 inb f w)

/-- A load of the whole result block. -/
theorem wp_ldO (f : Buf (Elt F) ((c : Thread nD τ).loc cc0_stg3_0)) (inb : ∀ a, (![0, 0] : Fin 2 → ℕ) a + S1024x1024.size a ≤ S1024x1024.size a)
    {hl : AO.view.LoadsAt (Rect.unit (s := S1024x1024) ![0, 0] S1024x1024.size inb).toLoadRect}
    {k : Vec F S1024x1024 .f32 → Prog (TpuEff nD τ sig (Elt F) Λ₀ .tc) α} {Q : α → sProp 𝕄} :
    wh c cc0_stg3_0 f ⊢ iprop((wh c cc0_stg3_0 f -∗ wp frame (wpE (defs₀ (F := F)) 𝒱₀ (c : Thread nD τ) none) Set.univ (k f) Q)
      -∗ wp frame (wpE (defs₀ (F := F)) 𝒱₀ (c : Thread nD τ) none) Set.univ
          (.op (.load AO (Rect.unit (s := S1024x1024) ![0, 0] S1024x1024.size inb).toLoadRect hl) k) Q) := by
  have H : ∀ g, AO.view.readAt (Elt F) (Rect.unit (s := S1024x1024) ![0, 0] S1024x1024.size inb).toLoadRect f = g →
      (wh c cc0_stg3_0 f ⊢ iprop((wh c cc0_stg3_0 f -∗ wp frame (wpE (defs₀ (F := F)) 𝒱₀ (c : Thread nD τ) none) Set.univ (k g) Q)
        -∗ wp frame (wpE (defs₀ (F := F)) 𝒱₀ (c : Thread nD τ) none) Set.univ
          (.op (.load AO (Rect.unit (s := S1024x1024) ![0, 0] S1024x1024.size inb).toLoadRect hl) k) Q)) := by
    rintro _ rfl
    exact wp_load 𝒱₀ (c : Thread nD τ) none Set.univ (m := AO) (Finset.subset_univ _)
  exact H f (Memref.readAt_unit_zero (Elt F) cc0_stg3_0 zero2 inb f)

/-- A store of the whole result block. -/
theorem wp_stO (f : Buf (Elt F) ((c : Thread nD τ).loc cc0_stg3_0)) (w : Vec F S1024x1024 .f32) (inb : ∀ a, (![0, 0] : Fin 2 → ℕ) a + S1024x1024.size a ≤ S1024x1024.size a)
    {hx : (AO.access (Rect.unit (s := S1024x1024) ![0, 0] S1024x1024.size inb)).Stores Finset.univ}
    {hm : (Finset.univ : Finset (Rect.unit (s := S1024x1024) ![0, 0] S1024x1024.size inb).shape.Idx) = Finset.univ ∨ ∀ a, (Rect.unit (s := S1024x1024) ![0, 0] S1024x1024.size inb).stride a = 1}
    {k : PUnit → Prog (TpuEff nD τ sig (Elt F) Λ₀ .tc) α} {Q : α → sProp 𝕄} :
    wh c cc0_stg3_0 f ⊢ iprop((wh c cc0_stg3_0 w -∗ wp frame (wpE (defs₀ (F := F)) 𝒱₀ (c : Thread nD τ) none) Set.univ (k ⟨⟩) Q)
      -∗ wp frame (wpE (defs₀ (F := F)) 𝒱₀ (c : Thread nD τ) none) Set.univ
          (.op (.store AO (Rect.unit (s := S1024x1024) ![0, 0] S1024x1024.size inb) w Finset.univ hx hm) k) Q) := by
  have H : ∀ g, (AO.access (Rect.unit (s := S1024x1024) ![0, 0] S1024x1024.size inb)).write (Elt F) f w Finset.univ = g →
      (wh c cc0_stg3_0 f ⊢ iprop((wh c cc0_stg3_0 g -∗ wp frame (wpE (defs₀ (F := F)) 𝒱₀ (c : Thread nD τ) none) Set.univ (k ⟨⟩) Q)
        -∗ wp frame (wpE (defs₀ (F := F)) 𝒱₀ (c : Thread nD τ) none) Set.univ
          (.op (.store AO (Rect.unit (s := S1024x1024) ![0, 0] S1024x1024.size inb) w Finset.univ hx hm) k) Q)) := by
    rintro _ rfl
    exact wp_store 𝒱₀ (c : Thread nD τ) none Set.univ (m := AO) (r := Rect.unit (s := S1024x1024) ![0, 0] S1024x1024.size inb) (Mk := Finset.univ) (Finset.subset_univ _)
  exact H w (Memref.write_access_unit_zero_univ (Elt F) cc0_stg3_0 zero2 inb f w)

/-! ## The device's own pieces -/

/-- What a load of two of the fetched experts reads. -/
def ldS (c : Dev nD) (off : Fin 3 → ℕ) (inb : ∀ a, off a + S2x512x1024.size a ≤ S4x512x1024.size a) : Vec F S2x512x1024 .bf16 :=
  AW.view.readAt (Elt F) (Rect.unit (s := S4x512x1024) off S2x512x1024.size inb).toLoadRect (wstg m c)

/-- A load of two of the fetched experts. -/
theorem wp_ldS (off : Fin 3 → ℕ) (inb : ∀ a, off a + S2x512x1024.size a ≤ S4x512x1024.size a)
    {hl : AW.view.LoadsAt (Rect.unit (s := S4x512x1024) off S2x512x1024.size inb).toLoadRect}
    {k : Vec F S2x512x1024 .bf16 → Prog (TpuEff nD τ sig (Elt F) Λ₀ .tc) α} {Q : α → sProp 𝕄} :
    wh c cc0_stg2_0 (wstg m c) ⊢ iprop((wh c cc0_stg2_0 (wstg m c) -∗ wp frame (wpE (defs₀ (F := F)) 𝒱₀ (c : Thread nD τ) none) Set.univ (k (ldS m c off inb)) Q)
      -∗ wp frame (wpE (defs₀ (F := F)) 𝒱₀ (c : Thread nD τ) none) Set.univ
          (.op (.load AW (Rect.unit (s := S4x512x1024) off S2x512x1024.size inb).toLoadRect hl) k) Q) := by
  unfold wh ldS
  exact wp_load 𝒱₀ (c : Thread nD τ) none Set.univ (m := AW) (Finset.subset_univ _)

/-- A load from a piece whose contents are not known: the program continues at some value. -/
theorem wp_ldWE (off : Fin 3 → ℕ) (inb : ∀ a, off a + S2x512x1024.size a ≤ S16x512x1024.size a) (t : Fin 8) (h : off = ![2 * t.val, 0, 0])
    {hl : WA.view.LoadsAt (Rect.unit (s := S16x512x1024) off S2x512x1024.size inb).toLoadRect}
    {k : Vec F S2x512x1024 .bf16 → Prog (TpuEff nD τ sig (Elt F) Λ₀ .tc) α} {Q : α → sProp 𝕄} :
    slotE c t ⊢ iprop((∀ v, slotE c t -∗ wp frame (wpE (defs₀ (F := F)) 𝒱₀ (c : Thread nD τ) none) Set.univ (k v) Q)
      -∗ wp frame (wpE (defs₀ (F := F)) 𝒱₀ (c : Thread nD τ) none) Set.univ
          (.op (.load WA (Rect.unit (s := S16x512x1024) off S2x512x1024.size inb).toLoadRect hl) k) Q) := by
  unfold slotE
  iintro ⟨%f, H⟩ Hk
  iapply (wp_load 𝒱₀ (c : Thread nD τ) none Set.univ (m := WA) (S := Wset t) (q := fullShare) (f := f) (by
    intro i hi
    obtain ⟨x, hx, rfl⟩ := Finset.mem_map.mp hi
    exact (wrect_set off inb t h) ▸ hx)) $$ [H]
  · iexact H
  iintro H
  iapply Hk
  iexists f; iexact H

theorem wp_ldRE (off : Fin 3 → ℕ) (inb : ∀ a, off a + S1x1024x1.size a ≤ S4x1024x1.size a) (o : Dev nD) (h : off = ![o.val, 0, 0])
    {hl : RA'.view.LoadsAt (Rect.unit (s := S4x1024x1) off S1x1024x1.size inb).toLoadRect}
    {k : Vec F S1x1024x1 .i32 → Prog (TpuEff nD τ sig (Elt F) Λ₀ .tc) α} {Q : α → sProp 𝕄} :
    rowE c o ⊢ iprop((∀ v, rowE c o -∗ wp frame (wpE (defs₀ (F := F)) 𝒱₀ (c : Thread nD τ) none) Set.univ (k v) Q)
      -∗ wp frame (wpE (defs₀ (F := F)) 𝒱₀ (c : Thread nD τ) none) Set.univ
          (.op (.load RA' (Rect.unit (s := S4x1024x1) off S1x1024x1.size inb).toLoadRect hl) k) Q) := by
  unfold rowE
  iintro ⟨%f, H⟩ Hk
  iapply (wp_load 𝒱₀ (c : Thread nD τ) none Set.univ (m := RA') (S := Rset o) (q := fullShare) (f := f) (by
    intro i hi
    obtain ⟨x, hx, rfl⟩ := Finset.mem_map.mp hi
    exact (rrect_set off inb o h) ▸ hx)) $$ [H]
  · iexact H
  iintro H
  iapply Hk
  iexists f; iexact H

/-- A store into piece `t` of what the gathered buffer is to hold there. -/
theorem wp_stW (off : Fin 3 → ℕ) (inb : ∀ a, off a + S2x512x1024.size a ≤ S16x512x1024.size a) (t : Fin 8) (h : off = ![2 * t.val, 0, 0])
    (w : Vec F S2x512x1024 .bf16)
    (hw : w = (WA.access (Rect.unit (s := S16x512x1024) off S2x512x1024.size inb)).read (Elt F) (WG m))
    {hx : (WA.access (Rect.unit (s := S16x512x1024) off S2x512x1024.size inb)).Stores Finset.univ}
    {hm : (Finset.univ : Finset (Rect.unit (s := S16x512x1024) off S2x512x1024.size inb).shape.Idx) = Finset.univ ∨ ∀ a, (Rect.unit (s := S16x512x1024) off S2x512x1024.size inb).stride a = 1}
    {k : PUnit → Prog (TpuEff nD τ sig (Elt F) Λ₀ .tc) α} {Q : α → sProp 𝕄} :
    slotE c t ⊢ iprop((slot m c t fullShare -∗ wp frame (wpE (defs₀ (F := F)) 𝒱₀ (c : Thread nD τ) none) Set.univ (k ⟨⟩) Q)
      -∗ wp frame (wpE (defs₀ (F := F)) 𝒱₀ (c : Thread nD τ) none) Set.univ
          (.op (.store WA (Rect.unit (s := S16x512x1024) off S2x512x1024.size inb) w Finset.univ hx hm) k) Q) := by
  have hset : (WA.access (Rect.unit (s := S16x512x1024) off S2x512x1024.size inb)).set = Wset t := by
    rw [← wrect_set off inb t h]; exact View.set_slice_whole _ _
  unfold slotE slot
  rw [← hset]
  subst hw
  iintro ⟨%f, H⟩ Hk
  iapply (wp_store 𝒱₀ (c : Thread nD τ) none Set.univ (m := WA) (r := Rect.unit (s := S16x512x1024) off S2x512x1024.size inb)
    (Mk := Finset.univ) (S := (WA.access (Rect.unit (s := S16x512x1024) off S2x512x1024.size inb)).set) (f := f) (Finset.Subset.refl _)) $$ [H]
  · iexact H
  iintro H
  iapply Hk
  iapply (Entails.of_eq (pts_write_read (ℓ := (c : Thread nD τ).loc cc0_scratch0) (WA.access (Rect.unit (s := S16x512x1024) off S2x512x1024.size inb)) c f (WG m) fullShare))
  iexact H

/-- A store into row `o` of what the gathered routes are to hold there. -/
theorem wp_stR (off : Fin 3 → ℕ) (inb : ∀ a, off a + S1x1024x1.size a ≤ S4x1024x1.size a) (o : Dev nD) (h : off = ![o.val, 0, 0])
    (w : Vec F S1x1024x1 .i32)
    (hw : w = (RA'.access (Rect.unit (s := S4x1024x1) off S1x1024x1.size inb)).read (Elt F) (RG m))
    {hx : (RA'.access (Rect.unit (s := S4x1024x1) off S1x1024x1.size inb)).Stores Finset.univ}
    {hm : (Finset.univ : Finset (Rect.unit (s := S4x1024x1) off S1x1024x1.size inb).shape.Idx) = Finset.univ ∨ ∀ a, (Rect.unit (s := S4x1024x1) off S1x1024x1.size inb).stride a = 1}
    {k : PUnit → Prog (TpuEff nD τ sig (Elt F) Λ₀ .tc) α} {Q : α → sProp 𝕄} :
    rowE c o ⊢ iprop((row m c o fullShare -∗ wp frame (wpE (defs₀ (F := F)) 𝒱₀ (c : Thread nD τ) none) Set.univ (k ⟨⟩) Q)
      -∗ wp frame (wpE (defs₀ (F := F)) 𝒱₀ (c : Thread nD τ) none) Set.univ
          (.op (.store RA' (Rect.unit (s := S4x1024x1) off S1x1024x1.size inb) w Finset.univ hx hm) k) Q) := by
  have hset : (RA'.access (Rect.unit (s := S4x1024x1) off S1x1024x1.size inb)).set = Rset o := by
    rw [← rrect_set off inb o h]; exact View.set_slice_whole _ _
  unfold rowE row
  rw [← hset]
  subst hw
  iintro ⟨%f, H⟩ Hk
  iapply (wp_store 𝒱₀ (c : Thread nD τ) none Set.univ (m := RA') (r := Rect.unit (s := S4x1024x1) off S1x1024x1.size inb)
    (Mk := Finset.univ) (S := (RA'.access (Rect.unit (s := S4x1024x1) off S1x1024x1.size inb)).set) (f := f) (Finset.Subset.refl _)) $$ [H]
  · iexact H
  iintro H
  iapply Hk
  iapply (Entails.of_eq (pts_write_read (ℓ := (c : Thread nD τ).loc cc0_scratch1) (RA'.access (Rect.unit (s := S4x1024x1) off S1x1024x1.size inb)) c f (RG m) fullShare))
  iexact H

end Rules

/-! ## Shares -/

/-- A piece splits into the half that is lent to a copy and the half that stays. -/
theorem slot_split (c : Dev nD) (t : Fin 8) : slot m c t fullShare ⊢ iprop(slot m c t fullShare.left ∗ slot m c t fullShare.right) := by
  unfold slot; exact (pointsTo_share fullShare.mem_left_op_right).1
theorem slot_join (c : Dev nD) (t : Fin 8) : iprop(slot m c t fullShare.left ∗ slot m c t fullShare.right) ⊢ slot m c t fullShare := by
  unfold slot; exact (pointsTo_share fullShare.mem_left_op_right).2
theorem row_split (c o : Dev nD) : row m c o fullShare ⊢ iprop(row m c o (rq 0) ∗ row m c o (rq 1) ∗ row m c o (rq 2) ∗ row m c o (rq 3)) := by
  unfold row
  iintro H
  ihave H := ((pointsTo_share fullShare.mem_left_op_right)).1 $$ H
  icases H with ⟨H1, H2⟩
  ihave H1 := ((pointsTo_share fullShare.left.mem_left_op_right)).1 $$ H1
  ihave H2 := ((pointsTo_share fullShare.right.mem_left_op_right)).1 $$ H2
  icases H1 with ⟨H1, H3⟩
  icases H2 with ⟨H2, H4⟩
  isplitl [H1]; · iexact H1
  isplitl [H3]; · iexact H3
  isplitl [H2]; · iexact H2
  iexact H4
theorem row_join (c o : Dev nD) : iprop(row m c o (rq 0) ∗ row m c o (rq 1) ∗ row m c o (rq 2) ∗ row m c o (rq 3)) ⊢ row m c o fullShare := by
  unfold row
  iintro ⟨H1, H3, H2, H4⟩
  iapply ((pointsTo_share fullShare.mem_left_op_right).2)
  isplitl [H1 H3]
  · iapply ((pointsTo_share fullShare.left.mem_left_op_right).2)
    isplitl [H1]; · iexact H1
    iexact H3
  · iapply ((pointsTo_share fullShare.right.mem_left_op_right).2)
    isplitl [H2]; · iexact H2
    iexact H4

/-! ## What the stores put into the device's own pieces -/

/-- Where an expert stands in the gathered buffer; -/
theorem WG_at (i : S16x512x1024.Idx) (c : Dev nD) (j : S4x512x1024.Idx) (h0 : (i 0).val = 4 * c.val + (j 0).val) (h1 : (i 1).val = (j 1).val)
    (h2 : (i 2).val = (j 2).val) : WG m i = wstg m c j := by
  have hj : (j 0).val < 4 := (j 0).isLt
  have hd : (⟨(i 0).val / 4, by have : (i 0).val < 16 := (i 0).isLt; show _ < 4; omega⟩ : Dev nD) = c := Fin.ext (by show (i 0).val / 4 = c.val; omega)
  show wstg m ⟨(i 0).val / 4, _⟩ (wIdx i) = wstg m c j
  rw [hd]
  congr 1
  funext a
  apply Fin.ext
  match a with
  | ⟨0, _⟩ => show (i 0).val % 4 = (j 0).val; omega
  | ⟨1, _⟩ => exact h1
  | ⟨2, _⟩ => exact h2
/-- where a route stands in it. -/
theorem RG_at (i : S4x1024x1.Idx) (c : Dev nD) (j : S1024x1.Idx) (h0 : (i 0).val = c.val) (h1 : (i 1).val = (j 0).val) : RG m i = rstg m c j := by
  have hd : (⟨(i 0).val, (i 0).isLt⟩ : Dev nD) = c := Fin.ext h0
  show rstg m ⟨(i 0).val, _⟩ (rIdx i) = rstg m c j
  rw [hd]
  congr 1
  funext a
  apply Fin.ext
  match a with
  | ⟨0, _⟩ => exact h1
  | ⟨1, _⟩ =>
    have hi : (i 2).val < 1 := (i 2).isLt
    have hj : (j 1).val < 1 := (j 1).isLt
    show (i 2).val = (j 1).val; omega

/-- The routes written into the device's own row; -/
theorem pay1_own (c : Dev nD) (inb : ∀ a, k0_off1 c a + S1x1024x1.size a ≤ S4x1024x1.size a) :
    k0_pay1 (F := F) (rstg m c) = (RA'.access (Rect.unit (s := S4x1024x1) (k0_off1 c) S1x1024x1.size inb)).read (Elt F) (RG m) := by
  funext y
  unfold k0_pay1
  simp only [shapeCast_self]
  have hy0 : (y 0).val < 1 := (y 0).isLt
  have hy2 : (y 2).val < 1 := (y 2).isLt
  have ho : k0_off1 c 0 = c.val := by revert c; decide +kernel
  have ho1 : k0_off1 c 1 = 0 := by revert c; decide +kernel
  have hR : (RA'.access (Rect.unit (s := S4x1024x1) (k0_off1 c) S1x1024x1.size inb)).read (Elt F) (RG m) y
      = RG m ((Rect.unit (s := S4x1024x1) (k0_off1 c) S1x1024x1.size inb).toLoadRect.idx y) := rfl
  rw [hR, RG_at m _ c (fun a : Fin 2 => ⟨![(y 1).val, (y 2).val] a, by
    fin_cases a
    · exact (y 1).isLt
    · exact (y 2).isLt⟩) (by show k0_off1 c 0 + 1 * (y 0).val = c.val; omega) (by show k0_off1 c 1 + 1 * (y 1).val = (y 1).val; omega)]
  refine (shapeCast_addUnit_apply (n := 2) ![1024, 1] _ _ y).trans ?_
  congr 1
  funext a
  apply Fin.ext
  match a with
  | ⟨0, _⟩ => rfl
  | ⟨1, _⟩ => rfl
/-- the first pair of experts written into its place; -/
theorem pay3_own (c : Dev nD) (inb : ∀ a, k0_off4 c 0#32 a + S2x512x1024.size a ≤ S16x512x1024.size a) (inb') :
    k0_pay3 (F := F) (k0_pay2 (ldS m c ![0, 0, 0] inb')) = (WA.access (Rect.unit (s := S16x512x1024) (k0_off4 c 0#32) S2x512x1024.size inb)).read (Elt F) (WG m) := by
  funext y
  unfold k0_pay3 k0_pay2
  simp only [shapeCast_self]
  have ho : k0_off4 c 0#32 0 = 4 * c.val := by revert c; decide +kernel
  have ho1 : k0_off4 c 0#32 1 = 0 := by revert c; decide +kernel
  have ho2 : k0_off4 c 0#32 2 = 0 := by revert c; decide +kernel
  refine (WG_at m ((Rect.unit (s := S16x512x1024) (k0_off4 c 0#32) S2x512x1024.size inb).toLoadRect.idx y) c
    ((Rect.unit (s := S4x512x1024) ![0, 0, 0] S2x512x1024.size inb').toLoadRect.idx y) ?_ ?_ ?_).symm
  · show k0_off4 c 0#32 0 + 1 * (y 0).val = 4 * c.val + (0 + 1 * (y 0).val); omega
  · show k0_off4 c 0#32 1 + 1 * (y 1).val = 0 + 1 * (y 1).val; omega
  · show k0_off4 c 0#32 2 + 1 * (y 2).val = 0 + 1 * (y 2).val; omega
/-- the second pair. -/
theorem pay4_own (c : Dev nD) (inb : ∀ a, k0_off4 c 2#32 a + S2x512x1024.size a ≤ S16x512x1024.size a) (inb') :
    k0_pay4 (F := F) (ldS m c ![2, 0, 0] inb') = (WA.access (Rect.unit (s := S16x512x1024) (k0_off4 c 2#32) S2x512x1024.size inb)).read (Elt F) (WG m) := by
  funext y
  unfold k0_pay4
  simp only [shapeCast_self]
  have ho : k0_off4 c 2#32 0 = 4 * c.val + 2 := by revert c; decide +kernel
  have ho1 : k0_off4 c 2#32 1 = 0 := by revert c; decide +kernel
  have ho2 : k0_off4 c 2#32 2 = 0 := by revert c; decide +kernel
  refine (WG_at m ((Rect.unit (s := S16x512x1024) (k0_off4 c 2#32) S2x512x1024.size inb).toLoadRect.idx y) c
    ((Rect.unit (s := S4x512x1024) ![2, 0, 0] S2x512x1024.size inb').toLoadRect.idx y) ?_ ?_ ?_).symm
  · show k0_off4 c 2#32 0 + 1 * (y 0).val = 4 * c.val + (2 + 1 * (y 0).val); omega
  · show k0_off4 c 2#32 1 + 1 * (y 1).val = 0 + 1 * (y 1).val; omega
  · show k0_off4 c 2#32 2 + 1 * (y 2).val = 0 + 1 * (y 2).val; omega

end Cert.KProof

end
-- ==== Proof.Facts.lean ====
/-
The kernel's printed offsets, target devices and semaphores, in the protocol's names.
-/
module

public import proofs.«01_k».proof.Proof.Access

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ UU ℕ
variable (m : (ℓ : Loc nD τ sig) → Buf (Elt F) ℓ)

/-! ## Devices -/

theorem sh_sh (c : Dev nD) (a b : ℕ) : sh (sh c a) b = sh c (a + b) := Fin.ext (by
  show ((c.val + a) % 4 + b) % 4 = (c.val + (a + b)) % 4; omega)
theorem sh_mod (c : Dev nD) (a : ℕ) : sh c (a + 4) = sh c a := Fin.ext (by
  show (c.val + (a + 4)) % 4 = (c.val + a) % 4; omega)
theorem sh_zero (c : Dev nD) : sh c 0 = c := Fin.ext (by
  have : c.val < 4 := c.isLt
  show (c.val + 0) % 4 = c.val; omega)
theorem sh_four (c : Dev nD) : sh c 4 = c := (sh_mod c 0).trans (sh_zero c)

theorem dev1_sh (c : Dev nD) : (⟨k0_dev1 c, k0_dev1_lt c⟩ : Dev nD) = sh c 1 := by revert c; decide +kernel
theorem dev2_sh (c : Dev nD) : (⟨k0_dev2 c, k0_dev2_lt c⟩ : Dev nD) = sh c 2 := by revert c; decide +kernel
theorem dev3_sh (c : Dev nD) : (⟨k0_dev3 c, k0_dev3_lt c⟩ : Dev nD) = sh c 3 := by revert c; decide +kernel
theorem dev4_sh (c : Dev nD) : (⟨k0_dev4 c, k0_dev4_lt c⟩ : Dev nD) = sh c 1 := by revert c; decide +kernel
theorem dev5_sh (c : Dev nD) : (⟨k0_dev5 c, k0_dev5_lt c⟩ : Dev nD) = sh c 2 := by revert c; decide +kernel
theorem dev6_sh (c : Dev nD) : (⟨k0_dev6 c, k0_dev6_lt c⟩ : Dev nD) = sh c 3 := by revert c; decide +kernel
theorem dev7_sh (c : Dev nD) : (⟨k0_dev7 c, k0_dev7_lt c⟩ : Dev nD) = sh c 1 := by revert c; decide +kernel
theorem dev8_sh (c : Dev nD) : (⟨k0_dev8 c, k0_dev8_lt c⟩ : Dev nD) = sh c 3 := by revert c; decide +kernel
theorem dev9_sh (c : Dev nD) : (⟨k0_dev9 c, k0_dev9_lt c⟩ : Dev nD) = sh c 1 := by revert c; decide +kernel
theorem dev10_sh (c : Dev nD) : (⟨k0_dev10 c, k0_dev10_lt c⟩ : Dev nD) = sh c 3 := by revert c; decide +kernel
theorem dev11_sh (c : Dev nD) : (⟨k0_dev11 c, k0_dev11_lt c⟩ : Dev nD) = sh c 1 := by revert c; decide +kernel
theorem dev12_sh (c : Dev nD) : (⟨k0_dev12 c, k0_dev12_lt c⟩ : Dev nD) = sh c 3 := by revert c; decide +kernel

/-! ## Offsets -/

theorem off1_row (c : Dev nD) : k0_off1 c = ![c.val, 0, 0] := by revert c; decide +kernel
theorem off3_row (c : Dev nD) : k0_off3 c = ![c.val, 0, 0] := by revert c; decide +kernel
theorem off4_lo (c : Dev nD) : k0_off4 c 0#32 = ![2 * (lo (sh c 4)).val, 0, 0] := by revert c; decide +kernel
theorem off4_hi (c : Dev nD) : k0_off4 c 2#32 = ![2 * (hi (sh c 0)).val, 0, 0] := by revert c; decide +kernel
theorem off5_0 (c : Dev nD) : k0_off5 c 0#32 = ![2 * (lo (sh c 4)).val, 0, 0] := by revert c; decide +kernel
theorem off6_0 (c : Dev nD) : k0_off6 c 0#32 = ![2 * (hi (sh c 0)).val, 0, 0] := by revert c; decide +kernel
theorem off5_1 (c : Dev nD) : k0_off5 c 1#32 = ![2 * (lo (sh c 3)).val, 0, 0] := by revert c; decide +kernel
theorem off6_1 (c : Dev nD) : k0_off6 c 1#32 = ![2 * (hi (sh c 1)).val, 0, 0] := by revert c; decide +kernel
theorem off5_2 (c : Dev nD) : k0_off5 c 2#32 = ![2 * (lo (sh c 2)).val, 0, 0] := by revert c; decide +kernel
theorem off6_2 (c : Dev nD) : k0_off6 c 2#32 = ![2 * (hi (sh c 2)).val, 0, 0] := by revert c; decide +kernel
theorem off9_0 (c : Dev nD) : k0_off9 c 0#32 = ![2 * (lo (sh c 4)).val + 0, 0, 0] := by revert c; decide +kernel
theorem off9_1 (c : Dev nD) : k0_off9 c 1#32 = ![2 * (lo (sh c 4)).val + 1, 0, 0] := by revert c; decide +kernel
theorem off9_2 (c : Dev nD) : k0_off9 c 2#32 = ![2 * (hi (sh c 0)).val + 0, 0, 0] := by revert c; decide +kernel
theorem off9_3 (c : Dev nD) : k0_off9 c 3#32 = ![2 * (hi (sh c 0)).val + 1, 0, 0] := by revert c; decide +kernel
theorem off12_00 (c : Dev nD) : k0_off12 c 0#32 0#32 = ![2 * (lo (sh c 3)).val + 0, 0, 0] := by revert c; decide +kernel
theorem off13_00 (c : Dev nD) : k0_off13 c 0#32 0#32 = ![2 * (hi (sh c 1)).val + 0, 0, 0] := by revert c; decide +kernel
theorem off12_01 (c : Dev nD) : k0_off12 c 0#32 1#32 = ![2 * (lo (sh c 3)).val + 1, 0, 0] := by revert c; decide +kernel
theorem off13_01 (c : Dev nD) : k0_off13 c 0#32 1#32 = ![2 * (hi (sh c 1)).val + 1, 0, 0] := by revert c; decide +kernel
theorem off12_10 (c : Dev nD) : k0_off12 c 1#32 0#32 = ![2 * (lo (sh c 2)).val + 0, 0, 0] := by revert c; decide +kernel
theorem off13_10 (c : Dev nD) : k0_off13 c 1#32 0#32 = ![2 * (hi (sh c 2)).val + 0, 0, 0] := by revert c; decide +kernel
theorem off12_11 (c : Dev nD) : k0_off12 c 1#32 1#32 = ![2 * (lo (sh c 2)).val + 1, 0, 0] := by revert c; decide +kernel
theorem off13_11 (c : Dev nD) : k0_off13 c 1#32 1#32 = ![2 * (hi (sh c 2)).val + 1, 0, 0] := by revert c; decide +kernel
theorem off12_20 (c : Dev nD) : k0_off12 c 2#32 0#32 = ![2 * (lo (sh c 1)).val + 0, 0, 0] := by revert c; decide +kernel
theorem off13_20 (c : Dev nD) : k0_off13 c 2#32 0#32 = ![2 * (hi (sh c 3)).val + 0, 0, 0] := by revert c; decide +kernel
theorem off12_21 (c : Dev nD) : k0_off12 c 2#32 1#32 = ![2 * (lo (sh c 1)).val + 1, 0, 0] := by revert c; decide +kernel
theorem off13_21 (c : Dev nD) : k0_off13 c 2#32 1#32 = ![2 * (hi (sh c 3)).val + 1, 0, 0] := by revert c; decide +kernel

/-! ## Semaphores -/

theorem sem3_0 : SemLoc.dma ((cc0_scratch3.slice (Rect.unit (s := S3) ![0] S1.size inb_S3_S1_0)).squeeze S_ squeezes_S1_S_).sem = csem 1 := by decide
theorem sem3_1 : SemLoc.dma ((cc0_scratch3.slice (Rect.unit (s := S3) ![1] S1.size inb_S3_S1_1)).squeeze S_ squeezes_S1_S_).sem = csem 2 := by decide
theorem sem3_2 : SemLoc.dma ((cc0_scratch3.slice (Rect.unit (s := S3) ![2] S1.size inb_S3_S1_2)).squeeze S_ squeezes_S1_S_).sem = csem 3 := by decide
theorem sem4_0 : SemLoc.dma ((cc0_scratch4.slice (Rect.unit (s := S3) ![0] S1.size inb_S3_S1_0)).squeeze S_ squeezes_S1_S_).sem = csem 4 := by decide
theorem sem4_1 : SemLoc.dma ((cc0_scratch4.slice (Rect.unit (s := S3) ![1] S1.size inb_S3_S1_1)).squeeze S_ squeezes_S1_S_).sem = csem 5 := by decide
theorem sem4_2 : SemLoc.dma ((cc0_scratch4.slice (Rect.unit (s := S3) ![2] S1.size inb_S3_S1_2)).squeeze S_ squeezes_S1_S_).sem = csem 6 := by decide
theorem sem5_0 : SemLoc.dma ((cc0_scratch5.slice (Rect.unit (s := S3) ![0] S1.size inb_S3_S1_0)).squeeze S_ squeezes_S1_S_).sem = csem 7 := by decide
theorem sem5_1 : SemLoc.dma ((cc0_scratch5.slice (Rect.unit (s := S3) ![1] S1.size inb_S3_S1_1)).squeeze S_ squeezes_S1_S_).sem = csem 8 := by decide
theorem sem5_2 : SemLoc.dma ((cc0_scratch5.slice (Rect.unit (s := S3) ![2] S1.size inb_S3_S1_2)).squeeze S_ squeezes_S1_S_).sem = csem 9 := by decide
theorem sem6_0 : SemLoc.dma ((cc0_scratch6.slice (Rect.unit (s := S3) ![0] S1.size inb_S3_S1_0)).squeeze S_ squeezes_S1_S_).sem = csem 10 := by decide
theorem sem6_1 : SemLoc.dma ((cc0_scratch6.slice (Rect.unit (s := S3) ![1] S1.size inb_S3_S1_1)).squeeze S_ squeezes_S1_S_).sem = csem 11 := by decide
theorem sem6_2 : SemLoc.dma ((cc0_scratch6.slice (Rect.unit (s := S3) ![2] S1.size inb_S3_S1_2)).squeeze S_ squeezes_S1_S_).sem = csem 12 := by decide
theorem sem7_0 : SemLoc.dma ((cc0_scratch7.slice (Rect.unit (s := S3) ![0] S1.size inb_S3_S1_0)).squeeze S_ squeezes_S1_S_).sem = csem 13 := by decide
theorem sem7_1 : SemLoc.dma ((cc0_scratch7.slice (Rect.unit (s := S3) ![1] S1.size inb_S3_S1_1)).squeeze S_ squeezes_S1_S_).sem = csem 14 := by decide
theorem sem7_2 : SemLoc.dma ((cc0_scratch7.slice (Rect.unit (s := S3) ![2] S1.size inb_S3_S1_2)).squeeze S_ squeezes_S1_S_).sem = csem 15 := by decide
theorem sem8_own (c : Dev nD) : SemLoc.dma ((cc0_scratch8.slice (Rect.unit (s := S4) (k0_off2 c) S1.size (k0_off2_inb c))).squeeze S_ squeezes_S1_S_).sem = csem (rk c) := by revert c; decide +kernel
theorem sem8_1 (c : Dev nD) : SemLoc.dma ((cc0_scratch8.slice (Rect.unit (s := S4) (k0_off7 c 1#32) S1.size (k0_off7_inb c 0))).squeeze S_ squeezes_S1_S_).sem = csem (rk (sh c 1)) := by revert c; decide +kernel
theorem sem8_2 (c : Dev nD) : SemLoc.dma ((cc0_scratch8.slice (Rect.unit (s := S4) (k0_off7 c 2#32) S1.size (k0_off7_inb c 1))).squeeze S_ squeezes_S1_S_).sem = csem (rk (sh c 2)) := by revert c; decide +kernel
theorem sem8_3 (c : Dev nD) : SemLoc.dma ((cc0_scratch8.slice (Rect.unit (s := S4) (k0_off7 c 3#32) S1.size (k0_off7_inb c 2))).squeeze S_ squeezes_S1_S_).sem = csem (rk (sh c 3)) := by revert c; decide +kernel

/-! ## What is still owed -/

/-- What device `c` still owes after `n` payments. -/
def rem (c : Dev nD) (n : ℕ) : List (Dev nD × Fin 20) := (pays c).drop n
theorem rem_0 (c : Dev nD) : rem c 0 = (sh c 1, 0) :: rem c 1 := rfl
theorem rem_1 (c : Dev nD) : rem c 1 = (sh c 2, 0) :: rem c 2 := rfl
theorem rem_2 (c : Dev nD) : rem c 2 = (sh c 3, 0) :: rem c 3 := rfl
theorem rem_3 (c : Dev nD) : rem c 3 = (sh c 1, rk c) :: rem c 4 := rfl
theorem rem_4 (c : Dev nD) : rem c 4 = (sh c 2, rk c) :: rem c 5 := rfl
theorem rem_5 (c : Dev nD) : rem c 5 = (sh c 3, rk c) :: rem c 6 := rfl
theorem rem_6 (c : Dev nD) : rem c 6 = (sh c 1, 4) :: rem c 7 := rfl
theorem rem_7 (c : Dev nD) : rem c 7 = (sh c 3, 10) :: rem c 8 := rfl
theorem rem_8 (c : Dev nD) : rem c 8 = (sh c 1, 5) :: rem c 9 := rfl
theorem rem_9 (c : Dev nD) : rem c 9 = (sh c 3, 11) :: rem c 10 := rfl
theorem rem_10 (c : Dev nD) : rem c 10 = (sh c 1, 6) :: rem c 11 := rfl
theorem rem_11 (c : Dev nD) : rem c 11 = (sh c 3, 12) :: rem c 12 := rfl
theorem rem_lv3 (c : Dev nD) : ∀ ck ∈ rem c 3, 1 < lvN ck.2.val := by revert c; decide +kernel
theorem rem_lv8 (c : Dev nD) : ∀ ck ∈ rem c 8, 3 < lvN ck.2.val := by revert c; decide +kernel
theorem rem_lv10 (c : Dev nD) : ∀ ck ∈ rem c 10, 4 < lvN ck.2.val := by revert c; decide +kernel
theorem rem_lv12 (c : Dev nD) (n : ℕ) : ∀ ck ∈ rem c 12, n < lvN ck.2.val := fun ck h => absurd h (by
  rw [show rem c 12 = [] from rfl]; exact List.not_mem_nil)

theorem lvN_rk (o : Dev nD) : lvN (rk o).val ≤ 3 := by revert o; decide +kernel

/-- The share of row `o` device `c` reads from: it has lent the other shares of its own row. -/
def rowq (c o : Dev nD) : PosShare TreeShare := if o = c then rq 3 else fullShare

/-! ## Duties -/

theorem duty_lt (c : Dev nD) (k : Fin 20) (h0 : k.val ≠ 0) (h : k.val < 16) : dutyN c k.val = {0} := by
  unfold dutyN; rw [if_neg h0, if_pos ⟨k.isLt, by omega⟩]
theorem duty_rk (c o : Dev nD) (h : o ≠ c) : dutyN c (rk o).val = {0} := by
  unfold dutyN
  rw [if_neg (by show 16 + o.val ≠ 0; omega), if_pos ⟨(rk o).isLt, fun h' => h (Fin.ext (by
    have : 16 + o.val = 16 + c.val := h'
    omega))⟩]
theorem sh_ne (c : Dev nD) (j : ℕ) (h : j % 4 ≠ 0) : sh c j ≠ c := fun h' => by
  have := congrArg Fin.val h'
  have h2 : (c.val + j) % 4 = c.val := this
  have : c.val < 4 := c.isLt
  omega
theorem ne_sh (c : Dev nD) (j : ℕ) (h : j % 4 ≠ 0) : c ≠ sh c j := (sh_ne c j h).symm

/-! ## What the rounds hand over, by the pieces' names -/

theorem pay_rk (c o : Dev nD) : payN m c (rk o).val 0 = row m c o fullShare := by
  have : o.val < 4 := o.isLt
  unfold payN
  have hv : (rk o).val = 16 + o.val := rfl
  rw [if_neg (by omega), if_neg (by omega), if_neg (by omega), if_neg (by omega), if_neg (by omega), if_neg (by omega), dif_pos (by omega)]
  congr 1
  exact Fin.ext (by show (rk o).val - 16 = o.val; omega)
theorem pay_1 (c : Dev nD) : payN m c ((1 : Fin 20)).val 0 = slot m c (lo (sh c 4)) fullShare.left := rfl
theorem pay_4 (c : Dev nD) : payN m c ((4 : Fin 20)).val 0 = slot m c (lo (sh c 3)) fullShare := rfl
theorem pay_7 (c : Dev nD) : payN m c ((7 : Fin 20)).val 0 = slot m c (hi (sh c 0)) fullShare.left := rfl
theorem pay_10 (c : Dev nD) : payN m c ((10 : Fin 20)).val 0 = slot m c (hi (sh c 1)) fullShare := rfl
theorem pay_13 (c : Dev nD) : payN m c ((13 : Fin 20)).val 0 = row m c c (rq 0) := rfl
theorem payr_4 (c : Dev nD) : payN m (sh c 1) ((4 : Fin 20)).val 0 = slot m (sh c 1) (lo (sh c 4)) fullShare := by
  rw [pay_4, sh_sh]
theorem payl_10 (c : Dev nD) : payN m (sh c 3) ((10 : Fin 20)).val 0 = slot m (sh c 3) (hi (sh c 0)) fullShare := by
  rw [pay_10, sh_sh]; exact congrArg (fun o => slot m (sh c 3) (hi o) fullShare) (sh_mod c 0)
theorem pay_2 (c : Dev nD) : payN m c ((2 : Fin 20)).val 0 = slot m c (lo (sh c 3)) fullShare.left := rfl
theorem pay_5 (c : Dev nD) : payN m c ((5 : Fin 20)).val 0 = slot m c (lo (sh c 2)) fullShare := rfl
theorem pay_8 (c : Dev nD) : payN m c ((8 : Fin 20)).val 0 = slot m c (hi (sh c 1)) fullShare.left := rfl
theorem pay_11 (c : Dev nD) : payN m c ((11 : Fin 20)).val 0 = slot m c (hi (sh c 2)) fullShare := rfl
theorem pay_14 (c : Dev nD) : payN m c ((14 : Fin 20)).val 0 = row m c c (rq 1) := rfl
theorem payr_5 (c : Dev nD) : payN m (sh c 1) ((5 : Fin 20)).val 0 = slot m (sh c 1) (lo (sh c 3)) fullShare := by
  rw [pay_5, sh_sh]
theorem payl_11 (c : Dev nD) : payN m (sh c 3) ((11 : Fin 20)).val 0 = slot m (sh c 3) (hi (sh c 1)) fullShare := by
  rw [pay_11, sh_sh]; exact congrArg (fun o => slot m (sh c 3) (hi o) fullShare) (sh_mod c 1)
theorem pay_3 (c : Dev nD) : payN m c ((3 : Fin 20)).val 0 = slot m c (lo (sh c 2)) fullShare.left := rfl
theorem pay_6 (c : Dev nD) : payN m c ((6 : Fin 20)).val 0 = slot m c (lo (sh c 1)) fullShare := rfl
theorem pay_9 (c : Dev nD) : payN m c ((9 : Fin 20)).val 0 = slot m c (hi (sh c 2)) fullShare.left := rfl
theorem pay_12 (c : Dev nD) : payN m c ((12 : Fin 20)).val 0 = slot m c (hi (sh c 3)) fullShare := rfl
theorem pay_15 (c : Dev nD) : payN m c ((15 : Fin 20)).val 0 = row m c c (rq 2) := rfl
theorem payr_6 (c : Dev nD) : payN m (sh c 1) ((6 : Fin 20)).val 0 = slot m (sh c 1) (lo (sh c 2)) fullShare := by
  rw [pay_6, sh_sh]
theorem payl_12 (c : Dev nD) : payN m (sh c 3) ((12 : Fin 20)).val 0 = slot m (sh c 3) (hi (sh c 2)) fullShare := by
  rw [pay_12, sh_sh]; exact congrArg (fun o => slot m (sh c 3) (hi o) fullShare) (sh_mod c 2)
theorem bar1 (c : Dev nD) : (barPay (sh c 1) 1 : sProp 𝕄)
    = iprop(rowE c (sh c 1) ∗ slotE c (hi (sh c 1)) ∗ slotE c (hi (sh c 2)) ∗ slotE c (hi (sh c 3))) := by
  unfold barPay; simp only [sh_sh]; rw [show 1 + 3 = 4 from rfl, sh_four]
theorem bar2 (c : Dev nD) : (barPay (sh c 2) 2 : sProp 𝕄) = rowE c (sh c 2) := by
  unfold barPay; simp only [sh_sh]; rw [show 2 + 2 = 4 from rfl, sh_four]
theorem bar3 (c : Dev nD) : (barPay (sh c 3) 3 : sProp 𝕄)
    = iprop(rowE c (sh c 3) ∗ slotE c (lo (sh c 3)) ∗ slotE c (lo (sh c 2)) ∗ slotE c (lo (sh c 1))) := by
  unfold barPay; simp only [sh_sh]
  rw [show 3 + 1 = 4 from rfl, sh_four, show 3 + 4 = 3 + 4 from rfl, sh_mod, show 3 + 3 = 2 + 4 from rfl, sh_mod, show 3 + 2 = 1 + 4 from rfl, sh_mod]

end Cert.KProof

end
-- ==== Proof.PartsA.lean ====
/-
The runs of the kernel's parts 4 to 9, each from what it uses to what it leaves.
-/
module

public import proofs.«01_k».proof.Proof.Facts

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ UU ℕ
variable (m : (ℓ : Loc nD τ sig) → Buf (Elt F) ℓ)

/-- The device puts its routes into its own row of the gathered routes. -/
theorem part4 (K : Dev nD × Fin 20 → ℕ) (c : Dev nD) (h0 : AX.IsWhole) (h1 : AR.IsWhole) (h2 : AW.IsWhole) (h3 : AO.IsWhole) (h4 : WA.IsWhole) (h5 : RA'.IsWhole) (h6 : XB.IsWhole)
    (v2 : BitVec 32) (v85 : BitVec 32) {Q : _ → sProp 𝕄} :
    iprop(wh c cc0_stg1_0 (rstg m c) ∗ rowE c c)
      ⊢ iprop(((wh c cc0_stg1_0 (rstg m c) ∗ row m c c fullShare) -∗ Q ⟨⟩)
        -∗ wp frame (wpE (defs₀ (F := F)) 𝒱₀ (c : Thread nD τ) none) Set.univ (k0_part4 (F := F) AX h0 AR h1 AW h2 AO h3 WA h4 RA' h5 XB h6 cc0_scratch3 cc0_scratch4 cc0_scratch5 cc0_scratch6 cc0_scratch7 cc0_scratch8 c v2 v85) Q) := by
  rw [k0_part4_eq_skeleton]; unfold k0_part4_skel
  simp only [Prog.lift, Prog.bind_op, Prog.bind_ret, Prog.pure_eq_ret]
  iintro ⟨Hwh_cc0_stg1_0, Hrow_c⟩ HQ
  iapply (wp_ldRt c (rstg m c) _) $$ [Hwh_cc0_stg1_0]
  · iexact Hwh_cc0_stg1_0
  iintro Hwh_cc0_stg1_0
  iapply (wp_ldRE c _ _ c (off1_row c)) $$ [Hrow_c]
  · iexact Hrow_c
  iintro %_ Hrow_c
  iapply (wp_stR m c _ _ c (off1_row c) _ (pay1_own m c _)) $$ [Hrow_c]
  · iexact Hrow_c
  iintro Hrow_c
  rw [wp_ret]; imodintro
  iapply HQ
  isplitl [Hwh_cc0_stg1_0]; · iexact Hwh_cc0_stg1_0
  iexact Hrow_c

/-- It sends its routes to the three other devices, lending a share of its row to each copy. -/
theorem part5 (K : Dev nD × Fin 20 → ℕ) (c : Dev nD) (h0 : AX.IsWhole) (h1 : AR.IsWhole) (h2 : AW.IsWhole) (h3 : AO.IsWhole) (h4 : WA.IsWhole) (h5 : RA'.IsWhole) (h6 : XB.IsWhole)
    (v2 : BitVec 32) {Q : _ → sProp 𝕄} :
    iprop(ctx m K ∗ ow c (rem c 3) ∗ tk (c, 13) 0 ∗ tk (sh c 1, (rk c)) 0 ∗ row m c c (rq 0) ∗ rowE (sh c 1) c ∗ tk (c, 14) 0 ∗ tk (sh c 2, (rk c)) 0 ∗ row m c c (rq 1) ∗ rowE (sh c 2) c ∗ tk (c, 15) 0 ∗ tk (sh c 3, (rk c)) 0 ∗ row m c c (rq 2) ∗ rowE (sh c 3) c ∗ wh c cc0_stg2_0 (wstg m c))
      ⊢ iprop(((ow c (rem c 6) ∗ wh c cc0_stg2_0 (wstg m c) ∗ cr c 13 ∗ cr c 14 ∗ cr c 15) -∗ Q (k0_pay2 (ldS m c ![0, 0, 0] inb_S4x512x1024_S2x512x1024_0_0_0)))
        -∗ wp frame (wpE (defs₀ (F := F)) 𝒱₀ (c : Thread nD τ) none) Set.univ (k0_part5 (F := F) AX h0 AR h1 AW h2 AO h3 WA h4 RA' h5 XB h6 cc0_scratch3 cc0_scratch4 cc0_scratch5 cc0_scratch6 cc0_scratch7 cc0_scratch8 c v2) Q) := by
  rw [k0_part5_eq_skeleton]; unfold k0_part5_skel
  simp only [Prog.lift, Prog.bind_op, Prog.bind_ret, Prog.pure_eq_ret]
  iintro ⟨#Hctx, HO, Htk__c_13__0, Htk__sh_c_1_rk_c__0, Hrowq_0, HrrowE_1, Htk__c_14__0, Htk__sh_c_2_rk_c__0, Hrowq_1, HrrowE_2, Htk__c_15__0, Htk__sh_c_3_rk_c__0, Hrowq_2, HrrowE_3, Hwh_cc0_stg2_0⟩ HQ
  iapply (wp_sendR m K c _ (sh c 1) (dev4_sh c) 13 (rk c) _ _ sem7_0 (sem8_own c) (duty_lt c 13 (by decide) (by decide)) (duty_rk (sh c 1) c (ne_sh c 1 (by decide))) (amtN_R (13 : Fin 20).val (by decide)) (amtN_R (rk c).val (by show ¬ 16 + c.val ≤ 12; omega)) _ _ (off3_row c) (rq 0) (pay_13 m c) (pay_rk m (sh c 1) c) (rem c 4)) $$ [HO Htk__c_13__0 Htk__sh_c_1_rk_c__0 Hrowq_0 HrrowE_1]
  · isplitr; · iexact Hctx
    isplitl [HO]; · iexact HO
    isplitl [Htk__c_13__0]; · iexact Htk__c_13__0
    isplitl [Htk__sh_c_1_rk_c__0]; · iexact Htk__sh_c_1_rk_c__0
    isplitl [Hrowq_0]; · iexact Hrowq_0
    iexact HrrowE_1
  iintro ⟨Hcr_13, HO⟩
  iapply (wp_sendR m K c _ (sh c 2) (dev5_sh c) 14 (rk c) _ _ sem7_1 (sem8_own c) (duty_lt c 14 (by decide) (by decide)) (duty_rk (sh c 2) c (ne_sh c 2 (by decide))) (amtN_R (14 : Fin 20).val (by decide)) (amtN_R (rk c).val (by show ¬ 16 + c.val ≤ 12; omega)) _ _ (off3_row c) (rq 1) (pay_14 m c) (pay_rk m (sh c 2) c) (rem c 5)) $$ [HO Htk__c_14__0 Htk__sh_c_2_rk_c__0 Hrowq_1 HrrowE_2]
  · isplitr; · iexact Hctx
    isplitl [HO]; · iexact HO
    isplitl [Htk__c_14__0]; · iexact Htk__c_14__0
    isplitl [Htk__sh_c_2_rk_c__0]; · iexact Htk__sh_c_2_rk_c__0
    isplitl [Hrowq_1]; · iexact Hrowq_1
    iexact HrrowE_2
  iintro ⟨Hcr_14, HO⟩
  iapply (wp_sendR m K c _ (sh c 3) (dev6_sh c) 15 (rk c) _ _ sem7_2 (sem8_own c) (duty_lt c 15 (by decide) (by decide)) (duty_rk (sh c 3) c (ne_sh c 3 (by decide))) (amtN_R (15 : Fin 20).val (by decide)) (amtN_R (rk c).val (by show ¬ 16 + c.val ≤ 12; omega)) _ _ (off3_row c) (rq 2) (pay_15 m c) (pay_rk m (sh c 3) c) (rem c 6)) $$ [HO Htk__c_15__0 Htk__sh_c_3_rk_c__0 Hrowq_2 HrrowE_3]
  · isplitr; · iexact Hctx
    isplitl [HO]; · iexact HO
    isplitl [Htk__c_15__0]; · iexact Htk__c_15__0
    isplitl [Htk__sh_c_3_rk_c__0]; · iexact Htk__sh_c_3_rk_c__0
    isplitl [Hrowq_2]; · iexact Hrowq_2
    iexact HrrowE_3
  iintro ⟨Hcr_15, HO⟩
  iapply (wp_ldS m c _ _) $$ [Hwh_cc0_stg2_0]
  · iexact Hwh_cc0_stg2_0
  iintro Hwh_cc0_stg2_0
  rw [wp_ret]; imodintro
  iapply HQ
  isplitl [HO]; · iexact HO
  isplitl [Hwh_cc0_stg2_0]; · iexact Hwh_cc0_stg2_0
  isplitl [Hcr_13]; · iexact Hcr_13
  isplitl [Hcr_14]; · iexact Hcr_14
  iexact Hcr_15

/-- It puts its experts into its own pieces and sends the first pair to the right, the second to the left. -/
theorem part6 (K : Dev nD × Fin 20 → ℕ) (c : Dev nD) (h0 : AX.IsWhole) (h1 : AR.IsWhole) (h2 : AW.IsWhole) (h3 : AO.IsWhole) (h4 : WA.IsWhole) (h5 : RA'.IsWhole) (h6 : XB.IsWhole)
    (v2 : BitVec 32) (v5 : BitVec 32) (v7 : BitVec 32) {Q : _ → sProp 𝕄} :
    iprop(ctx m K ∗ slotE c (lo (sh c 4)) ∗ ow c (rem c 6) ∗ tk (c, 1) 0 ∗ tk (sh c 1, 4) 0 ∗ slotE (sh c 1) (lo (sh c 4)) ∗ wh c cc0_stg2_0 (wstg m c) ∗ slotE c (hi (sh c 0)) ∗ tk (c, 7) 0 ∗ tk (sh c 3, 10) 0 ∗ slotE (sh c 3) (hi (sh c 0)))
      ⊢ iprop(((slot m c (lo (sh c 4)) fullShare.right ∗ ow c (rem c 8) ∗ wh c cc0_stg2_0 (wstg m c) ∗ slot m c (hi (sh c 0)) fullShare.right ∗ cr c 1 ∗ cr c 7) -∗ Q ⟨⟩)
        -∗ wp frame (wpE (defs₀ (F := F)) 𝒱₀ (c : Thread nD τ) none) Set.univ (k0_part6 (F := F) AX h0 AR h1 AW h2 AO h3 WA h4 RA' h5 XB h6 cc0_scratch3 cc0_scratch4 cc0_scratch5 cc0_scratch6 cc0_scratch7 cc0_scratch8 c v2 v5 v7 (k0_pay2 (ldS m c ![0, 0, 0] inb_S4x512x1024_S2x512x1024_0_0_0))) Q) := by
  rw [k0_part6_eq_skeleton]; unfold k0_part6_skel
  simp only [Prog.lift, Prog.bind_op, Prog.bind_ret, Prog.pure_eq_ret]
  iintro ⟨#Hctx, Hslot__lo_4, HO, Htk__c_1__0, Htk__sh_c_1_4__0, HrslotE_1__lo_4, Hwh_cc0_stg2_0, Hslot__hi_0, Htk__c_7__0, Htk__sh_c_3_10__0, HrslotE_3__hi_0⟩ HQ
  iapply (wp_ldWE c _ _ (lo (sh c 4)) (off4_lo c)) $$ [Hslot__lo_4]
  · iexact Hslot__lo_4
  iintro %_ Hslot__lo_4
  iapply (wp_stW m c _ _ (lo (sh c 4)) (off4_lo c) _ (pay3_own m c _ _)) $$ [Hslot__lo_4]
  · iexact Hslot__lo_4
  iintro Hslot__lo_4
  ihave Hslot__lo_4 := (slot_split m c (lo (sh c 4))) $$ Hslot__lo_4
  icases Hslot__lo_4 with ⟨Hlend, Hslot__lo_4⟩
  iapply (wp_sendW m K c _ (sh c 1) (dev7_sh c) 1 4 _ _ sem3_0 sem4_0 (duty_lt c 1 (by decide) (by decide)) (duty_lt (sh c 1) 4 (by decide) (by decide)) (amtN_W (1 : Fin 20).val (by decide) (by decide)) (amtN_W (4 : Fin 20).val (by decide) (by decide)) _ _ (lo (sh c 4)) (off5_0 c) (pay_1 m c) (payr_4 m c) (rem c 7)) $$ [HO Htk__c_1__0 Htk__sh_c_1_4__0 Hlend HrslotE_1__lo_4]
  · isplitr; · iexact Hctx
    isplitl [HO]; · iexact HO
    isplitl [Htk__c_1__0]; · iexact Htk__c_1__0
    isplitl [Htk__sh_c_1_4__0]; · iexact Htk__sh_c_1_4__0
    isplitl [Hlend]; · iexact Hlend
    iexact HrslotE_1__lo_4
  iintro ⟨Hcr_1, HO⟩
  iapply (wp_ldS m c _ _) $$ [Hwh_cc0_stg2_0]
  · iexact Hwh_cc0_stg2_0
  iintro Hwh_cc0_stg2_0
  iapply (wp_ldWE c _ _ (hi (sh c 0)) (off4_hi c)) $$ [Hslot__hi_0]
  · iexact Hslot__hi_0
  iintro %_ Hslot__hi_0
  iapply (wp_stW m c _ _ (hi (sh c 0)) (off4_hi c) _ (pay4_own m c _ _)) $$ [Hslot__hi_0]
  · iexact Hslot__hi_0
  iintro Hslot__hi_0
  ihave Hslot__hi_0 := (slot_split m c (hi (sh c 0))) $$ Hslot__hi_0
  icases Hslot__hi_0 with ⟨Hlend, Hslot__hi_0⟩
  iapply (wp_sendW m K c _ (sh c 3) (dev8_sh c) 7 10 _ _ sem5_0 sem6_0 (duty_lt c 7 (by decide) (by decide)) (duty_lt (sh c 3) 10 (by decide) (by decide)) (amtN_W (7 : Fin 20).val (by decide) (by decide)) (amtN_W (10 : Fin 20).val (by decide) (by decide)) _ _ (hi (sh c 0)) (off6_0 c) (pay_7 m c) (payl_10 m c) (rem c 8)) $$ [HO Htk__c_7__0 Htk__sh_c_3_10__0 Hlend HrslotE_3__hi_0]
  · isplitr; · iexact Hctx
    isplitl [HO]; · iexact HO
    isplitl [Htk__c_7__0]; · iexact Htk__c_7__0
    isplitl [Htk__sh_c_3_10__0]; · iexact Htk__sh_c_3_10__0
    isplitl [Hlend]; · iexact Hlend
    iexact HrslotE_3__hi_0
  iintro ⟨Hcr_7, HO⟩
  rw [wp_ret]; imodintro
  iapply HQ
  isplitl [Hslot__lo_4]; · iexact Hslot__lo_4
  isplitl [HO]; · iexact HO
  isplitl [Hwh_cc0_stg2_0]; · iexact Hwh_cc0_stg2_0
  isplitl [Hslot__hi_0]; · iexact Hslot__hi_0
  isplitl [Hcr_1]; · iexact Hcr_1
  iexact Hcr_7

/-- It receives the three other devices' routes. -/
theorem part7 (K : Dev nD × Fin 20 → ℕ) (c : Dev nD) (h0 : AX.IsWhole) (h1 : AR.IsWhole) (h2 : AW.IsWhole) (h3 : AO.IsWhole) (h4 : WA.IsWhole) (h5 : RA'.IsWhole) (h6 : XB.IsWhole)
    (v2 : BitVec 32) {Q : _ → sProp 𝕄} :
    iprop(ctx m K ∗ ow c (rem c 8) ∗ cr c (rk (sh c 1)) ∗ pos c (rk (sh c 1)) ∗ cr c (rk (sh c 2)) ∗ pos c (rk (sh c 2)) ∗ cr c (rk (sh c 3)) ∗ pos c (rk (sh c 3)) ∗ wh c cc0_stg1_0 (rstg m c))
      ⊢ iprop(((ow c (rem c 8) ∗ wh c cc0_stg1_0 (rstg m c) ∗ zz c (rk (sh c 1)) ∗ row m c (sh c 1) fullShare ∗ zz c (rk (sh c 2)) ∗ row m c (sh c 2) fullShare ∗ zz c (rk (sh c 3)) ∗ row m c (sh c 3) fullShare) -∗ Q ⟨(iota .tc S1024x16 32 [1] iota_S1024x16_d1_w32), k0_pay5 (rstg m c), k0_pay7 (rstg m c), k0_pay8 (rstg m c)⟩)
        -∗ wp frame (wpE (defs₀ (F := F)) 𝒱₀ (c : Thread nD τ) none) Set.univ (k0_part7 (F := F) AX h0 AR h1 AW h2 AO h3 WA h4 RA' h5 XB h6 cc0_scratch3 cc0_scratch4 cc0_scratch5 cc0_scratch6 cc0_scratch7 cc0_scratch8 c v2) Q) := by
  rw [k0_part7_eq_skeleton]; unfold k0_part7_skel
  simp only [Prog.lift, Prog.bind_op, Prog.bind_ret, Prog.pure_eq_ret]
  iintro ⟨#Hctx, HO, Hcr__rk_sh_c_1, Hpos__rk_sh_c_1, Hcr__rk_sh_c_2, Hpos__rk_sh_c_2, Hcr__rk_sh_c_3, Hpos__rk_sh_c_3, Hwh_cc0_stg1_0⟩ HQ
  iapply (wp_dwait m K c (rk (sh c 1)) (duty_rk c (sh c 1) (sh_ne c 1 (by decide))) _ (sem8_1 c) (rem c 8) (fun ck h => Nat.lt_of_le_of_lt (lvN_rk _) (rem_lv8 c ck h)) ((rcred _ _).trans (amtN_R (rk (sh c 1)).val (by show ¬ 16 + (sh c 1).val ≤ 12; omega)).symm)) $$ [Hcr__rk_sh_c_1 HO Hpos__rk_sh_c_1]
  · isplitr; · iexact Hctx
    isplitl [Hcr__rk_sh_c_1]; · iexact Hcr__rk_sh_c_1
    isplitl [HO]; · iexact HO
    iexact Hpos__rk_sh_c_1
  iintro ⟨HO, Hzz__rk_sh_c_1, Hrow__sh_c_1⟩
  ihave Hrow__sh_c_1 := (Entails.of_eq (pay_rk m c (sh c 1))) $$ Hrow__sh_c_1
  iapply (wp_dwait m K c (rk (sh c 2)) (duty_rk c (sh c 2) (sh_ne c 2 (by decide))) _ (sem8_2 c) (rem c 8) (fun ck h => Nat.lt_of_le_of_lt (lvN_rk _) (rem_lv8 c ck h)) ((rcred _ _).trans (amtN_R (rk (sh c 2)).val (by show ¬ 16 + (sh c 2).val ≤ 12; omega)).symm)) $$ [Hcr__rk_sh_c_2 HO Hpos__rk_sh_c_2]
  · isplitr; · iexact Hctx
    isplitl [Hcr__rk_sh_c_2]; · iexact Hcr__rk_sh_c_2
    isplitl [HO]; · iexact HO
    iexact Hpos__rk_sh_c_2
  iintro ⟨HO, Hzz__rk_sh_c_2, Hrow__sh_c_2⟩
  ihave Hrow__sh_c_2 := (Entails.of_eq (pay_rk m c (sh c 2))) $$ Hrow__sh_c_2
  iapply (wp_dwait m K c (rk (sh c 3)) (duty_rk c (sh c 3) (sh_ne c 3 (by decide))) _ (sem8_3 c) (rem c 8) (fun ck h => Nat.lt_of_le_of_lt (lvN_rk _) (rem_lv8 c ck h)) ((rcred _ _).trans (amtN_R (rk (sh c 3)).val (by show ¬ 16 + (sh c 3).val ≤ 12; omega)).symm)) $$ [Hcr__rk_sh_c_3 HO Hpos__rk_sh_c_3]
  · isplitr; · iexact Hctx
    isplitl [Hcr__rk_sh_c_3]; · iexact Hcr__rk_sh_c_3
    isplitl [HO]; · iexact HO
    iexact Hpos__rk_sh_c_3
  iintro ⟨HO, Hzz__rk_sh_c_3, Hrow__sh_c_3⟩
  ihave Hrow__sh_c_3 := (Entails.of_eq (pay_rk m c (sh c 3))) $$ Hrow__sh_c_3
  iapply (wp_ldRt c (rstg m c) _) $$ [Hwh_cc0_stg1_0]
  · iexact Hwh_cc0_stg1_0
  iintro Hwh_cc0_stg1_0
  rw [wp_ret]; imodintro
  iapply HQ
  isplitl [HO]; · iexact HO
  isplitl [Hwh_cc0_stg1_0]; · iexact Hwh_cc0_stg1_0
  isplitl [Hzz__rk_sh_c_1]; · iexact Hzz__rk_sh_c_1
  isplitl [Hrow__sh_c_1]; · iexact Hrow__sh_c_1
  isplitl [Hzz__rk_sh_c_2]; · iexact Hzz__rk_sh_c_2
  isplitl [Hrow__sh_c_2]; · iexact Hrow__sh_c_2
  isplitl [Hzz__rk_sh_c_3]; · iexact Hzz__rk_sh_c_3
  iexact Hrow__sh_c_3

/-- It reads the first three rows of routes. -/
theorem part8 (K : Dev nD × Fin 20 → ℕ) (c : Dev nD) (h0 : AX.IsWhole) (h1 : AR.IsWhole) (h2 : AW.IsWhole) (h3 : AO.IsWhole) (h4 : WA.IsWhole) (h5 : RA'.IsWhole) (h6 : XB.IsWhole)
    (v2 : BitVec 32) (v198 : IVec S1024x16 32) (v205 : IVec S1024x16 32) {Q : _ → sProp 𝕄} :
    iprop(row m c 0 (rowq c 0) ∗ row m c 1 (rowq c 1) ∗ row m c 2 (rowq c 2))
      ⊢ iprop(((row m c 0 (rowq c 0) ∗ row m c 1 (rowq c 1) ∗ row m c 2 (rowq c 2)) -∗ Q ⟨k0_pay9 (F := F) v205, k0_pay10 v2 v198 (ldR m ![0, 0, 0] inb_S4x1024x1_S1x1024x1_0_0_0) (ldR m ![1, 0, 0] inb_S4x1024x1_S1x1024x1_1_0_0) (ldR m ![2, 0, 0] inb_S4x1024x1_S1x1024x1_2_0_0)⟩)
        -∗ wp frame (wpE (defs₀ (F := F)) 𝒱₀ (c : Thread nD τ) none) Set.univ (k0_part8 (F := F) AX h0 AR h1 AW h2 AO h3 WA h4 RA' h5 XB h6 cc0_scratch3 cc0_scratch4 cc0_scratch5 cc0_scratch6 cc0_scratch7 cc0_scratch8 v2 v198 v205) Q) := by
  rw [k0_part8_eq_skeleton]; unfold k0_part8_skel
  simp only [Prog.lift, Prog.bind_op, Prog.bind_ret, Prog.pure_eq_ret]
  iintro ⟨Hrowl_0, Hrowl_1, Hrowl_2⟩ HQ
  iapply (wp_ldR m c ![0, 0, 0] inb_S4x1024x1_S1x1024x1_0_0_0 0 rfl (rowq c 0)) $$ [Hrowl_0]
  · iexact Hrowl_0
  iintro Hrowl_0
  iapply (wp_ldR m c ![1, 0, 0] inb_S4x1024x1_S1x1024x1_1_0_0 1 rfl (rowq c 1)) $$ [Hrowl_1]
  · iexact Hrowl_1
  iintro Hrowl_1
  iapply (wp_ldR m c ![2, 0, 0] inb_S4x1024x1_S1x1024x1_2_0_0 2 rfl (rowq c 2)) $$ [Hrowl_2]
  · iexact Hrowl_2
  iintro Hrowl_2
  rw [wp_ret]; imodintro
  iapply HQ
  isplitl [Hrowl_0]; · iexact Hrowl_0
  isplitl [Hrowl_1]; · iexact Hrowl_1
  iexact Hrowl_2

/-- It reads the fourth row of routes and converts its tokens. -/
theorem part9 (K : Dev nD × Fin 20 → ℕ) (c : Dev nD) (h0 : AX.IsWhole) (h1 : AR.IsWhole) (h2 : AW.IsWhole) (h3 : AO.IsWhole) (h4 : WA.IsWhole) (h5 : RA'.IsWhole) (h6 : XB.IsWhole)
    (v2 : BitVec 32) (v198 : IVec S1024x16 32) (v200 : IVec S1024x1 32) (v204 : FVec F S1024x16 .f32) (v207 : FVec F S1024x16 .bf16) (v244 : FVec F S1x16 .f32) (X : Vec F S1024x512 .bf16) {Q : _ → sProp 𝕄} :
    iprop(row m c 3 (rowq c 3) ∗ wh c cc0_stg0_0 (xstg m c) ∗ wh c cc0_scratch2 X)
      ⊢ iprop(((row m c 3 (rowq c 3) ∗ wh c cc0_stg0_0 (xstg m c) ∗ wh c cc0_scratch2 (k0_pay12 (xstg m c))) -∗ Q ⟨k0_pay11 v2 v198 v204 v207 v244 (ldR m ![3, 0, 0] inb_S4x1024x1_S1x1024x1_3_0_0), (Scalar.addi (Scalar.muli v2 4#32) 0#32), k0_pay13 v2 v198 v200 v204 v207 v244 (ldR m ![3, 0, 0] inb_S4x1024x1_S1x1024x1_3_0_0)⟩)
        -∗ wp frame (wpE (defs₀ (F := F)) 𝒱₀ (c : Thread nD τ) none) Set.univ (k0_part9 (F := F) AX h0 AR h1 AW h2 AO h3 WA h4 RA' h5 XB h6 cc0_scratch3 cc0_scratch4 cc0_scratch5 cc0_scratch6 cc0_scratch7 cc0_scratch8 v2 v198 v200 v204 v207 v244) Q) := by
  rw [k0_part9_eq_skeleton]; unfold k0_part9_skel
  simp only [Prog.lift, Prog.bind_op, Prog.bind_ret, Prog.pure_eq_ret]
  iintro ⟨Hrowl_3, Hwh_cc0_stg0_0, Hwh_cc0_scratch2⟩ HQ
  iapply (wp_ldR m c ![3, 0, 0] inb_S4x1024x1_S1x1024x1_3_0_0 3 rfl (rowq c 3)) $$ [Hrowl_3]
  · iexact Hrowl_3
  iintro Hrowl_3
  iapply (wp_ldX c (xstg m c) _) $$ [Hwh_cc0_stg0_0]
  · iexact Hwh_cc0_stg0_0
  iintro Hwh_cc0_stg0_0
  iapply (wp_ldB c X _) $$ [Hwh_cc0_scratch2]
  · iexact Hwh_cc0_scratch2
  iintro Hwh_cc0_scratch2
  iapply (wp_stB c X _ _) $$ [Hwh_cc0_scratch2]
  · iexact Hwh_cc0_scratch2
  iintro Hwh_cc0_scratch2
  rw [wp_ret]; imodintro
  iapply HQ
  isplitl [Hrowl_3]; · iexact Hrowl_3
  isplitl [Hwh_cc0_stg0_0]; · iexact Hwh_cc0_stg0_0
  iexact Hwh_cc0_scratch2

end Cert.KProof

end
-- ==== Proof.PartsB.lean ====
/-
The runs of the kernel's parts 10 to 15, each from what it uses to what it leaves.
-/
module

public import proofs.«01_k».proof.Proof.Facts

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ UU ℕ
variable (m : (ℓ : Loc nD τ sig) → Buf (Elt F) ℓ)

/-- It adds the products of its own first two experts. -/
theorem part10 (K : Dev nD × Fin 20 → ℕ) (c : Dev nD) (h0 : AX.IsWhole) (h1 : AR.IsWhole) (h2 : AW.IsWhole) (h3 : AO.IsWhole) (h4 : WA.IsWhole) (h5 : RA'.IsWhole) (h6 : XB.IsWhole)
    (v2 : BitVec 32) (v200 : IVec S1024x1 32) (v276 : FVec F S1024x1 .bf16) (v283 : BitVec 32) (v289 : FVec F S1024x1 .bf16) (X : Vec F S1024x512 .bf16) (O : Vec F S1024x1024 .f32) {Q : _ → sProp 𝕄} :
    iprop(slot m c (lo (sh c 4)) fullShare.right ∗ wh c cc0_scratch2 X ∗ wh c cc0_stg3_0 O)
      ⊢ iprop(((slot m c (lo (sh c 4)) fullShare.right ∗ wh c cc0_scratch2 X ∗ wh c cc0_stg3_0 (k0_pay15 v2 v200 v276 (ldW m (k0_off9 c 1#32) (k0_off9_inb c 1)) X (k0_pay14 v289 (ldW m (k0_off9 c 0#32) (k0_off9_inb c 0)) X))) -∗ Q (k0_pay16 v2 v200 v276))
        -∗ wp frame (wpE (defs₀ (F := F)) 𝒱₀ (c : Thread nD τ) none) Set.univ (k0_part10 (F := F) AX h0 AR h1 AW h2 AO h3 WA h4 RA' h5 XB h6 cc0_scratch3 cc0_scratch4 cc0_scratch5 cc0_scratch6 cc0_scratch7 cc0_scratch8 c v2 v200 v276 v283 v289) Q) := by
  rw [k0_part10_eq_skeleton]; unfold k0_part10_skel
  simp only [Prog.lift, Prog.bind_op, Prog.bind_ret, Prog.pure_eq_ret]
  iintro ⟨Hslot__lo_4, Hwh_cc0_scratch2, Hwh_cc0_stg3_0⟩ HQ
  iapply (wp_ldW m c _ _ (lo (sh c 4)) 0 (by decide) (off9_0 c) fullShare.right) $$ [Hslot__lo_4]
  · iexact Hslot__lo_4
  iintro Hslot__lo_4
  iapply (wp_ldB c X _) $$ [Hwh_cc0_scratch2]
  · iexact Hwh_cc0_scratch2
  iintro Hwh_cc0_scratch2
  iapply (wp_ldO c O _) $$ [Hwh_cc0_stg3_0]
  · iexact Hwh_cc0_stg3_0
  iintro Hwh_cc0_stg3_0
  iapply (wp_stO c O _ _) $$ [Hwh_cc0_stg3_0]
  · iexact Hwh_cc0_stg3_0
  iintro Hwh_cc0_stg3_0
  iapply (wp_ldW m c _ _ (lo (sh c 4)) 1 (by decide) (off9_1 c) fullShare.right) $$ [Hslot__lo_4]
  · iexact Hslot__lo_4
  iintro Hslot__lo_4
  iapply (wp_ldB c X _) $$ [Hwh_cc0_scratch2]
  · iexact Hwh_cc0_scratch2
  iintro Hwh_cc0_scratch2
  iapply (wp_ldO c (k0_pay14 v289 (ldW m (k0_off9 c 0#32) (k0_off9_inb c 0)) X) _) $$ [Hwh_cc0_stg3_0]
  · iexact Hwh_cc0_stg3_0
  iintro Hwh_cc0_stg3_0
  iapply (wp_ldO c (k0_pay14 v289 (ldW m (k0_off9 c 0#32) (k0_off9_inb c 0)) X) _) $$ [Hwh_cc0_stg3_0]
  · iexact Hwh_cc0_stg3_0
  iintro Hwh_cc0_stg3_0
  iapply (wp_stO c (k0_pay14 v289 (ldW m (k0_off9 c 0#32) (k0_off9_inb c 0)) X) _ _) $$ [Hwh_cc0_stg3_0]
  · iexact Hwh_cc0_stg3_0
  iintro Hwh_cc0_stg3_0
  rw [wp_ret]; imodintro
  iapply HQ
  isplitl [Hslot__lo_4]; · iexact Hslot__lo_4
  isplitl [Hwh_cc0_scratch2]; · iexact Hwh_cc0_scratch2
  iexact Hwh_cc0_stg3_0

/-- It adds the products of its own last two experts. -/
theorem part11 (K : Dev nD × Fin 20 → ℕ) (c : Dev nD) (h0 : AX.IsWhole) (h1 : AR.IsWhole) (h2 : AW.IsWhole) (h3 : AO.IsWhole) (h4 : WA.IsWhole) (h5 : RA'.IsWhole) (h6 : XB.IsWhole)
    (v2 : BitVec 32) (v5 : BitVec 32) (v200 : IVec S1024x1 32) (v276 : FVec F S1024x1 .bf16) (v324 : FVec F S1024x1 .bf16) (X : Vec F S1024x512 .bf16) (O : Vec F S1024x1024 .f32) {Q : _ → sProp 𝕄} :
    iprop(slot m c (hi (sh c 0)) fullShare.right ∗ wh c cc0_scratch2 X ∗ wh c cc0_stg3_0 O)
      ⊢ iprop(((slot m c (hi (sh c 0)) fullShare.right ∗ wh c cc0_scratch2 X ∗ wh c cc0_stg3_0 (k0_pay18 v2 v200 v276 (ldW m (k0_off9 c 3#32) (k0_off9_inb c 3)) X (k0_pay17 v324 (ldW m (k0_off9 c 2#32) (k0_off9_inb c 2)) X O))) -∗ Q ⟨⟩)
        -∗ wp frame (wpE (defs₀ (F := F)) 𝒱₀ (c : Thread nD τ) none) Set.univ (k0_part11 (F := F) AX h0 AR h1 AW h2 AO h3 WA h4 RA' h5 XB h6 cc0_scratch3 cc0_scratch4 cc0_scratch5 cc0_scratch6 cc0_scratch7 cc0_scratch8 c v2 v5 v200 v276 v324) Q) := by
  rw [k0_part11_eq_skeleton]; unfold k0_part11_skel
  simp only [Prog.lift, Prog.bind_op, Prog.bind_ret, Prog.pure_eq_ret]
  iintro ⟨Hslot__hi_0, Hwh_cc0_scratch2, Hwh_cc0_stg3_0⟩ HQ
  iapply (wp_ldW m c _ _ (hi (sh c 0)) 0 (by decide) (off9_2 c) fullShare.right) $$ [Hslot__hi_0]
  · iexact Hslot__hi_0
  iintro Hslot__hi_0
  iapply (wp_ldB c X _) $$ [Hwh_cc0_scratch2]
  · iexact Hwh_cc0_scratch2
  iintro Hwh_cc0_scratch2
  iapply (wp_ldO c O _) $$ [Hwh_cc0_stg3_0]
  · iexact Hwh_cc0_stg3_0
  iintro Hwh_cc0_stg3_0
  iapply (wp_ldO c O _) $$ [Hwh_cc0_stg3_0]
  · iexact Hwh_cc0_stg3_0
  iintro Hwh_cc0_stg3_0
  iapply (wp_stO c O _ _) $$ [Hwh_cc0_stg3_0]
  · iexact Hwh_cc0_stg3_0
  iintro Hwh_cc0_stg3_0
  iapply (wp_ldW m c _ _ (hi (sh c 0)) 1 (by decide) (off9_3 c) fullShare.right) $$ [Hslot__hi_0]
  · iexact Hslot__hi_0
  iintro Hslot__hi_0
  iapply (wp_ldB c X _) $$ [Hwh_cc0_scratch2]
  · iexact Hwh_cc0_scratch2
  iintro Hwh_cc0_scratch2
  iapply (wp_ldO c (k0_pay17 v324 (ldW m (k0_off9 c 2#32) (k0_off9_inb c 2)) X O) _) $$ [Hwh_cc0_stg3_0]
  · iexact Hwh_cc0_stg3_0
  iintro Hwh_cc0_stg3_0
  iapply (wp_ldO c (k0_pay17 v324 (ldW m (k0_off9 c 2#32) (k0_off9_inb c 2)) X O) _) $$ [Hwh_cc0_stg3_0]
  · iexact Hwh_cc0_stg3_0
  iintro Hwh_cc0_stg3_0
  iapply (wp_stO c (k0_pay17 v324 (ldW m (k0_off9 c 2#32) (k0_off9_inb c 2)) X O) _ _) $$ [Hwh_cc0_stg3_0]
  · iexact Hwh_cc0_stg3_0
  iintro Hwh_cc0_stg3_0
  rw [wp_ret]; imodintro
  iapply HQ
  isplitl [Hslot__hi_0]; · iexact Hslot__hi_0
  isplitl [Hwh_cc0_scratch2]; · iexact Hwh_cc0_scratch2
  iexact Hwh_cc0_stg3_0

/-- It receives the first pieces from both neighbours and passes them on. -/
theorem part12 (K : Dev nD × Fin 20 → ℕ) (c : Dev nD) (h0 : AX.IsWhole) (h1 : AR.IsWhole) (h2 : AW.IsWhole) (h3 : AO.IsWhole) (h4 : WA.IsWhole) (h5 : RA'.IsWhole) (h6 : XB.IsWhole)
    (v2 : BitVec 32) (v5 : BitVec 32) (v7 : BitVec 32) {Q : _ → sProp 𝕄} :
    iprop(ctx m K ∗ ow c (rem c 8) ∗ cr c 4 ∗ pos c 4 ∗ cr c 10 ∗ pos c 10 ∗ tk (c, 2) 0 ∗ tk (sh c 1, 5) 0 ∗ slotE (sh c 1) (lo (sh c 3)) ∗ tk (c, 8) 0 ∗ tk (sh c 3, 11) 0 ∗ slotE (sh c 3) (hi (sh c 1)))
      ⊢ iprop(((ow c (rem c 10) ∗ zz c 4 ∗ slot m c (lo (sh c 3)) fullShare.right ∗ zz c 10 ∗ slot m c (hi (sh c 1)) fullShare.right ∗ cr c 2 ∗ cr c 8) -∗ Q ⟨(Scalar.addi (Scalar.subi (Scalar.subi v2 0#32) 1#32) 4#32), 4#32⟩)
        -∗ wp frame (wpE (defs₀ (F := F)) 𝒱₀ (c : Thread nD τ) none) Set.univ (k0_part12 (F := F) AX h0 AR h1 AW h2 AO h3 WA h4 RA' h5 XB h6 cc0_scratch3 cc0_scratch4 cc0_scratch5 cc0_scratch6 cc0_scratch7 cc0_scratch8 c v2 v5 v7) Q) := by
  rw [k0_part12_eq_skeleton]; unfold k0_part12_skel
  simp only [Prog.lift, Prog.bind_op, Prog.bind_ret, Prog.pure_eq_ret]
  iintro ⟨#Hctx, HO, Hcr_4, Hpos_4, Hcr_10, Hpos_10, Htk__c_2__0, Htk__sh_c_1_5__0, HrslotE_1__lo_3, Htk__c_8__0, Htk__sh_c_3_11__0, HrslotE_3__hi_1⟩ HQ
  iapply (wp_dwait m K c 4 (duty_lt c 4 (by decide) (by decide)) _ sem4_0 (rem c 8) (fun ck h => Nat.lt_of_le_of_lt (by decide) (rem_lv8 c ck h)) ((wcred _ _).trans (amtN_W (4 : Fin 20).val (by decide) (by decide)).symm)) $$ [Hcr_4 HO Hpos_4]
  · isplitr; · iexact Hctx
    isplitl [Hcr_4]; · iexact Hcr_4
    isplitl [HO]; · iexact HO
    iexact Hpos_4
  iintro ⟨HO, Hzz_4, Hslot__lo_3⟩
  ihave Hslot__lo_3 := (Entails.of_eq (pay_4 m c)) $$ Hslot__lo_3
  iapply (wp_dwait m K c 10 (duty_lt c 10 (by decide) (by decide)) _ sem6_0 (rem c 8) (fun ck h => Nat.lt_of_le_of_lt (by decide) (rem_lv8 c ck h)) ((wcred _ _).trans (amtN_W (10 : Fin 20).val (by decide) (by decide)).symm)) $$ [Hcr_10 HO Hpos_10]
  · isplitr; · iexact Hctx
    isplitl [Hcr_10]; · iexact Hcr_10
    isplitl [HO]; · iexact HO
    iexact Hpos_10
  iintro ⟨HO, Hzz_10, Hslot__hi_1⟩
  ihave Hslot__hi_1 := (Entails.of_eq (pay_10 m c)) $$ Hslot__hi_1
  ihave Hslot__lo_3 := (slot_split m c (lo (sh c 3))) $$ Hslot__lo_3
  icases Hslot__lo_3 with ⟨Hlend, Hslot__lo_3⟩
  iapply (wp_sendW m K c _ (sh c 1) (dev9_sh c) 2 5 _ _ sem3_1 sem4_1 (duty_lt c 2 (by decide) (by decide)) (duty_lt (sh c 1) 5 (by decide) (by decide)) (amtN_W (2 : Fin 20).val (by decide) (by decide)) (amtN_W (5 : Fin 20).val (by decide) (by decide)) _ _ (lo (sh c 3)) (off5_1 c) (pay_2 m c) (payr_5 m c) (rem c 9)) $$ [HO Htk__c_2__0 Htk__sh_c_1_5__0 Hlend HrslotE_1__lo_3]
  · isplitr; · iexact Hctx
    isplitl [HO]; · iexact HO
    isplitl [Htk__c_2__0]; · iexact Htk__c_2__0
    isplitl [Htk__sh_c_1_5__0]; · iexact Htk__sh_c_1_5__0
    isplitl [Hlend]; · iexact Hlend
    iexact HrslotE_1__lo_3
  iintro ⟨Hcr_2, HO⟩
  ihave Hslot__hi_1 := (slot_split m c (hi (sh c 1))) $$ Hslot__hi_1
  icases Hslot__hi_1 with ⟨Hlend, Hslot__hi_1⟩
  iapply (wp_sendW m K c _ (sh c 3) (dev10_sh c) 8 11 _ _ sem5_1 sem6_1 (duty_lt c 8 (by decide) (by decide)) (duty_lt (sh c 3) 11 (by decide) (by decide)) (amtN_W (8 : Fin 20).val (by decide) (by decide)) (amtN_W (11 : Fin 20).val (by decide) (by decide)) _ _ (hi (sh c 1)) (off6_1 c) (pay_8 m c) (payl_11 m c) (rem c 10)) $$ [HO Htk__c_8__0 Htk__sh_c_3_11__0 Hlend HrslotE_3__hi_1]
  · isplitr; · iexact Hctx
    isplitl [HO]; · iexact HO
    isplitl [Htk__c_8__0]; · iexact Htk__c_8__0
    isplitl [Htk__sh_c_3_11__0]; · iexact Htk__sh_c_3_11__0
    isplitl [Hlend]; · iexact Hlend
    iexact HrslotE_3__hi_1
  iintro ⟨Hcr_8, HO⟩
  rw [wp_ret]; imodintro
  iapply HQ
  isplitl [HO]; · iexact HO
  isplitl [Hzz_4]; · iexact Hzz_4
  isplitl [Hslot__lo_3]; · iexact Hslot__lo_3
  isplitl [Hzz_10]; · iexact Hzz_10
  isplitl [Hslot__hi_1]; · iexact Hslot__hi_1
  isplitl [Hcr_2]; · iexact Hcr_2
  iexact Hcr_8

/-- It adds a product of the first piece from the left. -/
theorem part13 (K : Dev nD × Fin 20 → ℕ) (c : Dev nD) (h0 : AX.IsWhole) (h1 : AR.IsWhole) (h2 : AW.IsWhole) (h3 : AO.IsWhole) (h4 : WA.IsWhole) (h5 : RA'.IsWhole) (h6 : XB.IsWhole)
    (v2 : BitVec 32) (v200 : IVec S1024x1 32) (v276 : FVec F S1024x1 .bf16) (v385 : BitVec 32) (c4_i32_297 : BitVec 32) (X : Vec F S1024x512 .bf16) (O : Vec F S1024x1024 .f32) {Q : _ → sProp 𝕄} :
    iprop(slot m c (lo (sh c 3)) fullShare.right ∗ wh c cc0_scratch2 X ∗ wh c cc0_stg3_0 O)
      ⊢ iprop(((slot m c (lo (sh c 3)) fullShare.right ∗ wh c cc0_scratch2 X ∗ wh c cc0_stg3_0 (k0_pay19 v200 v276 v385 c4_i32_297 (ldW m (k0_off12 c 0#32 0#32) (k0_off12_inb c 0 0)) X O)) -∗ Q ⟨(Scalar.remsi (Scalar.addi (Scalar.addi v2 0#32) 1#32) 4#32), k0_pay20 v200 v276 v385 c4_i32_297 (ldW m (k0_off12 c 0#32 1#32) (k0_off12_inb c 0 1)) X⟩)
        -∗ wp frame (wpE (defs₀ (F := F)) 𝒱₀ (c : Thread nD τ) none) Set.univ (k0_part13 (F := F) AX h0 AR h1 AW h2 AO h3 WA h4 RA' h5 XB h6 cc0_scratch3 cc0_scratch4 cc0_scratch5 cc0_scratch6 cc0_scratch7 cc0_scratch8 c v2 v200 v276 v385 c4_i32_297) Q) := by
  rw [k0_part13_eq_skeleton]; unfold k0_part13_skel
  simp only [Prog.lift, Prog.bind_op, Prog.bind_ret, Prog.pure_eq_ret]
  iintro ⟨Hslot__lo_3, Hwh_cc0_scratch2, Hwh_cc0_stg3_0⟩ HQ
  iapply (wp_ldW m c _ _ (lo (sh c 3)) 0 (by decide) (off12_00 c) fullShare.right) $$ [Hslot__lo_3]
  · iexact Hslot__lo_3
  iintro Hslot__lo_3
  iapply (wp_ldB c X _) $$ [Hwh_cc0_scratch2]
  · iexact Hwh_cc0_scratch2
  iintro Hwh_cc0_scratch2
  iapply (wp_ldO c O _) $$ [Hwh_cc0_stg3_0]
  · iexact Hwh_cc0_stg3_0
  iintro Hwh_cc0_stg3_0
  iapply (wp_ldO c O _) $$ [Hwh_cc0_stg3_0]
  · iexact Hwh_cc0_stg3_0
  iintro Hwh_cc0_stg3_0
  iapply (wp_stO c O _ _) $$ [Hwh_cc0_stg3_0]
  · iexact Hwh_cc0_stg3_0
  iintro Hwh_cc0_stg3_0
  iapply (wp_ldW m c _ _ (lo (sh c 3)) 1 (by decide) (off12_01 c) fullShare.right) $$ [Hslot__lo_3]
  · iexact Hslot__lo_3
  iintro Hslot__lo_3
  iapply (wp_ldB c X _) $$ [Hwh_cc0_scratch2]
  · iexact Hwh_cc0_scratch2
  iintro Hwh_cc0_scratch2
  rw [wp_ret]; imodintro
  iapply HQ
  isplitl [Hslot__lo_3]; · iexact Hslot__lo_3
  isplitl [Hwh_cc0_scratch2]; · iexact Hwh_cc0_scratch2
  iexact Hwh_cc0_stg3_0

/-- It adds a product of each of the two first pieces. -/
theorem part14 (K : Dev nD × Fin 20 → ℕ) (c : Dev nD) (h0 : AX.IsWhole) (h1 : AR.IsWhole) (h2 : AW.IsWhole) (h3 : AO.IsWhole) (h4 : WA.IsWhole) (h5 : RA'.IsWhole) (h6 : XB.IsWhole)
    (v200 : IVec S1024x1 32) (v276 : FVec F S1024x1 .bf16) (v389 : BitVec 32) (v423 : FVec F S1024x1024 .f32) (X : Vec F S1024x512 .bf16) (O : Vec F S1024x1024 .f32) {Q : _ → sProp 𝕄} :
    iprop(wh c cc0_stg3_0 O ∗ slot m c (hi (sh c 1)) fullShare.right ∗ wh c cc0_scratch2 X)
      ⊢ iprop(((wh c cc0_stg3_0 (k0_pay22 v200 v276 v389 (ldW m (k0_off13 c 0#32 0#32) (k0_off13_inb c 0 0)) X (k0_pay21 v423 O)) ∗ slot m c (hi (sh c 1)) fullShare.right ∗ wh c cc0_scratch2 X) -∗ Q ⟨k0_pay23 v200 v276 v389, k0_pay24 (ldW m (k0_off13 c 0#32 1#32) (k0_off13_inb c 0 1))⟩)
        -∗ wp frame (wpE (defs₀ (F := F)) 𝒱₀ (c : Thread nD τ) none) Set.univ (k0_part14 (F := F) AX h0 AR h1 AW h2 AO h3 WA h4 RA' h5 XB h6 cc0_scratch3 cc0_scratch4 cc0_scratch5 cc0_scratch6 cc0_scratch7 cc0_scratch8 c v200 v276 v389 v423) Q) := by
  rw [k0_part14_eq_skeleton]; unfold k0_part14_skel
  simp only [Prog.lift, Prog.bind_op, Prog.bind_ret, Prog.pure_eq_ret]
  iintro ⟨Hwh_cc0_stg3_0, Hslot__hi_1, Hwh_cc0_scratch2⟩ HQ
  iapply (wp_ldO c O _) $$ [Hwh_cc0_stg3_0]
  · iexact Hwh_cc0_stg3_0
  iintro Hwh_cc0_stg3_0
  iapply (wp_ldO c O _) $$ [Hwh_cc0_stg3_0]
  · iexact Hwh_cc0_stg3_0
  iintro Hwh_cc0_stg3_0
  iapply (wp_stO c O _ _) $$ [Hwh_cc0_stg3_0]
  · iexact Hwh_cc0_stg3_0
  iintro Hwh_cc0_stg3_0
  iapply (wp_ldW m c _ _ (hi (sh c 1)) 0 (by decide) (off13_00 c) fullShare.right) $$ [Hslot__hi_1]
  · iexact Hslot__hi_1
  iintro Hslot__hi_1
  iapply (wp_ldB c X _) $$ [Hwh_cc0_scratch2]
  · iexact Hwh_cc0_scratch2
  iintro Hwh_cc0_scratch2
  iapply (wp_ldO c (k0_pay21 v423 O) _) $$ [Hwh_cc0_stg3_0]
  · iexact Hwh_cc0_stg3_0
  iintro Hwh_cc0_stg3_0
  iapply (wp_ldO c (k0_pay21 v423 O) _) $$ [Hwh_cc0_stg3_0]
  · iexact Hwh_cc0_stg3_0
  iintro Hwh_cc0_stg3_0
  iapply (wp_stO c (k0_pay21 v423 O) _ _) $$ [Hwh_cc0_stg3_0]
  · iexact Hwh_cc0_stg3_0
  iintro Hwh_cc0_stg3_0
  iapply (wp_ldW m c _ _ (hi (sh c 1)) 1 (by decide) (off13_01 c) fullShare.right) $$ [Hslot__hi_1]
  · iexact Hslot__hi_1
  iintro Hslot__hi_1
  rw [wp_ret]; imodintro
  iapply HQ
  isplitl [Hwh_cc0_stg3_0]; · iexact Hwh_cc0_stg3_0
  isplitl [Hslot__hi_1]; · iexact Hslot__hi_1
  iexact Hwh_cc0_scratch2

/-- It adds the last product of the first pieces, then receives the second pieces. -/
theorem part15 (K : Dev nD × Fin 20 → ℕ) (c : Dev nD) (h0 : AX.IsWhole) (h1 : AR.IsWhole) (h2 : AW.IsWhole) (h3 : AO.IsWhole) (h4 : WA.IsWhole) (h5 : RA'.IsWhole) (h6 : XB.IsWhole)
    (v5 : BitVec 32) (v7 : BitVec 32) (v456 : FVec F S1024x1 .bf16) (v459 : FVec F S512x1024 .bf16) (X : Vec F S1024x512 .bf16) (O : Vec F S1024x1024 .f32) {Q : _ → sProp 𝕄} :
    iprop(ctx m K ∗ wh c cc0_scratch2 X ∗ wh c cc0_stg3_0 O ∗ ow c (rem c 10) ∗ cr c 5 ∗ pos c 5 ∗ cr c 11 ∗ pos c 11)
      ⊢ iprop(((wh c cc0_scratch2 X ∗ wh c cc0_stg3_0 (k0_pay25 v456 v459 X O) ∗ ow c (rem c 10) ∗ zz c 5 ∗ slot m c (lo (sh c 2)) fullShare ∗ zz c 11 ∗ slot m c (hi (sh c 2)) fullShare) -∗ Q ⟨⟩)
        -∗ wp frame (wpE (defs₀ (F := F)) 𝒱₀ (c : Thread nD τ) none) Set.univ (k0_part15 (F := F) AX h0 AR h1 AW h2 AO h3 WA h4 RA' h5 XB h6 cc0_scratch3 cc0_scratch4 cc0_scratch5 cc0_scratch6 cc0_scratch7 cc0_scratch8 c v5 v7 v456 v459) Q) := by
  rw [k0_part15_eq_skeleton]; unfold k0_part15_skel
  simp only [Prog.lift, Prog.bind_op, Prog.bind_ret, Prog.pure_eq_ret]
  iintro ⟨#Hctx, Hwh_cc0_scratch2, Hwh_cc0_stg3_0, HO, Hcr_5, Hpos_5, Hcr_11, Hpos_11⟩ HQ
  iapply (wp_ldB c X _) $$ [Hwh_cc0_scratch2]
  · iexact Hwh_cc0_scratch2
  iintro Hwh_cc0_scratch2
  iapply (wp_ldO c O _) $$ [Hwh_cc0_stg3_0]
  · iexact Hwh_cc0_stg3_0
  iintro Hwh_cc0_stg3_0
  iapply (wp_ldO c O _) $$ [Hwh_cc0_stg3_0]
  · iexact Hwh_cc0_stg3_0
  iintro Hwh_cc0_stg3_0
  iapply (wp_stO c O _ _) $$ [Hwh_cc0_stg3_0]
  · iexact Hwh_cc0_stg3_0
  iintro Hwh_cc0_stg3_0
  iapply (wp_dwait m K c 5 (duty_lt c 5 (by decide) (by decide)) _ sem4_1 (rem c 10) (fun ck h => Nat.lt_of_le_of_lt (by decide) (rem_lv10 c ck h)) ((wcred _ _).trans (amtN_W (5 : Fin 20).val (by decide) (by decide)).symm)) $$ [Hcr_5 HO Hpos_5]
  · isplitr; · iexact Hctx
    isplitl [Hcr_5]; · iexact Hcr_5
    isplitl [HO]; · iexact HO
    iexact Hpos_5
  iintro ⟨HO, Hzz_5, Hslot__lo_2⟩
  ihave Hslot__lo_2 := (Entails.of_eq (pay_5 m c)) $$ Hslot__lo_2
  iapply (wp_dwait m K c 11 (duty_lt c 11 (by decide) (by decide)) _ sem6_1 (rem c 10) (fun ck h => Nat.lt_of_le_of_lt (by decide) (rem_lv10 c ck h)) ((wcred _ _).trans (amtN_W (11 : Fin 20).val (by decide) (by decide)).symm)) $$ [Hcr_11 HO Hpos_11]
  · isplitr; · iexact Hctx
    isplitl [Hcr_11]; · iexact Hcr_11
    isplitl [HO]; · iexact HO
    iexact Hpos_11
  iintro ⟨HO, Hzz_11, Hslot__hi_2⟩
  ihave Hslot__hi_2 := (Entails.of_eq (pay_11 m c)) $$ Hslot__hi_2
  rw [wp_ret]; imodintro
  iapply HQ
  isplitl [Hwh_cc0_scratch2]; · iexact Hwh_cc0_scratch2
  isplitl [Hwh_cc0_stg3_0]; · iexact Hwh_cc0_stg3_0
  isplitl [HO]; · iexact HO
  isplitl [Hzz_5]; · iexact Hzz_5
  isplitl [Hslot__lo_2]; · iexact Hslot__lo_2
  isplitl [Hzz_11]; · iexact Hzz_11
  iexact Hslot__hi_2

end Cert.KProof

end
-- ==== Proof.PartsC.lean ====
/-
The runs of the kernel's parts 16 to 22, each from what it uses to what it leaves.
-/
module

public import proofs.«01_k».proof.Proof.Facts

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ UU ℕ
variable (m : (ℓ : Loc nD τ sig) → Buf (Elt F) ℓ)

/-- It passes the second pieces on. -/
theorem part16 (K : Dev nD × Fin 20 → ℕ) (c : Dev nD) (h0 : AX.IsWhole) (h1 : AR.IsWhole) (h2 : AW.IsWhole) (h3 : AO.IsWhole) (h4 : WA.IsWhole) (h5 : RA'.IsWhole) (h6 : XB.IsWhole)
    (v2 : BitVec 32) (v5 : BitVec 32) (v200 : IVec S1024x1 32) (v276 : FVec F S1024x1 .bf16) (X : Vec F S1024x512 .bf16) (O : Vec F S1024x1024 .f32) {Q : _ → sProp 𝕄} :
    iprop(ctx m K ∗ ow c (rem c 10) ∗ tk (c, 3) 0 ∗ tk (sh c 1, 6) 0 ∗ slot m c (lo (sh c 2)) fullShare ∗ slotE (sh c 1) (lo (sh c 2)) ∗ tk (c, 9) 0 ∗ tk (sh c 3, 12) 0 ∗ slot m c (hi (sh c 2)) fullShare ∗ slotE (sh c 3) (hi (sh c 2)) ∗ wh c cc0_scratch2 X ∗ wh c cc0_stg3_0 O)
      ⊢ iprop(((ow c (rem c 12) ∗ slot m c (lo (sh c 2)) fullShare.right ∗ slot m c (hi (sh c 2)) fullShare.right ∗ wh c cc0_scratch2 X ∗ wh c cc0_stg3_0 O ∗ cr c 3 ∗ cr c 9) -∗ Q ⟨(Scalar.remsi (Scalar.addi (Scalar.subi (Scalar.subi v2 1#32) 1#32) 4#32) 4#32), (Scalar.remsi (Scalar.addi (Scalar.addi v2 1#32) 1#32) 4#32), k0_pay26 v2 v200 v276 (ldW m (k0_off12 c 1#32 0#32) (k0_off12_inb c 1 0)) X O⟩)
        -∗ wp frame (wpE (defs₀ (F := F)) 𝒱₀ (c : Thread nD τ) none) Set.univ (k0_part16 (F := F) AX h0 AR h1 AW h2 AO h3 WA h4 RA' h5 XB h6 cc0_scratch3 cc0_scratch4 cc0_scratch5 cc0_scratch6 cc0_scratch7 cc0_scratch8 c v2 v5 v200 v276) Q) := by
  rw [k0_part16_eq_skeleton]; unfold k0_part16_skel
  simp only [Prog.lift, Prog.bind_op, Prog.bind_ret, Prog.pure_eq_ret]
  iintro ⟨#Hctx, HO, Htk__c_3__0, Htk__sh_c_1_6__0, Hslot__lo_2, HrslotE_1__lo_2, Htk__c_9__0, Htk__sh_c_3_12__0, Hslot__hi_2, HrslotE_3__hi_2, Hwh_cc0_scratch2, Hwh_cc0_stg3_0⟩ HQ
  ihave Hslot__lo_2 := (slot_split m c (lo (sh c 2))) $$ Hslot__lo_2
  icases Hslot__lo_2 with ⟨Hlend, Hslot__lo_2⟩
  iapply (wp_sendW m K c _ (sh c 1) (dev11_sh c) 3 6 _ _ sem3_2 sem4_2 (duty_lt c 3 (by decide) (by decide)) (duty_lt (sh c 1) 6 (by decide) (by decide)) (amtN_W (3 : Fin 20).val (by decide) (by decide)) (amtN_W (6 : Fin 20).val (by decide) (by decide)) _ _ (lo (sh c 2)) (off5_2 c) (pay_3 m c) (payr_6 m c) (rem c 11)) $$ [HO Htk__c_3__0 Htk__sh_c_1_6__0 Hlend HrslotE_1__lo_2]
  · isplitr; · iexact Hctx
    isplitl [HO]; · iexact HO
    isplitl [Htk__c_3__0]; · iexact Htk__c_3__0
    isplitl [Htk__sh_c_1_6__0]; · iexact Htk__sh_c_1_6__0
    isplitl [Hlend]; · iexact Hlend
    iexact HrslotE_1__lo_2
  iintro ⟨Hcr_3, HO⟩
  ihave Hslot__hi_2 := (slot_split m c (hi (sh c 2))) $$ Hslot__hi_2
  icases Hslot__hi_2 with ⟨Hlend, Hslot__hi_2⟩
  iapply (wp_sendW m K c _ (sh c 3) (dev12_sh c) 9 12 _ _ sem5_2 sem6_2 (duty_lt c 9 (by decide) (by decide)) (duty_lt (sh c 3) 12 (by decide) (by decide)) (amtN_W (9 : Fin 20).val (by decide) (by decide)) (amtN_W (12 : Fin 20).val (by decide) (by decide)) _ _ (hi (sh c 2)) (off6_2 c) (pay_9 m c) (payl_12 m c) (rem c 12)) $$ [HO Htk__c_9__0 Htk__sh_c_3_12__0 Hlend HrslotE_3__hi_2]
  · isplitr; · iexact Hctx
    isplitl [HO]; · iexact HO
    isplitl [Htk__c_9__0]; · iexact Htk__c_9__0
    isplitl [Htk__sh_c_3_12__0]; · iexact Htk__sh_c_3_12__0
    isplitl [Hlend]; · iexact Hlend
    iexact HrslotE_3__hi_2
  iintro ⟨Hcr_9, HO⟩
  iapply (wp_ldW m c _ _ (lo (sh c 2)) 0 (by decide) (off12_10 c) fullShare.right) $$ [Hslot__lo_2]
  · iexact Hslot__lo_2
  iintro Hslot__lo_2
  iapply (wp_ldB c X _) $$ [Hwh_cc0_scratch2]
  · iexact Hwh_cc0_scratch2
  iintro Hwh_cc0_scratch2
  iapply (wp_ldO c O _) $$ [Hwh_cc0_stg3_0]
  · iexact Hwh_cc0_stg3_0
  iintro Hwh_cc0_stg3_0
  rw [wp_ret]; imodintro
  iapply HQ
  isplitl [HO]; · iexact HO
  isplitl [Hslot__lo_2]; · iexact Hslot__lo_2
  isplitl [Hslot__hi_2]; · iexact Hslot__hi_2
  isplitl [Hwh_cc0_scratch2]; · iexact Hwh_cc0_scratch2
  isplitl [Hwh_cc0_stg3_0]; · iexact Hwh_cc0_stg3_0
  isplitl [Hcr_3]; · iexact Hcr_3
  iexact Hcr_9

/-- It adds the products of the second piece from the left. -/
theorem part17 (K : Dev nD × Fin 20 → ℕ) (c : Dev nD) (h0 : AX.IsWhole) (h1 : AR.IsWhole) (h2 : AW.IsWhole) (h3 : AO.IsWhole) (h4 : WA.IsWhole) (h5 : RA'.IsWhole) (h6 : XB.IsWhole)
    (v200 : IVec S1024x1 32) (v276 : FVec F S1024x1 .bf16) (v499 : BitVec 32) (v502 : BitVec 32) (v520 : FVec F S1024x1024 .f32) (X : Vec F S1024x512 .bf16) (O : Vec F S1024x1024 .f32) {Q : _ → sProp 𝕄} :
    iprop(wh c cc0_stg3_0 O ∗ slot m c (lo (sh c 2)) fullShare.right ∗ wh c cc0_scratch2 X ∗ slot m c (hi (sh c 2)) fullShare.right)
      ⊢ iprop(((wh c cc0_stg3_0 (k0_pay27 v200 v276 v499 (ldW m (k0_off12 c 1#32 1#32) (k0_off12_inb c 1 1)) X v520) ∗ slot m c (lo (sh c 2)) fullShare.right ∗ wh c cc0_scratch2 X ∗ slot m c (hi (sh c 2)) fullShare.right) -∗ Q (k0_pay28 v200 v276 v502 (ldW m (k0_off13 c 1#32 0#32) (k0_off13_inb c 1 0)) X))
        -∗ wp frame (wpE (defs₀ (F := F)) 𝒱₀ (c : Thread nD τ) none) Set.univ (k0_part17 (F := F) AX h0 AR h1 AW h2 AO h3 WA h4 RA' h5 XB h6 cc0_scratch3 cc0_scratch4 cc0_scratch5 cc0_scratch6 cc0_scratch7 cc0_scratch8 c v200 v276 v499 v502 v520) Q) := by
  rw [k0_part17_eq_skeleton]; unfold k0_part17_skel
  simp only [Prog.lift, Prog.bind_op, Prog.bind_ret, Prog.pure_eq_ret]
  iintro ⟨Hwh_cc0_stg3_0, Hslot__lo_2, Hwh_cc0_scratch2, Hslot__hi_2⟩ HQ
  iapply (wp_ldO c O _) $$ [Hwh_cc0_stg3_0]
  · iexact Hwh_cc0_stg3_0
  iintro Hwh_cc0_stg3_0
  iapply (wp_stO c O _ _) $$ [Hwh_cc0_stg3_0]
  · iexact Hwh_cc0_stg3_0
  iintro Hwh_cc0_stg3_0
  iapply (wp_ldW m c _ _ (lo (sh c 2)) 1 (by decide) (off12_11 c) fullShare.right) $$ [Hslot__lo_2]
  · iexact Hslot__lo_2
  iintro Hslot__lo_2
  iapply (wp_ldB c X _) $$ [Hwh_cc0_scratch2]
  · iexact Hwh_cc0_scratch2
  iintro Hwh_cc0_scratch2
  iapply (wp_ldO c v520 _) $$ [Hwh_cc0_stg3_0]
  · iexact Hwh_cc0_stg3_0
  iintro Hwh_cc0_stg3_0
  iapply (wp_ldO c v520 _) $$ [Hwh_cc0_stg3_0]
  · iexact Hwh_cc0_stg3_0
  iintro Hwh_cc0_stg3_0
  iapply (wp_stO c v520 _ _) $$ [Hwh_cc0_stg3_0]
  · iexact Hwh_cc0_stg3_0
  iintro Hwh_cc0_stg3_0
  iapply (wp_ldW m c _ _ (hi (sh c 2)) 0 (by decide) (off13_10 c) fullShare.right) $$ [Hslot__hi_2]
  · iexact Hslot__hi_2
  iintro Hslot__hi_2
  iapply (wp_ldB c X _) $$ [Hwh_cc0_scratch2]
  · iexact Hwh_cc0_scratch2
  iintro Hwh_cc0_scratch2
  rw [wp_ret]; imodintro
  iapply HQ
  isplitl [Hwh_cc0_stg3_0]; · iexact Hwh_cc0_stg3_0
  isplitl [Hslot__lo_2]; · iexact Hslot__lo_2
  isplitl [Hwh_cc0_scratch2]; · iexact Hwh_cc0_scratch2
  iexact Hslot__hi_2

/-- It adds the products of the second piece from the right, then receives the third piece from the left. -/
theorem part18 (K : Dev nD × Fin 20 → ℕ) (c : Dev nD) (h0 : AX.IsWhole) (h1 : AR.IsWhole) (h2 : AW.IsWhole) (h3 : AO.IsWhole) (h4 : WA.IsWhole) (h5 : RA'.IsWhole) (h6 : XB.IsWhole)
    (v5 : BitVec 32) (v7 : BitVec 32) (v200 : IVec S1024x1 32) (v276 : FVec F S1024x1 .bf16) (v502 : BitVec 32) (v556 : FVec F S1024x1024 .f32) (X : Vec F S1024x512 .bf16) (O : Vec F S1024x1024 .f32) {Q : _ → sProp 𝕄} :
    iprop(ctx m K ∗ wh c cc0_stg3_0 O ∗ slot m c (hi (sh c 2)) fullShare.right ∗ wh c cc0_scratch2 X ∗ ow c (rem c 12) ∗ cr c 6 ∗ pos c 6)
      ⊢ iprop(((wh c cc0_stg3_0 (k0_pay30 v200 v276 v502 (ldW m (k0_off13 c 1#32 1#32) (k0_off13_inb c 1 1)) X (k0_pay29 v556 O)) ∗ slot m c (hi (sh c 2)) fullShare.right ∗ wh c cc0_scratch2 X ∗ ow c (rem c 12) ∗ zz c 6 ∗ slot m c (lo (sh c 1)) fullShare) -∗ Q (Scalar.muli v7 1#32))
        -∗ wp frame (wpE (defs₀ (F := F)) 𝒱₀ (c : Thread nD τ) none) Set.univ (k0_part18 (F := F) AX h0 AR h1 AW h2 AO h3 WA h4 RA' h5 XB h6 cc0_scratch3 cc0_scratch4 cc0_scratch5 cc0_scratch6 cc0_scratch7 cc0_scratch8 c v5 v7 v200 v276 v502 v556) Q) := by
  rw [k0_part18_eq_skeleton]; unfold k0_part18_skel
  simp only [Prog.lift, Prog.bind_op, Prog.bind_ret, Prog.pure_eq_ret]
  iintro ⟨#Hctx, Hwh_cc0_stg3_0, Hslot__hi_2, Hwh_cc0_scratch2, HO, Hcr_6, Hpos_6⟩ HQ
  iapply (wp_ldO c O _) $$ [Hwh_cc0_stg3_0]
  · iexact Hwh_cc0_stg3_0
  iintro Hwh_cc0_stg3_0
  iapply (wp_ldO c O _) $$ [Hwh_cc0_stg3_0]
  · iexact Hwh_cc0_stg3_0
  iintro Hwh_cc0_stg3_0
  iapply (wp_stO c O _ _) $$ [Hwh_cc0_stg3_0]
  · iexact Hwh_cc0_stg3_0
  iintro Hwh_cc0_stg3_0
  iapply (wp_ldW m c _ _ (hi (sh c 2)) 1 (by decide) (off13_11 c) fullShare.right) $$ [Hslot__hi_2]
  · iexact Hslot__hi_2
  iintro Hslot__hi_2
  iapply (wp_ldB c X _) $$ [Hwh_cc0_scratch2]
  · iexact Hwh_cc0_scratch2
  iintro Hwh_cc0_scratch2
  iapply (wp_ldO c (k0_pay29 v556 O) _) $$ [Hwh_cc0_stg3_0]
  · iexact Hwh_cc0_stg3_0
  iintro Hwh_cc0_stg3_0
  iapply (wp_ldO c (k0_pay29 v556 O) _) $$ [Hwh_cc0_stg3_0]
  · iexact Hwh_cc0_stg3_0
  iintro Hwh_cc0_stg3_0
  iapply (wp_stO c (k0_pay29 v556 O) _ _) $$ [Hwh_cc0_stg3_0]
  · iexact Hwh_cc0_stg3_0
  iintro Hwh_cc0_stg3_0
  iapply (wp_dwait m K c 6 (duty_lt c 6 (by decide) (by decide)) _ sem4_2 (rem c 12) (rem_lv12 c _) ((wcred _ _).trans (amtN_W (6 : Fin 20).val (by decide) (by decide)).symm)) $$ [Hcr_6 HO Hpos_6]
  · isplitr; · iexact Hctx
    isplitl [Hcr_6]; · iexact Hcr_6
    isplitl [HO]; · iexact HO
    iexact Hpos_6
  iintro ⟨HO, Hzz_6, Hslot__lo_1⟩
  ihave Hslot__lo_1 := (Entails.of_eq (pay_6 m c)) $$ Hslot__lo_1
  rw [wp_ret]; imodintro
  iapply HQ
  isplitl [Hwh_cc0_stg3_0]; · iexact Hwh_cc0_stg3_0
  isplitl [Hslot__hi_2]; · iexact Hslot__hi_2
  isplitl [Hwh_cc0_scratch2]; · iexact Hwh_cc0_scratch2
  isplitl [HO]; · iexact HO
  isplitl [Hzz_6]; · iexact Hzz_6
  iexact Hslot__lo_1

/-- It receives the third piece from the right. -/
theorem part19 (K : Dev nD × Fin 20 → ℕ) (c : Dev nD) (h0 : AX.IsWhole) (h1 : AR.IsWhole) (h2 : AW.IsWhole) (h3 : AO.IsWhole) (h4 : WA.IsWhole) (h5 : RA'.IsWhole) (h6 : XB.IsWhole)
    (v2 : BitVec 32) (v200 : IVec S1024x1 32) (v276 : FVec F S1024x1 .bf16) (v587 : BitVec 32) (X : Vec F S1024x512 .bf16) (O : Vec F S1024x1024 .f32) {Q : _ → sProp 𝕄} :
    iprop(ctx m K ∗ ow c (rem c 12) ∗ cr c 12 ∗ pos c 12 ∗ slot m c (lo (sh c 1)) fullShare ∗ wh c cc0_scratch2 X ∗ wh c cc0_stg3_0 O)
      ⊢ iprop(((ow c (rem c 12) ∗ slot m c (lo (sh c 1)) fullShare ∗ wh c cc0_scratch2 X ∗ wh c cc0_stg3_0 (k0_pay31 v2 v200 v276 (ldW m (k0_off12 c 2#32 0#32) (k0_off12_inb c 2 0)) X O) ∗ zz c 12 ∗ slot m c (hi (sh c 3)) fullShare) -∗ Q ⟨(Scalar.remsi (Scalar.addi (Scalar.addi v2 2#32) 1#32) 4#32), (Scalar.addi (Scalar.muli (Scalar.remsi (Scalar.addi (Scalar.subi (Scalar.subi v2 2#32) 1#32) 4#32) 4#32) 4#32) 1#32)⟩)
        -∗ wp frame (wpE (defs₀ (F := F)) 𝒱₀ (c : Thread nD τ) none) Set.univ (k0_part19 (F := F) AX h0 AR h1 AW h2 AO h3 WA h4 RA' h5 XB h6 cc0_scratch3 cc0_scratch4 cc0_scratch5 cc0_scratch6 cc0_scratch7 cc0_scratch8 c v2 v200 v276 v587) Q) := by
  rw [k0_part19_eq_skeleton]; unfold k0_part19_skel
  simp only [Prog.lift, Prog.bind_op, Prog.bind_ret, Prog.pure_eq_ret]
  iintro ⟨#Hctx, HO, Hcr_12, Hpos_12, Hslot__lo_1, Hwh_cc0_scratch2, Hwh_cc0_stg3_0⟩ HQ
  iapply (wp_dwait m K c 12 (duty_lt c 12 (by decide) (by decide)) _ sem6_2 (rem c 12) (rem_lv12 c _) ((wcred _ _).trans (amtN_W (12 : Fin 20).val (by decide) (by decide)).symm)) $$ [Hcr_12 HO Hpos_12]
  · isplitr; · iexact Hctx
    isplitl [Hcr_12]; · iexact Hcr_12
    isplitl [HO]; · iexact HO
    iexact Hpos_12
  iintro ⟨HO, Hzz_12, Hslot__hi_3⟩
  ihave Hslot__hi_3 := (Entails.of_eq (pay_12 m c)) $$ Hslot__hi_3
  iapply (wp_ldW m c _ _ (lo (sh c 1)) 0 (by decide) (off12_20 c) fullShare) $$ [Hslot__lo_1]
  · iexact Hslot__lo_1
  iintro Hslot__lo_1
  iapply (wp_ldB c X _) $$ [Hwh_cc0_scratch2]
  · iexact Hwh_cc0_scratch2
  iintro Hwh_cc0_scratch2
  iapply (wp_ldO c O _) $$ [Hwh_cc0_stg3_0]
  · iexact Hwh_cc0_stg3_0
  iintro Hwh_cc0_stg3_0
  iapply (wp_ldO c O _) $$ [Hwh_cc0_stg3_0]
  · iexact Hwh_cc0_stg3_0
  iintro Hwh_cc0_stg3_0
  iapply (wp_stO c O _ _) $$ [Hwh_cc0_stg3_0]
  · iexact Hwh_cc0_stg3_0
  iintro Hwh_cc0_stg3_0
  rw [wp_ret]; imodintro
  iapply HQ
  isplitl [HO]; · iexact HO
  isplitl [Hslot__lo_1]; · iexact Hslot__lo_1
  isplitl [Hwh_cc0_scratch2]; · iexact Hwh_cc0_scratch2
  isplitl [Hwh_cc0_stg3_0]; · iexact Hwh_cc0_stg3_0
  isplitl [Hzz_12]; · iexact Hzz_12
  iexact Hslot__hi_3

/-- It adds products of the third pieces. -/
theorem part20 (K : Dev nD × Fin 20 → ℕ) (c : Dev nD) (h0 : AX.IsWhole) (h1 : AR.IsWhole) (h2 : AW.IsWhole) (h3 : AO.IsWhole) (h4 : WA.IsWhole) (h5 : RA'.IsWhole) (h6 : XB.IsWhole)
    (v200 : IVec S1024x1 32) (v276 : FVec F S1024x1 .bf16) (v599 : BitVec 32) (v620 : BitVec 32) (X : Vec F S1024x512 .bf16) (O : Vec F S1024x1024 .f32) {Q : _ → sProp 𝕄} :
    iprop(slot m c (lo (sh c 1)) fullShare ∗ wh c cc0_scratch2 X ∗ wh c cc0_stg3_0 O ∗ slot m c (hi (sh c 3)) fullShare)
      ⊢ iprop(((slot m c (lo (sh c 1)) fullShare ∗ wh c cc0_scratch2 X ∗ wh c cc0_stg3_0 (k0_pay33 v200 v276 v599 (ldW m (k0_off13 c 2#32 0#32) (k0_off13_inb c 2 0)) X (k0_pay32 v200 v276 v620 (ldW m (k0_off12 c 2#32 1#32) (k0_off12_inb c 2 1)) X O)) ∗ slot m c (hi (sh c 3)) fullShare) -∗ Q ⟨⟩)
        -∗ wp frame (wpE (defs₀ (F := F)) 𝒱₀ (c : Thread nD τ) none) Set.univ (k0_part20 (F := F) AX h0 AR h1 AW h2 AO h3 WA h4 RA' h5 XB h6 cc0_scratch3 cc0_scratch4 cc0_scratch5 cc0_scratch6 cc0_scratch7 cc0_scratch8 c v200 v276 v599 v620) Q) := by
  rw [k0_part20_eq_skeleton]; unfold k0_part20_skel
  simp only [Prog.lift, Prog.bind_op, Prog.bind_ret, Prog.pure_eq_ret]
  iintro ⟨Hslot__lo_1, Hwh_cc0_scratch2, Hwh_cc0_stg3_0, Hslot__hi_3⟩ HQ
  iapply (wp_ldW m c _ _ (lo (sh c 1)) 1 (by decide) (off12_21 c) fullShare) $$ [Hslot__lo_1]
  · iexact Hslot__lo_1
  iintro Hslot__lo_1
  iapply (wp_ldB c X _) $$ [Hwh_cc0_scratch2]
  · iexact Hwh_cc0_scratch2
  iintro Hwh_cc0_scratch2
  iapply (wp_ldO c O _) $$ [Hwh_cc0_stg3_0]
  · iexact Hwh_cc0_stg3_0
  iintro Hwh_cc0_stg3_0
  iapply (wp_ldO c O _) $$ [Hwh_cc0_stg3_0]
  · iexact Hwh_cc0_stg3_0
  iintro Hwh_cc0_stg3_0
  iapply (wp_stO c O _ _) $$ [Hwh_cc0_stg3_0]
  · iexact Hwh_cc0_stg3_0
  iintro Hwh_cc0_stg3_0
  iapply (wp_ldW m c _ _ (hi (sh c 3)) 0 (by decide) (off13_20 c) fullShare) $$ [Hslot__hi_3]
  · iexact Hslot__hi_3
  iintro Hslot__hi_3
  iapply (wp_ldB c X _) $$ [Hwh_cc0_scratch2]
  · iexact Hwh_cc0_scratch2
  iintro Hwh_cc0_scratch2
  iapply (wp_ldO c (k0_pay32 v200 v276 v620 (ldW m (k0_off12 c 2#32 1#32) (k0_off12_inb c 2 1)) X O) _) $$ [Hwh_cc0_stg3_0]
  · iexact Hwh_cc0_stg3_0
  iintro Hwh_cc0_stg3_0
  iapply (wp_ldO c (k0_pay32 v200 v276 v620 (ldW m (k0_off12 c 2#32 1#32) (k0_off12_inb c 2 1)) X O) _) $$ [Hwh_cc0_stg3_0]
  · iexact Hwh_cc0_stg3_0
  iintro Hwh_cc0_stg3_0
  iapply (wp_stO c (k0_pay32 v200 v276 v620 (ldW m (k0_off12 c 2#32 1#32) (k0_off12_inb c 2 1)) X O) _ _) $$ [Hwh_cc0_stg3_0]
  · iexact Hwh_cc0_stg3_0
  iintro Hwh_cc0_stg3_0
  rw [wp_ret]; imodintro
  iapply HQ
  isplitl [Hslot__lo_1]; · iexact Hslot__lo_1
  isplitl [Hwh_cc0_scratch2]; · iexact Hwh_cc0_scratch2
  isplitl [Hwh_cc0_stg3_0]; · iexact Hwh_cc0_stg3_0
  iexact Hslot__hi_3

/-- It adds the last product and takes back the shares lent to the first sends. -/
theorem part21 (K : Dev nD × Fin 20 → ℕ) (c : Dev nD) (h0 : AX.IsWhole) (h1 : AR.IsWhole) (h2 : AW.IsWhole) (h3 : AO.IsWhole) (h4 : WA.IsWhole) (h5 : RA'.IsWhole) (h6 : XB.IsWhole)
    (v200 : IVec S1024x1 32) (v276 : FVec F S1024x1 .bf16) (v599 : BitVec 32) (X : Vec F S1024x512 .bf16) (O : Vec F S1024x1024 .f32) {Q : _ → sProp 𝕄} :
    iprop(ctx m K ∗ slot m c (hi (sh c 3)) fullShare ∗ wh c cc0_scratch2 X ∗ wh c cc0_stg3_0 O ∗ ow c (rem c 12) ∗ cr c 1 ∗ pos c 1 ∗ cr c 7 ∗ pos c 7)
      ⊢ iprop(((slot m c (hi (sh c 3)) fullShare ∗ wh c cc0_scratch2 X ∗ wh c cc0_stg3_0 (k0_pay34 v200 v276 v599 (ldW m (k0_off13 c 2#32 1#32) (k0_off13_inb c 2 1)) X O) ∗ ow c (rem c 12) ∗ zz c 1 ∗ slot m c (lo (sh c 4)) fullShare.left ∗ zz c 7 ∗ slot m c (hi (sh c 0)) fullShare.left) -∗ Q ⟨⟩)
        -∗ wp frame (wpE (defs₀ (F := F)) 𝒱₀ (c : Thread nD τ) none) Set.univ (k0_part21 (F := F) AX h0 AR h1 AW h2 AO h3 WA h4 RA' h5 XB h6 cc0_scratch3 cc0_scratch4 cc0_scratch5 cc0_scratch6 cc0_scratch7 cc0_scratch8 c v200 v276 v599) Q) := by
  rw [k0_part21_eq_skeleton]; unfold k0_part21_skel
  simp only [Prog.lift, Prog.bind_op, Prog.bind_ret, Prog.pure_eq_ret]
  iintro ⟨#Hctx, Hslot__hi_3, Hwh_cc0_scratch2, Hwh_cc0_stg3_0, HO, Hcr_1, Hpos_1, Hcr_7, Hpos_7⟩ HQ
  iapply (wp_ldW m c _ _ (hi (sh c 3)) 1 (by decide) (off13_21 c) fullShare) $$ [Hslot__hi_3]
  · iexact Hslot__hi_3
  iintro Hslot__hi_3
  iapply (wp_ldB c X _) $$ [Hwh_cc0_scratch2]
  · iexact Hwh_cc0_scratch2
  iintro Hwh_cc0_scratch2
  iapply (wp_ldO c O _) $$ [Hwh_cc0_stg3_0]
  · iexact Hwh_cc0_stg3_0
  iintro Hwh_cc0_stg3_0
  iapply (wp_ldO c O _) $$ [Hwh_cc0_stg3_0]
  · iexact Hwh_cc0_stg3_0
  iintro Hwh_cc0_stg3_0
  iapply (wp_stO c O _ _) $$ [Hwh_cc0_stg3_0]
  · iexact Hwh_cc0_stg3_0
  iintro Hwh_cc0_stg3_0
  iapply (wp_dwait m K c 1 (duty_lt c 1 (by decide) (by decide)) _ sem3_0 (rem c 12) (rem_lv12 c _) ((wcred _ _).trans (amtN_W (1 : Fin 20).val (by decide) (by decide)).symm)) $$ [Hcr_1 HO Hpos_1]
  · isplitr; · iexact Hctx
    isplitl [Hcr_1]; · iexact Hcr_1
    isplitl [HO]; · iexact HO
    iexact Hpos_1
  iintro ⟨HO, Hzz_1, HslotL__lo_4⟩
  ihave HslotL__lo_4 := (Entails.of_eq (pay_1 m c)) $$ HslotL__lo_4
  iapply (wp_dwait m K c 7 (duty_lt c 7 (by decide) (by decide)) _ sem5_0 (rem c 12) (rem_lv12 c _) ((wcred _ _).trans (amtN_W (7 : Fin 20).val (by decide) (by decide)).symm)) $$ [Hcr_7 HO Hpos_7]
  · isplitr; · iexact Hctx
    isplitl [Hcr_7]; · iexact Hcr_7
    isplitl [HO]; · iexact HO
    iexact Hpos_7
  iintro ⟨HO, Hzz_7, HslotL__hi_0⟩
  ihave HslotL__hi_0 := (Entails.of_eq (pay_7 m c)) $$ HslotL__hi_0
  rw [wp_ret]; imodintro
  iapply HQ
  isplitl [Hslot__hi_3]; · iexact Hslot__hi_3
  isplitl [Hwh_cc0_scratch2]; · iexact Hwh_cc0_scratch2
  isplitl [Hwh_cc0_stg3_0]; · iexact Hwh_cc0_stg3_0
  isplitl [HO]; · iexact HO
  isplitl [Hzz_1]; · iexact Hzz_1
  isplitl [HslotL__lo_4]; · iexact HslotL__lo_4
  isplitl [Hzz_7]; · iexact Hzz_7
  iexact HslotL__hi_0

/-- It takes back the shares lent to the later sends and to the first route send. -/
theorem part22 (K : Dev nD × Fin 20 → ℕ) (c : Dev nD) (h0 : AX.IsWhole) (h1 : AR.IsWhole) (h2 : AW.IsWhole) (h3 : AO.IsWhole) (h4 : WA.IsWhole) (h5 : RA'.IsWhole) (h6 : XB.IsWhole)
     {Q : _ → sProp 𝕄} :
    iprop(ctx m K ∗ ow c (rem c 12) ∗ cr c 2 ∗ pos c 2 ∗ cr c 8 ∗ pos c 8 ∗ cr c 3 ∗ pos c 3 ∗ cr c 9 ∗ pos c 9 ∗ cr c 13 ∗ pos c 13)
      ⊢ iprop(((ow c (rem c 12) ∗ zz c 2 ∗ slot m c (lo (sh c 3)) fullShare.left ∗ zz c 8 ∗ slot m c (hi (sh c 1)) fullShare.left ∗ zz c 3 ∗ slot m c (lo (sh c 2)) fullShare.left ∗ zz c 9 ∗ slot m c (hi (sh c 2)) fullShare.left ∗ zz c 13 ∗ row m c c (rq 0)) -∗ Q ⟨⟩)
        -∗ wp frame (wpE (defs₀ (F := F)) 𝒱₀ (c : Thread nD τ) none) Set.univ (k0_part22 (F := F) AX h0 AR h1 AW h2 AO h3 WA h4 RA' h5 XB h6 cc0_scratch3 cc0_scratch4 cc0_scratch5 cc0_scratch6 cc0_scratch7 cc0_scratch8 c) Q) := by
  rw [k0_part22_eq_skeleton]; unfold k0_part22_skel
  simp only [Prog.lift, Prog.bind_op, Prog.bind_ret, Prog.pure_eq_ret]
  iintro ⟨#Hctx, HO, Hcr_2, Hpos_2, Hcr_8, Hpos_8, Hcr_3, Hpos_3, Hcr_9, Hpos_9, Hcr_13, Hpos_13⟩ HQ
  iapply (wp_dwait m K c 2 (duty_lt c 2 (by decide) (by decide)) _ sem3_1 (rem c 12) (rem_lv12 c _) ((wcred _ _).trans (amtN_W (2 : Fin 20).val (by decide) (by decide)).symm)) $$ [Hcr_2 HO Hpos_2]
  · isplitr; · iexact Hctx
    isplitl [Hcr_2]; · iexact Hcr_2
    isplitl [HO]; · iexact HO
    iexact Hpos_2
  iintro ⟨HO, Hzz_2, HslotL__lo_3⟩
  ihave HslotL__lo_3 := (Entails.of_eq (pay_2 m c)) $$ HslotL__lo_3
  iapply (wp_dwait m K c 8 (duty_lt c 8 (by decide) (by decide)) _ sem5_1 (rem c 12) (rem_lv12 c _) ((wcred _ _).trans (amtN_W (8 : Fin 20).val (by decide) (by decide)).symm)) $$ [Hcr_8 HO Hpos_8]
  · isplitr; · iexact Hctx
    isplitl [Hcr_8]; · iexact Hcr_8
    isplitl [HO]; · iexact HO
    iexact Hpos_8
  iintro ⟨HO, Hzz_8, HslotL__hi_1⟩
  ihave HslotL__hi_1 := (Entails.of_eq (pay_8 m c)) $$ HslotL__hi_1
  iapply (wp_dwait m K c 3 (duty_lt c 3 (by decide) (by decide)) _ sem3_2 (rem c 12) (rem_lv12 c _) ((wcred _ _).trans (amtN_W (3 : Fin 20).val (by decide) (by decide)).symm)) $$ [Hcr_3 HO Hpos_3]
  · isplitr; · iexact Hctx
    isplitl [Hcr_3]; · iexact Hcr_3
    isplitl [HO]; · iexact HO
    iexact Hpos_3
  iintro ⟨HO, Hzz_3, HslotL__lo_2⟩
  ihave HslotL__lo_2 := (Entails.of_eq (pay_3 m c)) $$ HslotL__lo_2
  iapply (wp_dwait m K c 9 (duty_lt c 9 (by decide) (by decide)) _ sem5_2 (rem c 12) (rem_lv12 c _) ((wcred _ _).trans (amtN_W (9 : Fin 20).val (by decide) (by decide)).symm)) $$ [Hcr_9 HO Hpos_9]
  · isplitr; · iexact Hctx
    isplitl [Hcr_9]; · iexact Hcr_9
    isplitl [HO]; · iexact HO
    iexact Hpos_9
  iintro ⟨HO, Hzz_9, HslotL__hi_2⟩
  ihave HslotL__hi_2 := (Entails.of_eq (pay_9 m c)) $$ HslotL__hi_2
  iapply (wp_dwait m K c 13 (duty_lt c 13 (by decide) (by decide)) _ sem7_0 (rem c 12) (rem_lv12 c _) ((rcred _ _).trans (amtN_R (13 : Fin 20).val (by decide)).symm)) $$ [Hcr_13 HO Hpos_13]
  · isplitr; · iexact Hctx
    isplitl [Hcr_13]; · iexact Hcr_13
    isplitl [HO]; · iexact HO
    iexact Hpos_13
  iintro ⟨HO, Hzz_13, Hrowq_0⟩
  ihave Hrowq_0 := (Entails.of_eq (pay_13 m c)) $$ Hrowq_0
  rw [wp_ret]; imodintro
  iapply HQ
  isplitl [HO]; · iexact HO
  isplitl [Hzz_2]; · iexact Hzz_2
  isplitl [HslotL__lo_3]; · iexact HslotL__lo_3
  isplitl [Hzz_8]; · iexact Hzz_8
  isplitl [HslotL__hi_1]; · iexact HslotL__hi_1
  isplitl [Hzz_3]; · iexact Hzz_3
  isplitl [HslotL__lo_2]; · iexact HslotL__lo_2
  isplitl [Hzz_9]; · iexact Hzz_9
  isplitl [HslotL__hi_2]; · iexact HslotL__hi_2
  isplitl [Hzz_13]; · iexact Hzz_13
  iexact Hrowq_0

end Cert.KProof

end
-- ==== Proof.Body.lean ====
/-
The run of the kernel body on one device, from everything it holds at the start to everything it leaves.
-/
module

public import proofs.«01_k».proof.Proof.PartsA
public import proofs.«01_k».proof.Proof.PartsB
public import proofs.«01_k».proof.Proof.PartsC

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ UU ℕ
variable (m : (ℓ : Loc nD τ sig) → Buf (Elt F) ℓ)

/-- The device tells the three others that it runs and waits until all three told it. -/
theorem part1 (K : Dev nD × Fin 20 → ℕ) (c : Dev nD) (h0 : AX.IsWhole) (h1 : AR.IsWhole) (h2 : AW.IsWhole) (h3 : AO.IsWhole) (h4 : WA.IsWhole) (h5 : RA'.IsWhole) (h6 : XB.IsWhole) {Q : _ → sProp 𝕄} :
    iprop(ctx m K ∗ ow c (rem c 0) ∗ tk (sh c 1, 0) 1 ∗ tk (sh c 2, 0) 2 ∗ tk (sh c 3, 0) 3
        ∗ barPay (sh c 1) 1 ∗ barPay (sh c 2) 2 ∗ barPay (sh c 3) 3 ∗ cred (tallyAt (kcell (c, 0)) () 3) ∗ pos c 0)
      ⊢ iprop(((ow c (rem c 3) ∗ zz c 0 ∗ barPay c 1 ∗ barPay c 2 ∗ barPay c 3) -∗ Q ⟨c, (Scalar.remsi (Scalar.divsi (Dev.word c) 1#32) 4#32), (Scalar.remsi (Scalar.addi (Scalar.subi (Scalar.remsi (Scalar.divsi (Dev.word c) 1#32) 4#32) 1#32) 4#32) 4#32), (Scalar.remsi (Scalar.addi (Scalar.remsi (Scalar.divsi (Dev.word c) 1#32) 4#32) 1#32) 4#32), (Scalar.remsi (Scalar.addi (Scalar.subi (Scalar.remsi (Scalar.divsi (Dev.word c) 1#32) 4#32) 0#32) 4#32) 4#32)⟩)
        -∗ wp frame (wpE (defs₀ (F := F)) 𝒱₀ (c : Thread nD τ) none) Set.univ (k0_part1 (F := F) AX h0 AR h1 AW h2 AO h3 WA h4 RA' h5 XB h6 cc0_scratch3 cc0_scratch4 cc0_scratch5 cc0_scratch6 cc0_scratch7 cc0_scratch8) Q) := by
  rw [k0_part1_eq_skeleton]; unfold k0_part1_skel
  simp only [semSignalWord, semWaitWord, Prog.lift, Prog.bind_op, Prog.bind_ret, Prog.pure_eq_ret, wp_deviceId]
  iintro ⟨#Hctx, HO, HT1, HT2, HT3, HB1, HB2, HB3, Hcr, Hpos⟩ HQ
  iapply (wp_sig m K c _ (sh c 1) (dev1_sh c) 1 (by decide +revert) _ rfl (rem c 1)) $$ [HO HT1 HB1]
  · isplitr; · iexact Hctx
    isplitl [HO]; · iexact HO
    isplitl [HT1]; · iexact HT1
    iexact HB1
  iintro HO
  iapply (wp_sig m K c _ (sh c 2) (dev2_sh c) 2 (by decide +revert) _ rfl (rem c 2)) $$ [HO HT2 HB2]
  · isplitr; · iexact Hctx
    isplitl [HO]; · iexact HO
    isplitl [HT2]; · iexact HT2
    iexact HB2
  iintro HO
  iapply (wp_sig m K c _ (sh c 3) (dev3_sh c) 3 (by decide +revert) _ rfl (rem c 3)) $$ [HO HT3 HB3]
  · isplitr; · iexact Hctx
    isplitl [HO]; · iexact HO
    isplitl [HT3]; · iexact HT3
    iexact HB3
  iintro HO
  iapply (wp_barwait m K c _ rfl (rem c 3) (rem_lv3 c)) $$ [Hcr HO Hpos]
  · isplitr; · iexact Hctx
    isplitl [Hcr]; · iexact Hcr
    isplitl [HO]; · iexact HO
    iexact Hpos
  iintro ⟨HO, Hz, HB1, HB2, HB3⟩
  rw [wp_ret]; imodintro
  iapply HQ
  isplitl [HO]; · iexact HO
  isplitl [Hz]; · iexact Hz
  isplitl [HB1]; · iexact HB1
  isplitl [HB2]; · iexact HB2
  iexact HB3

/-- Part 2 computes numbers only. -/
theorem part2 (c : Dev nD) (h0 : AX.IsWhole) (h1 : AR.IsWhole) (h2 : AW.IsWhole) (h3 : AO.IsWhole) (h4 : WA.IsWhole) (h5 : RA'.IsWhole) (h6 : XB.IsWhole) (v2 v23 : BitVec 32) {Q : _ → sProp 𝕄} :
    iprop(∀ v, Q v) ⊢ wp frame (wpE (defs₀ (F := F)) 𝒱₀ (c : Thread nD τ) none) Set.univ (k0_part2 (F := F) AX h0 AR h1 AW h2 AO h3 WA h4 RA' h5 XB h6 cc0_scratch3 cc0_scratch4 cc0_scratch5 cc0_scratch6 cc0_scratch7 cc0_scratch8 v2 v23) Q := by
  rw [k0_part2_eq_skeleton]; unfold k0_part2_skel
  simp only [Prog.pure_eq_ret]
  iintro HQ
  rw [wp_ret]; imodintro
  iapply HQ

/-- Part 3 computes numbers only. -/
theorem part3 (c : Dev nD) (h0 : AX.IsWhole) (h1 : AR.IsWhole) (h2 : AW.IsWhole) (h3 : AO.IsWhole) (h4 : WA.IsWhole) (h5 : RA'.IsWhole) (h6 : XB.IsWhole) (v2 v53 : BitVec 32) {Q : _ → sProp 𝕄} :
    iprop(∀ v, Q v) ⊢ wp frame (wpE (defs₀ (F := F)) 𝒱₀ (c : Thread nD τ) none) Set.univ (k0_part3 (F := F) AX h0 AR h1 AW h2 AO h3 WA h4 RA' h5 XB h6 cc0_scratch3 cc0_scratch4 cc0_scratch5 cc0_scratch6 cc0_scratch7 cc0_scratch8 v2 v53) Q := by
  rw [k0_part3_eq_skeleton]; unfold k0_part3_skel
  simp only [Prog.pure_eq_ret]
  iintro HQ
  rw [wp_ret]; imodintro
  iapply HQ

/-- The four rows, by their place round the ring and by their number. -/
theorem rows_in (c : Dev nD) : iprop(row m c c (rq 3) ∗ row m c (sh c 1) fullShare ∗ row m c (sh c 2) fullShare ∗ row m c (sh c 3) fullShare)
    ⊢ iprop(row m c 0 (rowq c 0) ∗ row m c 1 (rowq c 1) ∗ row m c 2 (rowq c 2) ∗ row m c 3 (rowq c 3)) := by
  fin_cases c
  · iintro ⟨H0, H1, H2, H3⟩
    isplitl [H0]; · iexact H0
    isplitl [H1]; · iexact H1
    isplitl [H2]; · iexact H2
    iexact H3
  · iintro ⟨H0, H1, H2, H3⟩
    isplitl [H3]; · iexact H3
    isplitl [H0]; · iexact H0
    isplitl [H1]; · iexact H1
    iexact H2
  · iintro ⟨H0, H1, H2, H3⟩
    isplitl [H2]; · iexact H2
    isplitl [H3]; · iexact H3
    isplitl [H0]; · iexact H0
    iexact H1
  · iintro ⟨H0, H1, H2, H3⟩
    isplitl [H1]; · iexact H1
    isplitl [H2]; · iexact H2
    isplitl [H3]; · iexact H3
    iexact H0

theorem rows_out (c : Dev nD) : iprop(row m c 0 (rowq c 0) ∗ row m c 1 (rowq c 1) ∗ row m c 2 (rowq c 2) ∗ row m c 3 (rowq c 3))
    ⊢ iprop(row m c c (rq 3) ∗ row m c (sh c 1) fullShare ∗ row m c (sh c 2) fullShare ∗ row m c (sh c 3) fullShare) := by
  fin_cases c
  · iintro ⟨H0, H1, H2, H3⟩
    isplitl [H0]; · iexact H0
    isplitl [H1]; · iexact H1
    isplitl [H2]; · iexact H2
    iexact H3
  · iintro ⟨H0, H1, H2, H3⟩
    isplitl [H1]; · iexact H1
    isplitl [H2]; · iexact H2
    isplitl [H3]; · iexact H3
    iexact H0
  · iintro ⟨H0, H1, H2, H3⟩
    isplitl [H2]; · iexact H2
    isplitl [H3]; · iexact H3
    isplitl [H0]; · iexact H0
    iexact H1
  · iintro ⟨H0, H1, H2, H3⟩
    isplitl [H3]; · iexact H3
    isplitl [H0]; · iexact H0
    isplitl [H1]; · iexact H1
    iexact H2

/-! ## The values the body computes, one name each -/

/-- The device's number as the kernel computes it. -/
def kv2 (c : Dev nD) : BitVec 32 := (Scalar.remsi (Scalar.divsi (Dev.word c) 1#32) 4#32)
/-- The kernel's `v198`. -/
def kCol (m : (ℓ : Loc nD τ sig) → Buf (Elt F) ℓ) (c : Dev nD) : IVec S1024x16 32 := ((iota .tc S1024x16 32 [1] iota_S1024x16_d1_w32))
/-- The kernel's `v200`. -/
def kRt (m : (ℓ : Loc nD τ sig) → Buf (Elt F) ℓ) (c : Dev nD) : IVec S1024x1 32 := (k0_pay5 (rstg m c))
/-- The kernel's `v204`. -/
def kHotF (m : (ℓ : Loc nD τ sig) → Buf (Elt F) ℓ) (c : Dev nD) : FVec F S1024x16 .f32 := (k0_pay7 (rstg m c))
/-- The kernel's `v205`. -/
def kHotI (m : (ℓ : Loc nD τ sig) → Buf (Elt F) ℓ) (c : Dev nD) : IVec S1024x16 32 := (k0_pay8 (rstg m c))
/-- The kernel's `v207`. -/
def kHotB (m : (ℓ : Loc nD τ sig) → Buf (Elt F) ℓ) (c : Dev nD) : FVec F S1024x16 .bf16 := (k0_pay9 (F := F) (kHotI m c))
/-- The kernel's `v244`. -/
def kOffs (m : (ℓ : Loc nD τ sig) → Buf (Elt F) ℓ) (c : Dev nD) : FVec F S1x16 .f32 := (k0_pay10 (kv2 c) (kCol m c) (ldR m ![0, 0, 0] inb_S4x1024x1_S1x1024x1_0_0_0) (ldR m ![1, 0, 0] inb_S4x1024x1_S1x1024x1_1_0_0) (ldR m ![2, 0, 0] inb_S4x1024x1_S1x1024x1_2_0_0))
/-- The converted tokens. -/
def xbv (m : (ℓ : Loc nD τ sig) → Buf (Elt F) ℓ) (c : Dev nD) : Vec F S1024x512 .bf16 := (k0_pay12 (xstg m c))
/-- The kernel's `v276`. -/
def kKeep (m : (ℓ : Loc nD τ sig) → Buf (Elt F) ℓ) (c : Dev nD) : FVec F S1024x1 .bf16 := (k0_pay11 (kv2 c) (kCol m c) (kHotF m c) (kHotB m c) (kOffs m c) (ldR m ![3, 0, 0] inb_S4x1024x1_S1x1024x1_3_0_0))
/-- The accumulator after part 10. -/
def out1 (m : (ℓ : Loc nD τ sig) → Buf (Elt F) ℓ) (c : Dev nD) : Vec F S1024x1024 .f32 := (k0_pay15 (kv2 c) (kRt m c) (kKeep m c) (ldW m (k0_off9 c 1#32) (k0_off9_inb c 1)) (xbv m c) (k0_pay14 (k0_pay13 (kv2 c) (kCol m c) (kRt m c) (kHotF m c) (kHotB m c) (kOffs m c) (ldR m ![3, 0, 0] inb_S4x1024x1_S1x1024x1_3_0_0)) (ldW m (k0_off9 c 0#32) (k0_off9_inb c 0)) (xbv m c)))
/-- The accumulator after part 11. -/
def out2 (m : (ℓ : Loc nD τ sig) → Buf (Elt F) ℓ) (c : Dev nD) : Vec F S1024x1024 .f32 := (k0_pay18 (kv2 c) (kRt m c) (kKeep m c) (ldW m (k0_off9 c 3#32) (k0_off9_inb c 3)) (xbv m c) (k0_pay17 ((k0_pay16 (kv2 c) (kRt m c) (kKeep m c))) (ldW m (k0_off9 c 2#32) (k0_off9_inb c 2)) (xbv m c) (out1 m c)))
/-- The accumulator after part 13. -/
def out3 (m : (ℓ : Loc nD τ sig) → Buf (Elt F) ℓ) (c : Dev nD) : Vec F S1024x1024 .f32 := (k0_pay19 (kRt m c) (kKeep m c) ((Scalar.addi (Scalar.subi (Scalar.subi (kv2 c) 0#32) 1#32) 4#32)) (4#32) (ldW m (k0_off12 c 0#32 0#32) (k0_off12_inb c 0 0)) (xbv m c) (out2 m c))
/-- The accumulator after part 14. -/
def out4 (m : (ℓ : Loc nD τ sig) → Buf (Elt F) ℓ) (c : Dev nD) : Vec F S1024x1024 .f32 := (k0_pay22 (kRt m c) (kKeep m c) ((Scalar.remsi (Scalar.addi (Scalar.addi (kv2 c) 0#32) 1#32) 4#32)) (ldW m (k0_off13 c 0#32 0#32) (k0_off13_inb c 0 0)) (xbv m c) (k0_pay21 (k0_pay20 (kRt m c) (kKeep m c) ((Scalar.addi (Scalar.subi (Scalar.subi (kv2 c) 0#32) 1#32) 4#32)) (4#32) (ldW m (k0_off12 c 0#32 1#32) (k0_off12_inb c 0 1)) (xbv m c)) (out3 m c)))
/-- The accumulator after part 15. -/
def out5 (m : (ℓ : Loc nD τ sig) → Buf (Elt F) ℓ) (c : Dev nD) : Vec F S1024x1024 .f32 := (k0_pay25 (k0_pay23 (kRt m c) (kKeep m c) ((Scalar.remsi (Scalar.addi (Scalar.addi (kv2 c) 0#32) 1#32) 4#32))) (k0_pay24 (ldW m (k0_off13 c 0#32 1#32) (k0_off13_inb c 0 1))) (xbv m c) (out4 m c))
/-- The accumulator after part 17. -/
def out6 (m : (ℓ : Loc nD τ sig) → Buf (Elt F) ℓ) (c : Dev nD) : Vec F S1024x1024 .f32 := (k0_pay27 (kRt m c) (kKeep m c) ((Scalar.remsi (Scalar.addi (Scalar.subi (Scalar.subi (kv2 c) 1#32) 1#32) 4#32) 4#32)) (ldW m (k0_off12 c 1#32 1#32) (k0_off12_inb c 1 1)) (xbv m c) (k0_pay26 (kv2 c) (kRt m c) (kKeep m c) (ldW m (k0_off12 c 1#32 0#32) (k0_off12_inb c 1 0)) (xbv m c) (out5 m c)))
/-- The accumulator after part 18. -/
def out7 (m : (ℓ : Loc nD τ sig) → Buf (Elt F) ℓ) (c : Dev nD) : Vec F S1024x1024 .f32 := (k0_pay30 (kRt m c) (kKeep m c) ((Scalar.remsi (Scalar.addi (Scalar.addi (kv2 c) 1#32) 1#32) 4#32)) (ldW m (k0_off13 c 1#32 1#32) (k0_off13_inb c 1 1)) (xbv m c) (k0_pay29 ((k0_pay28 (kRt m c) (kKeep m c) ((Scalar.remsi (Scalar.addi (Scalar.addi (kv2 c) 1#32) 1#32) 4#32)) (ldW m (k0_off13 c 1#32 0#32) (k0_off13_inb c 1 0)) (xbv m c))) (out6 m c)))
/-- The accumulator after part 19. -/
def out8 (m : (ℓ : Loc nD τ sig) → Buf (Elt F) ℓ) (c : Dev nD) : Vec F S1024x1024 .f32 := (k0_pay31 (kv2 c) (kRt m c) (kKeep m c) (ldW m (k0_off12 c 2#32 0#32) (k0_off12_inb c 2 0)) (xbv m c) (out7 m c))
/-- The accumulator after part 20. -/
def out9 (m : (ℓ : Loc nD τ sig) → Buf (Elt F) ℓ) (c : Dev nD) : Vec F S1024x1024 .f32 := (k0_pay33 (kRt m c) (kKeep m c) ((Scalar.remsi (Scalar.addi (Scalar.addi (kv2 c) 2#32) 1#32) 4#32)) (ldW m (k0_off13 c 2#32 0#32) (k0_off13_inb c 2 0)) (xbv m c) (k0_pay32 (kRt m c) (kKeep m c) ((Scalar.addi (Scalar.muli (Scalar.remsi (Scalar.addi (Scalar.subi (Scalar.subi (kv2 c) 2#32) 1#32) 4#32) 4#32) 4#32) 1#32)) (ldW m (k0_off12 c 2#32 1#32) (k0_off12_inb c 2 1)) (xbv m c) (out8 m c)))
/-- The accumulator after part 21. -/
def out10 (m : (ℓ : Loc nD τ sig) → Buf (Elt F) ℓ) (c : Dev nD) : Vec F S1024x1024 .f32 := (k0_pay34 (kRt m c) (kKeep m c) ((Scalar.remsi (Scalar.addi (Scalar.addi (kv2 c) 2#32) 1#32) 4#32)) (ldW m (k0_off13 c 2#32 1#32) (k0_off13_inb c 2 1)) (xbv m c) (out9 m c))

/-- What the barrier hands over, written out. -/
theorem barPay_one (c : Dev nD) : (barPay c 1 : sProp 𝕄) = iprop(rowE (sh c 3) c ∗ slotE (sh c 3) (hi (sh c 0)) ∗ slotE (sh c 3) (hi (sh c 1)) ∗ slotE (sh c 3) (hi (sh c 2))) := rfl
theorem barPay_three (c : Dev nD) : (barPay c 3 : sProp 𝕄) = iprop(rowE (sh c 1) c ∗ slotE (sh c 1) (lo (sh c 4)) ∗ slotE (sh c 1) (lo (sh c 3)) ∗ slotE (sh c 1) (lo (sh c 2))) := rfl
theorem barPay_two (c : Dev nD) : (barPay c 2 : sProp 𝕄) = rowE (sh c 2) c := rfl

/-- What device `c` holds when its body starts. -/
def startP (c : Dev nD) (O : Vec F S1024x1024 .f32) (X : Vec F S1024x512 .bf16) : sProp 𝕄 :=
  iprop(ow c (rem c 0) ∗ tk (sh c 1, 0) 1 ∗ tk (sh c 2, 0) 2 ∗ tk (sh c 3, 0) 3 ∗ tk (c, 1) 0 ∗ tk (c, 2) 0 ∗ tk (c, 3) 0 ∗ tk (sh c 1, 4) 0 ∗ tk (sh c 1, 5) 0 ∗ tk (sh c 1, 6) 0 ∗ tk (c, 7) 0 ∗ tk (c, 8) 0 ∗ tk (c, 9) 0 ∗ tk (sh c 3, 10) 0 ∗ tk (sh c 3, 11) 0 ∗ tk (sh c 3, 12) 0 ∗ tk (c, 13) 0 ∗ tk (c, 14) 0 ∗ tk (c, 15) 0 ∗ tk (sh c 1, (rk c)) 0 ∗ tk (sh c 2, (rk c)) 0 ∗ tk (sh c 3, (rk c)) 0 ∗ pos c 0 ∗ pos c 1 ∗ pos c 2 ∗ pos c 3 ∗ pos c 4 ∗ pos c 5 ∗ pos c 6 ∗ pos c 7 ∗ pos c 8 ∗ pos c 9 ∗ pos c 10 ∗ pos c 11 ∗ pos c 12 ∗ pos c 13 ∗ pos c 14 ∗ pos c 15 ∗ pos c (rk (sh c 1)) ∗ pos c (rk (sh c 2)) ∗ pos c (rk (sh c 3)) ∗ cred (tallyAt (kcell (c, 0)) () 3) ∗ cr c 4 ∗ cr c 5 ∗ cr c 6 ∗ cr c 10 ∗ cr c 11 ∗ cr c 12 ∗ cr c (rk (sh c 1)) ∗ cr c (rk (sh c 2)) ∗ cr c (rk (sh c 3)) ∗ wh c cc0_stg0_0 (xstg m c) ∗ wh c cc0_stg1_0 (rstg m c) ∗ wh c cc0_stg2_0 (wstg m c) ∗ wh c cc0_stg3_0 O ∗ wh c cc0_scratch2 X ∗ rowE c c ∗ slotE c (lo (sh c 4)) ∗ slotE c (hi (sh c 0)) ∗ barPay (sh c 1) 1 ∗ barPay (sh c 2) 2 ∗ barPay (sh c 3) 3)

/-- What device `c` holds when its body ends. -/
def endP (c : Dev nD) : sProp 𝕄 :=
  iprop(ow c (rem c 12) ∗ zz c 0 ∗ zz c 1 ∗ zz c 2 ∗ zz c 3 ∗ zz c 4 ∗ zz c 5 ∗ zz c 6 ∗ zz c 7 ∗ zz c 8 ∗ zz c 9 ∗ zz c 10 ∗ zz c 11 ∗ zz c 12 ∗ zz c 13 ∗ zz c 14 ∗ zz c 15 ∗ zz c (rk (sh c 1)) ∗ zz c (rk (sh c 2)) ∗ zz c (rk (sh c 3)) ∗ wh c cc0_stg0_0 (xstg m c) ∗ wh c cc0_stg1_0 (rstg m c) ∗ wh c cc0_stg2_0 (wstg m c) ∗ wh c cc0_stg3_0 (out10 m c) ∗ wh c cc0_scratch2 (xbv m c) ∗ row m c c fullShare ∗ row m c (sh c 1) fullShare ∗ row m c (sh c 2) fullShare ∗ row m c (sh c 3) fullShare ∗ slot m c (lo (sh c 4)) fullShare ∗ slot m c (lo (sh c 3)) fullShare ∗ slot m c (lo (sh c 2)) fullShare ∗ slot m c (lo (sh c 1)) fullShare ∗ slot m c (hi (sh c 0)) fullShare ∗ slot m c (hi (sh c 1)) fullShare ∗ slot m c (hi (sh c 2)) fullShare ∗ slot m c (hi (sh c 3)) fullShare)

set_option maxHeartbeats 4000000 in
set_option maxRecDepth 65536 in
/-- The body runs from the start to the end. -/
theorem sound_body (K : Dev nD × Fin 20 → ℕ) (c : Dev nD) (h0 : AX.IsWhole) (h1 : AR.IsWhole) (h2 : AW.IsWhole) (h3 : AO.IsWhole) (h4 : WA.IsWhole) (h5 : RA'.IsWhole) (h6 : XB.IsWhole) (O : Vec F S1024x1024 .f32) (X : Vec F S1024x512 .bf16) {Q : _ → sProp 𝕄} :
    iprop(ctx m K ∗ startP m c O X)
      ⊢ iprop((endP m c -∗ Q ⟨⟩) -∗ wp frame (wpE (defs₀ (F := F)) 𝒱₀ (c : Thread nD τ) none) Set.univ (cc0_body (F := F) AX h0 AR h1 AW h2 AO h3 WA h4 RA' h5 XB h6 cc0_scratch3 cc0_scratch4 cc0_scratch5 cc0_scratch6 cc0_scratch7 cc0_scratch8) Q) := by
  rw [cc0_body_eq_skeleton]; unfold cc0_body_skel startP endP
  simp only [Prog.lift, Prog.bind_op, Prog.bind_ret, Prog.pure_eq_ret, wp_bind]
  iintro ⟨#Hctx, HO, Htk__sh_c_1_0__1, Htk__sh_c_2_0__2, Htk__sh_c_3_0__3, Htk__c_1__0, Htk__c_2__0, Htk__c_3__0, Htk__sh_c_1_4__0, Htk__sh_c_1_5__0, Htk__sh_c_1_6__0, Htk__c_7__0, Htk__c_8__0, Htk__c_9__0, Htk__sh_c_3_10__0, Htk__sh_c_3_11__0, Htk__sh_c_3_12__0, Htk__c_13__0, Htk__c_14__0, Htk__c_15__0, Htk__sh_c_1_rk_c__0, Htk__sh_c_2_rk_c__0, Htk__sh_c_3_rk_c__0, Hpos_0, Hpos_1, Hpos_2, Hpos_3, Hpos_4, Hpos_5, Hpos_6, Hpos_7, Hpos_8, Hpos_9, Hpos_10, Hpos_11, Hpos_12, Hpos_13, Hpos_14, Hpos_15, Hpos__rk_sh_c_1, Hpos__rk_sh_c_2, Hpos__rk_sh_c_3, Hraw_cred_tallyAt_kcell_c_0_3, Hcr_4, Hcr_5, Hcr_6, Hcr_10, Hcr_11, Hcr_12, Hcr__rk_sh_c_1, Hcr__rk_sh_c_2, Hcr__rk_sh_c_3, Hwh_cc0_stg0_0, Hwh_cc0_stg1_0, Hwh_cc0_stg2_0, Hwh_cc0_stg3_0, Hwh_cc0_scratch2, Hrow_c, Hslot__lo_4, Hslot__hi_0, Hraw_barPay_sh_c_1_1, Hraw_barPay_sh_c_2_2, Hraw_barPay_sh_c_3_3⟩ HQ
  iapply (part1 m K c h0 h1 h2 h3 h4 h5 h6) $$ [HO Htk__sh_c_1_0__1 Htk__sh_c_2_0__2 Htk__sh_c_3_0__3 Hraw_barPay_sh_c_1_1 Hraw_barPay_sh_c_2_2 Hraw_barPay_sh_c_3_3 Hraw_cred_tallyAt_kcell_c_0_3 Hpos_0]
  · isplitr; · iexact Hctx
    isplitl [HO]; · iexact HO
    isplitl [Htk__sh_c_1_0__1]; · iexact Htk__sh_c_1_0__1
    isplitl [Htk__sh_c_2_0__2]; · iexact Htk__sh_c_2_0__2
    isplitl [Htk__sh_c_3_0__3]; · iexact Htk__sh_c_3_0__3
    isplitl [Hraw_barPay_sh_c_1_1]; · iexact Hraw_barPay_sh_c_1_1
    isplitl [Hraw_barPay_sh_c_2_2]; · iexact Hraw_barPay_sh_c_2_2
    isplitl [Hraw_barPay_sh_c_3_3]; · iexact Hraw_barPay_sh_c_3_3
    isplitl [Hraw_cred_tallyAt_kcell_c_0_3]; · iexact Hraw_cred_tallyAt_kcell_c_0_3
    iexact Hpos_0
  iintro ⟨HO, Hzz_0, HB1, HB2, HB3⟩
  ihave HB1 := (Entails.of_eq (barPay_one c)) $$ HB1
  icases HB1 with ⟨HrrowE_3, HrslotE_3__hi_0, HrslotE_3__hi_1, HrslotE_3__hi_2⟩
  ihave HrrowE_2 := (Entails.of_eq (barPay_two c)) $$ HB2
  ihave HB3 := (Entails.of_eq (barPay_three c)) $$ HB3
  icases HB3 with ⟨HrrowE_1, HrslotE_1__lo_4, HrslotE_1__lo_3, HrslotE_1__lo_2⟩
  iapply (part2 c h0 h1 h2 h3 h4 h5 h6); iintro %_
  iapply (part3 c h0 h1 h2 h3 h4 h5 h6); iintro %_
  iapply (part4 m K c h0 h1 h2 h3 h4 h5 h6 _ _ ) $$ [Hwh_cc0_stg1_0 Hrow_c]
  · isplitl [Hwh_cc0_stg1_0]; · iexact Hwh_cc0_stg1_0
    iexact Hrow_c
  iintro ⟨Hwh_cc0_stg1_0, Hrow_c⟩
  ihave Hrq := (row_split m c c) $$ Hrow_c
  icases Hrq with ⟨Hrowq_0, Hrowq_1, Hrowq_2, Hrowq_3⟩
  iapply (part5 m K c h0 h1 h2 h3 h4 h5 h6 _ ) $$ [HO Htk__c_13__0 Htk__sh_c_1_rk_c__0 Hrowq_0 HrrowE_1 Htk__c_14__0 Htk__sh_c_2_rk_c__0 Hrowq_1 HrrowE_2 Htk__c_15__0 Htk__sh_c_3_rk_c__0 Hrowq_2 HrrowE_3 Hwh_cc0_stg2_0]
  · isplitr; · iexact Hctx
    isplitl [HO]; · iexact HO
    isplitl [Htk__c_13__0]; · iexact Htk__c_13__0
    isplitl [Htk__sh_c_1_rk_c__0]; · iexact Htk__sh_c_1_rk_c__0
    isplitl [Hrowq_0]; · iexact Hrowq_0
    isplitl [HrrowE_1]; · iexact HrrowE_1
    isplitl [Htk__c_14__0]; · iexact Htk__c_14__0
    isplitl [Htk__sh_c_2_rk_c__0]; · iexact Htk__sh_c_2_rk_c__0
    isplitl [Hrowq_1]; · iexact Hrowq_1
    isplitl [HrrowE_2]; · iexact HrrowE_2
    isplitl [Htk__c_15__0]; · iexact Htk__c_15__0
    isplitl [Htk__sh_c_3_rk_c__0]; · iexact Htk__sh_c_3_rk_c__0
    isplitl [Hrowq_2]; · iexact Hrowq_2
    isplitl [HrrowE_3]; · iexact HrrowE_3
    iexact Hwh_cc0_stg2_0
  iintro ⟨HO, Hwh_cc0_stg2_0, Hcr_13, Hcr_14, Hcr_15⟩
  iapply (part6 m K c h0 h1 h2 h3 h4 h5 h6 _ _ _ ) $$ [Hslot__lo_4 HO Htk__c_1__0 Htk__sh_c_1_4__0 HrslotE_1__lo_4 Hwh_cc0_stg2_0 Hslot__hi_0 Htk__c_7__0 Htk__sh_c_3_10__0 HrslotE_3__hi_0]
  · isplitr; · iexact Hctx
    isplitl [Hslot__lo_4]; · iexact Hslot__lo_4
    isplitl [HO]; · iexact HO
    isplitl [Htk__c_1__0]; · iexact Htk__c_1__0
    isplitl [Htk__sh_c_1_4__0]; · iexact Htk__sh_c_1_4__0
    isplitl [HrslotE_1__lo_4]; · iexact HrslotE_1__lo_4
    isplitl [Hwh_cc0_stg2_0]; · iexact Hwh_cc0_stg2_0
    isplitl [Hslot__hi_0]; · iexact Hslot__hi_0
    isplitl [Htk__c_7__0]; · iexact Htk__c_7__0
    isplitl [Htk__sh_c_3_10__0]; · iexact Htk__sh_c_3_10__0
    iexact HrslotE_3__hi_0
  iintro ⟨Hslot__lo_4, HO, Hwh_cc0_stg2_0, Hslot__hi_0, Hcr_1, Hcr_7⟩
  iapply (part7 m K c h0 h1 h2 h3 h4 h5 h6 _ ) $$ [HO Hcr__rk_sh_c_1 Hpos__rk_sh_c_1 Hcr__rk_sh_c_2 Hpos__rk_sh_c_2 Hcr__rk_sh_c_3 Hpos__rk_sh_c_3 Hwh_cc0_stg1_0]
  · isplitr; · iexact Hctx
    isplitl [HO]; · iexact HO
    isplitl [Hcr__rk_sh_c_1]; · iexact Hcr__rk_sh_c_1
    isplitl [Hpos__rk_sh_c_1]; · iexact Hpos__rk_sh_c_1
    isplitl [Hcr__rk_sh_c_2]; · iexact Hcr__rk_sh_c_2
    isplitl [Hpos__rk_sh_c_2]; · iexact Hpos__rk_sh_c_2
    isplitl [Hcr__rk_sh_c_3]; · iexact Hcr__rk_sh_c_3
    isplitl [Hpos__rk_sh_c_3]; · iexact Hpos__rk_sh_c_3
    iexact Hwh_cc0_stg1_0
  iintro ⟨HO, Hwh_cc0_stg1_0, Hzz__rk_sh_c_1, Hrow__sh_c_1, Hzz__rk_sh_c_2, Hrow__sh_c_2, Hzz__rk_sh_c_3, Hrow__sh_c_3⟩
  ihave Hrows := (rows_in m c) $$ [Hrowq_3 Hrow__sh_c_1 Hrow__sh_c_2 Hrow__sh_c_3]
  · isplitl [Hrowq_3]; · iexact Hrowq_3
    isplitl [Hrow__sh_c_1]; · iexact Hrow__sh_c_1
    isplitl [Hrow__sh_c_2]; · iexact Hrow__sh_c_2
    iexact Hrow__sh_c_3
  icases Hrows with ⟨Hrowl_0, Hrowl_1, Hrowl_2, Hrowl_3⟩
  iapply (part8 m K c h0 h1 h2 h3 h4 h5 h6 _ _ _ ) $$ [Hrowl_0 Hrowl_1 Hrowl_2]
  · isplitl [Hrowl_0]; · iexact Hrowl_0
    isplitl [Hrowl_1]; · iexact Hrowl_1
    iexact Hrowl_2
  iintro ⟨Hrowl_0, Hrowl_1, Hrowl_2⟩
  iapply (part9 m K c h0 h1 h2 h3 h4 h5 h6 _ _ _ _ _ _ _) $$ [Hrowl_3 Hwh_cc0_stg0_0 Hwh_cc0_scratch2]
  · isplitl [Hrowl_3]; · iexact Hrowl_3
    isplitl [Hwh_cc0_stg0_0]; · iexact Hwh_cc0_stg0_0
    iexact Hwh_cc0_scratch2
  iintro ⟨Hrowl_3, Hwh_cc0_stg0_0, Hwh_cc0_scratch2⟩
  iapply (part10 m K c h0 h1 h2 h3 h4 h5 h6 _ _ _ _ _ _ _) $$ [Hslot__lo_4 Hwh_cc0_scratch2 Hwh_cc0_stg3_0]
  · isplitl [Hslot__lo_4]; · iexact Hslot__lo_4
    isplitl [Hwh_cc0_scratch2]; · iexact Hwh_cc0_scratch2
    iexact Hwh_cc0_stg3_0
  iintro ⟨Hslot__lo_4, Hwh_cc0_scratch2, Hwh_cc0_stg3_0⟩
  iapply (part11 m K c h0 h1 h2 h3 h4 h5 h6 _ _ _ _ _ _ _) $$ [Hslot__hi_0 Hwh_cc0_scratch2 Hwh_cc0_stg3_0]
  · isplitl [Hslot__hi_0]; · iexact Hslot__hi_0
    isplitl [Hwh_cc0_scratch2]; · iexact Hwh_cc0_scratch2
    iexact Hwh_cc0_stg3_0
  iintro ⟨Hslot__hi_0, Hwh_cc0_scratch2, Hwh_cc0_stg3_0⟩
  iapply (part12 m K c h0 h1 h2 h3 h4 h5 h6 _ _ _ ) $$ [HO Hcr_4 Hpos_4 Hcr_10 Hpos_10 Htk__c_2__0 Htk__sh_c_1_5__0 HrslotE_1__lo_3 Htk__c_8__0 Htk__sh_c_3_11__0 HrslotE_3__hi_1]
  · isplitr; · iexact Hctx
    isplitl [HO]; · iexact HO
    isplitl [Hcr_4]; · iexact Hcr_4
    isplitl [Hpos_4]; · iexact Hpos_4
    isplitl [Hcr_10]; · iexact Hcr_10
    isplitl [Hpos_10]; · iexact Hpos_10
    isplitl [Htk__c_2__0]; · iexact Htk__c_2__0
    isplitl [Htk__sh_c_1_5__0]; · iexact Htk__sh_c_1_5__0
    isplitl [HrslotE_1__lo_3]; · iexact HrslotE_1__lo_3
    isplitl [Htk__c_8__0]; · iexact Htk__c_8__0
    isplitl [Htk__sh_c_3_11__0]; · iexact Htk__sh_c_3_11__0
    iexact HrslotE_3__hi_1
  iintro ⟨HO, Hzz_4, Hslot__lo_3, Hzz_10, Hslot__hi_1, Hcr_2, Hcr_8⟩
  iapply (part13 m K c h0 h1 h2 h3 h4 h5 h6 _ _ _ _ _ _ _) $$ [Hslot__lo_3 Hwh_cc0_scratch2 Hwh_cc0_stg3_0]
  · isplitl [Hslot__lo_3]; · iexact Hslot__lo_3
    isplitl [Hwh_cc0_scratch2]; · iexact Hwh_cc0_scratch2
    iexact Hwh_cc0_stg3_0
  iintro ⟨Hslot__lo_3, Hwh_cc0_scratch2, Hwh_cc0_stg3_0⟩
  iapply (part14 m K c h0 h1 h2 h3 h4 h5 h6 _ _ _ _ _ _) $$ [Hwh_cc0_stg3_0 Hslot__hi_1 Hwh_cc0_scratch2]
  · isplitl [Hwh_cc0_stg3_0]; · iexact Hwh_cc0_stg3_0
    isplitl [Hslot__hi_1]; · iexact Hslot__hi_1
    iexact Hwh_cc0_scratch2
  iintro ⟨Hwh_cc0_stg3_0, Hslot__hi_1, Hwh_cc0_scratch2⟩
  iapply (part15 m K c h0 h1 h2 h3 h4 h5 h6 _ _ _ _ _ _) $$ [Hwh_cc0_scratch2 Hwh_cc0_stg3_0 HO Hcr_5 Hpos_5 Hcr_11 Hpos_11]
  · isplitr; · iexact Hctx
    isplitl [Hwh_cc0_scratch2]; · iexact Hwh_cc0_scratch2
    isplitl [Hwh_cc0_stg3_0]; · iexact Hwh_cc0_stg3_0
    isplitl [HO]; · iexact HO
    isplitl [Hcr_5]; · iexact Hcr_5
    isplitl [Hpos_5]; · iexact Hpos_5
    isplitl [Hcr_11]; · iexact Hcr_11
    iexact Hpos_11
  iintro ⟨Hwh_cc0_scratch2, Hwh_cc0_stg3_0, HO, Hzz_5, Hslot__lo_2, Hzz_11, Hslot__hi_2⟩
  iapply (part16 m K c h0 h1 h2 h3 h4 h5 h6 _ _ _ _ _ _) $$ [HO Htk__c_3__0 Htk__sh_c_1_6__0 Hslot__lo_2 HrslotE_1__lo_2 Htk__c_9__0 Htk__sh_c_3_12__0 Hslot__hi_2 HrslotE_3__hi_2 Hwh_cc0_scratch2 Hwh_cc0_stg3_0]
  · isplitr; · iexact Hctx
    isplitl [HO]; · iexact HO
    isplitl [Htk__c_3__0]; · iexact Htk__c_3__0
    isplitl [Htk__sh_c_1_6__0]; · iexact Htk__sh_c_1_6__0
    isplitl [Hslot__lo_2]; · iexact Hslot__lo_2
    isplitl [HrslotE_1__lo_2]; · iexact HrslotE_1__lo_2
    isplitl [Htk__c_9__0]; · iexact Htk__c_9__0
    isplitl [Htk__sh_c_3_12__0]; · iexact Htk__sh_c_3_12__0
    isplitl [Hslot__hi_2]; · iexact Hslot__hi_2
    isplitl [HrslotE_3__hi_2]; · iexact HrslotE_3__hi_2
    isplitl [Hwh_cc0_scratch2]; · iexact Hwh_cc0_scratch2
    iexact Hwh_cc0_stg3_0
  iintro ⟨HO, Hslot__lo_2, Hslot__hi_2, Hwh_cc0_scratch2, Hwh_cc0_stg3_0, Hcr_3, Hcr_9⟩
  iapply (part17 m K c h0 h1 h2 h3 h4 h5 h6 _ _ _ _ _ _ _) $$ [Hwh_cc0_stg3_0 Hslot__lo_2 Hwh_cc0_scratch2 Hslot__hi_2]
  · isplitl [Hwh_cc0_stg3_0]; · iexact Hwh_cc0_stg3_0
    isplitl [Hslot__lo_2]; · iexact Hslot__lo_2
    isplitl [Hwh_cc0_scratch2]; · iexact Hwh_cc0_scratch2
    iexact Hslot__hi_2
  iintro ⟨Hwh_cc0_stg3_0, Hslot__lo_2, Hwh_cc0_scratch2, Hslot__hi_2⟩
  iapply (part18 m K c h0 h1 h2 h3 h4 h5 h6 _ _ _ _ _ _ _ _) $$ [Hwh_cc0_stg3_0 Hslot__hi_2 Hwh_cc0_scratch2 HO Hcr_6 Hpos_6]
  · isplitr; · iexact Hctx
    isplitl [Hwh_cc0_stg3_0]; · iexact Hwh_cc0_stg3_0
    isplitl [Hslot__hi_2]; · iexact Hslot__hi_2
    isplitl [Hwh_cc0_scratch2]; · iexact Hwh_cc0_scratch2
    isplitl [HO]; · iexact HO
    isplitl [Hcr_6]; · iexact Hcr_6
    iexact Hpos_6
  iintro ⟨Hwh_cc0_stg3_0, Hslot__hi_2, Hwh_cc0_scratch2, HO, Hzz_6, Hslot__lo_1⟩
  iapply (part19 m K c h0 h1 h2 h3 h4 h5 h6 _ _ _ _ _ _) $$ [HO Hcr_12 Hpos_12 Hslot__lo_1 Hwh_cc0_scratch2 Hwh_cc0_stg3_0]
  · isplitr; · iexact Hctx
    isplitl [HO]; · iexact HO
    isplitl [Hcr_12]; · iexact Hcr_12
    isplitl [Hpos_12]; · iexact Hpos_12
    isplitl [Hslot__lo_1]; · iexact Hslot__lo_1
    isplitl [Hwh_cc0_scratch2]; · iexact Hwh_cc0_scratch2
    iexact Hwh_cc0_stg3_0
  iintro ⟨HO, Hslot__lo_1, Hwh_cc0_scratch2, Hwh_cc0_stg3_0, Hzz_12, Hslot__hi_3⟩
  iapply (part20 m K c h0 h1 h2 h3 h4 h5 h6 _ _ _ _ _ _) $$ [Hslot__lo_1 Hwh_cc0_scratch2 Hwh_cc0_stg3_0 Hslot__hi_3]
  · isplitl [Hslot__lo_1]; · iexact Hslot__lo_1
    isplitl [Hwh_cc0_scratch2]; · iexact Hwh_cc0_scratch2
    isplitl [Hwh_cc0_stg3_0]; · iexact Hwh_cc0_stg3_0
    iexact Hslot__hi_3
  iintro ⟨Hslot__lo_1, Hwh_cc0_scratch2, Hwh_cc0_stg3_0, Hslot__hi_3⟩
  iapply (part21 m K c h0 h1 h2 h3 h4 h5 h6 _ _ _ _ _) $$ [Hslot__hi_3 Hwh_cc0_scratch2 Hwh_cc0_stg3_0 HO Hcr_1 Hpos_1 Hcr_7 Hpos_7]
  · isplitr; · iexact Hctx
    isplitl [Hslot__hi_3]; · iexact Hslot__hi_3
    isplitl [Hwh_cc0_scratch2]; · iexact Hwh_cc0_scratch2
    isplitl [Hwh_cc0_stg3_0]; · iexact Hwh_cc0_stg3_0
    isplitl [HO]; · iexact HO
    isplitl [Hcr_1]; · iexact Hcr_1
    isplitl [Hpos_1]; · iexact Hpos_1
    isplitl [Hcr_7]; · iexact Hcr_7
    iexact Hpos_7
  iintro ⟨Hslot__hi_3, Hwh_cc0_scratch2, Hwh_cc0_stg3_0, HO, Hzz_1, HslotL__lo_4, Hzz_7, HslotL__hi_0⟩
  iapply (part22 m K c h0 h1 h2 h3 h4 h5 h6  ) $$ [HO Hcr_2 Hpos_2 Hcr_8 Hpos_8 Hcr_3 Hpos_3 Hcr_9 Hpos_9 Hcr_13 Hpos_13]
  · isplitr; · iexact Hctx
    isplitl [HO]; · iexact HO
    isplitl [Hcr_2]; · iexact Hcr_2
    isplitl [Hpos_2]; · iexact Hpos_2
    isplitl [Hcr_8]; · iexact Hcr_8
    isplitl [Hpos_8]; · iexact Hpos_8
    isplitl [Hcr_3]; · iexact Hcr_3
    isplitl [Hpos_3]; · iexact Hpos_3
    isplitl [Hcr_9]; · iexact Hcr_9
    isplitl [Hpos_9]; · iexact Hpos_9
    isplitl [Hcr_13]; · iexact Hcr_13
    iexact Hpos_13
  iintro ⟨HO, Hzz_2, HslotL__lo_3, Hzz_8, HslotL__hi_1, Hzz_3, HslotL__lo_2, Hzz_9, HslotL__hi_2, Hzz_13, Hrowq_0⟩
  iapply (wp_dwait m K c 14 (duty_lt c 14 (by decide) (by decide)) _ sem7_1 (rem c 12) (rem_lv12 c _) ((rcred _ _).trans (amtN_R (14 : Fin 20).val (by decide)).symm)) $$ [Hcr_14 HO Hpos_14]
  · isplitr; · iexact Hctx
    isplitl [Hcr_14]; · iexact Hcr_14
    isplitl [HO]; · iexact HO
    iexact Hpos_14
  iintro ⟨HO, Hzz_14, Hrowq_1⟩
  ihave Hrowq_1 := (Entails.of_eq (pay_14 m c)) $$ Hrowq_1
  iapply (wp_dwait m K c 15 (duty_lt c 15 (by decide) (by decide)) _ sem7_2 (rem c 12) (rem_lv12 c _) ((rcred _ _).trans (amtN_R (15 : Fin 20).val (by decide)).symm)) $$ [Hcr_15 HO Hpos_15]
  · isplitr; · iexact Hctx
    isplitl [Hcr_15]; · iexact Hcr_15
    isplitl [HO]; · iexact HO
    iexact Hpos_15
  iintro ⟨HO, Hzz_15, Hrowq_2⟩
  ihave Hrowq_2 := (Entails.of_eq (pay_15 m c)) $$ Hrowq_2
  ihave Hrows := (rows_out m c) $$ [Hrowl_0 Hrowl_1 Hrowl_2 Hrowl_3]
  · isplitl [Hrowl_0]; · iexact Hrowl_0
    isplitl [Hrowl_1]; · iexact Hrowl_1
    isplitl [Hrowl_2]; · iexact Hrowl_2
    iexact Hrowl_3
  icases Hrows with ⟨Hrowq_3, Hrow__sh_c_1, Hrow__sh_c_2, Hrow__sh_c_3⟩
  ihave Hrow_c := (row_join m c c) $$ [Hrowq_0 Hrowq_1 Hrowq_2 Hrowq_3]
  · isplitl [Hrowq_0]; · iexact Hrowq_0
    isplitl [Hrowq_1]; · iexact Hrowq_1
    isplitl [Hrowq_2]; · iexact Hrowq_2
    iexact Hrowq_3
  ihave Hslot__lo_4 := (slot_join m c (lo (sh c 4))) $$ [HslotL__lo_4 Hslot__lo_4]
  · isplitl [HslotL__lo_4]; · iexact HslotL__lo_4
    iexact Hslot__lo_4
  ihave Hslot__lo_3 := (slot_join m c (lo (sh c 3))) $$ [HslotL__lo_3 Hslot__lo_3]
  · isplitl [HslotL__lo_3]; · iexact HslotL__lo_3
    iexact Hslot__lo_3
  ihave Hslot__lo_2 := (slot_join m c (lo (sh c 2))) $$ [HslotL__lo_2 Hslot__lo_2]
  · isplitl [HslotL__lo_2]; · iexact HslotL__lo_2
    iexact Hslot__lo_2
  ihave Hslot__hi_0 := (slot_join m c (hi (sh c 0))) $$ [HslotL__hi_0 Hslot__hi_0]
  · isplitl [HslotL__hi_0]; · iexact HslotL__hi_0
    iexact Hslot__hi_0
  ihave Hslot__hi_1 := (slot_join m c (hi (sh c 1))) $$ [HslotL__hi_1 Hslot__hi_1]
  · isplitl [HslotL__hi_1]; · iexact HslotL__hi_1
    iexact Hslot__hi_1
  ihave Hslot__hi_2 := (slot_join m c (hi (sh c 2))) $$ [HslotL__hi_2 Hslot__hi_2]
  · isplitl [HslotL__hi_2]; · iexact HslotL__hi_2
    iexact Hslot__hi_2
  rw [wp_ret]; imodintro
  iapply HQ
  isplitl [HO]; · iexact HO
  isplitl [Hzz_0]; · iexact Hzz_0
  isplitl [Hzz_1]; · iexact Hzz_1
  isplitl [Hzz_2]; · iexact Hzz_2
  isplitl [Hzz_3]; · iexact Hzz_3
  isplitl [Hzz_4]; · iexact Hzz_4
  isplitl [Hzz_5]; · iexact Hzz_5
  isplitl [Hzz_6]; · iexact Hzz_6
  isplitl [Hzz_7]; · iexact Hzz_7
  isplitl [Hzz_8]; · iexact Hzz_8
  isplitl [Hzz_9]; · iexact Hzz_9
  isplitl [Hzz_10]; · iexact Hzz_10
  isplitl [Hzz_11]; · iexact Hzz_11
  isplitl [Hzz_12]; · iexact Hzz_12
  isplitl [Hzz_13]; · iexact Hzz_13
  isplitl [Hzz_14]; · iexact Hzz_14
  isplitl [Hzz_15]; · iexact Hzz_15
  isplitl [Hzz__rk_sh_c_1]; · iexact Hzz__rk_sh_c_1
  isplitl [Hzz__rk_sh_c_2]; · iexact Hzz__rk_sh_c_2
  isplitl [Hzz__rk_sh_c_3]; · iexact Hzz__rk_sh_c_3
  isplitl [Hwh_cc0_stg0_0]; · iexact Hwh_cc0_stg0_0
  isplitl [Hwh_cc0_stg1_0]; · iexact Hwh_cc0_stg1_0
  isplitl [Hwh_cc0_stg2_0]; · iexact Hwh_cc0_stg2_0
  isplitl [Hwh_cc0_stg3_0]; · iexact Hwh_cc0_stg3_0
  isplitl [Hwh_cc0_scratch2]; · iexact Hwh_cc0_scratch2
  isplitl [Hrow_c]; · iexact Hrow_c
  isplitl [Hrow__sh_c_1]; · iexact Hrow__sh_c_1
  isplitl [Hrow__sh_c_2]; · iexact Hrow__sh_c_2
  isplitl [Hrow__sh_c_3]; · iexact Hrow__sh_c_3
  isplitl [Hslot__lo_4]; · iexact Hslot__lo_4
  isplitl [Hslot__lo_3]; · iexact Hslot__lo_3
  isplitl [Hslot__lo_2]; · iexact Hslot__lo_2
  isplitl [Hslot__lo_1]; · iexact Hslot__lo_1
  isplitl [Hslot__hi_0]; · iexact Hslot__hi_0
  isplitl [Hslot__hi_1]; · iexact Hslot__hi_1
  isplitl [Hslot__hi_2]; · iexact Hslot__hi_2
  iexact Hslot__hi_3

end Cert.KProof

end
-- ==== Proof.Oblig.lean ====
/-
What a device holds before and after its body, and the body between them.
-/
module

public import proofs.«01_k».proof.Proof.Body

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.ShloMosaic.Pipeline (Dat Cfg Window BodyObligation cellOf)
open Idealize.SL.BI.BIBase Idealize.SL.BI.Laws Idealize.SL.ProofMode Idealize.SL.Sem

variable {F : FTy → Type} [FloatOps F]
local notation "𝕄" => MT nD τ sig Unit (Elt F) ℕ UU ℕ
variable (m : (ℓ : Loc nD τ sig) → Buf (Elt F) ℓ)

/-! ## Lists -/

theorem cells_list (c : Dev nD) (Φ : Fin 20 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ (rk c) ∗ Φ (rk (sh c 1)) ∗ Φ (rk (sh c 2)) ∗ Φ (rk (sh c 3))) :=
  bigSep_univ_eq_bigSepL [0, 1, 2, 3, 4, 5, 6, 7, 8, 9, 10, 11, 12, 13, 14, 15, rk c, rk (sh c 1), rk (sh c 2), rk (sh c 3)] (by revert c; decide +kernel) (by revert c; decide +kernel) Φ
theorem toks_list (Φ : Fin 22 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21) :=
  bigSep_univ_eq_bigSepL [0, 1, 2, 3, 4, 5, 6, 7, 8, 9, 10, 11, 12, 13, 14, 15, 16, 17, 18, 19, 20, 21] (by decide +kernel) (by decide +kernel) Φ
theorem devs_list (c : Dev nD) (Φ : Dev nD → sProp 𝕄) :
    bigSep Finset.univ Φ = iprop(Φ c ∗ Φ (sh c 1) ∗ Φ (sh c 2) ∗ Φ (sh c 3)) :=
  bigSep_univ_eq_bigSepL [c, sh c 1, sh c 2, sh c 3] (by revert c; decide +kernel) (by revert c; decide +kernel) Φ
theorem pieces_list (c : Dev nD) (Φ : Fin 8 → sProp 𝕄) :
    bigSep Finset.univ Φ = iprop(Φ (lo (sh c 4)) ∗ Φ (lo (sh c 3)) ∗ Φ (lo (sh c 2)) ∗ Φ (lo (sh c 1)) ∗ Φ (hi (sh c 0)) ∗ Φ (hi (sh c 1)) ∗ Φ (hi (sh c 2)) ∗ Φ (hi (sh c 3))) :=
  bigSep_univ_eq_bigSepL [lo (sh c 4), lo (sh c 3), lo (sh c 2), lo (sh c 1), hi (sh c 0), hi (sh c 1), hi (sh c 2), hi (sh c 3)] (by revert c; decide +kernel) (by revert c; decide +kernel) Φ

/-! ## A gathered buffer and its pieces -/

/-- A buffer whose elements are shared out among disjoint sets is the sets' pieces. -/
theorem whole_pieces {ℓ : Loc nD τ sig} {T : Type} (S : Finset T) (K : T → Finset (Idx ℓ)) (q : PosShare TreeShare) (f : Buf (Elt F) ℓ)
    (h : ∀ a ∈ S, ∀ b ∈ S, a ≠ b → Disjoint (K a) (K b)) (hall : ∀ i, ∃ t ∈ S, i ∈ K t) :
    ((ℓ ↦{q} f) : sProp 𝕄) = bigSep S fun t => ℓ ↦[K t]{q} f := by
  classical
  rw [← pointsTo_biUnion S K h]
  congr 1
  ext i
  simp only [Finset.mem_univ, Finset.mem_biUnion, true_iff]
  exact hall i

theorem any_piece (ℓ : Loc nD τ sig) (I : Finset (Idx ℓ)) (f : Buf (Elt F) ℓ) :
    ((ℓ ↦[I]{fullShare} f) : sProp 𝕄) ⊢ iprop(∃ g : Buf (Elt F) ℓ, ℓ ↦[I]{fullShare} g) := by
  iintro H
  iexists f
  iexact H

theorem W_disjoint : ∀ a ∈ (Finset.univ : Finset (Fin 8)), ∀ b ∈ (Finset.univ : Finset (Fin 8)), a ≠ b → Disjoint (Wset a) (Wset b) := fun a _ b _ h => by
  rw [Finset.disjoint_left]
  intro i hi hj
  unfold Wset at hi hj
  rw [Finset.mem_filter] at hi hj
  exact h (Fin.ext (by omega))
theorem W_all : ∀ i, ∃ t ∈ (Finset.univ : Finset (Fin 8)), i ∈ Wset t := fun i => by
  have h16 : (i 0).val < 16 := (i 0).isLt
  refine ⟨⟨(i 0).val / 2, by omega⟩, Finset.mem_univ _, ?_⟩
  unfold Wset
  rw [Finset.mem_filter]
  refine ⟨Finset.mem_univ _, ?_⟩
  show 2 * ((i 0).val / 2) ≤ (i 0).val ∧ (i 0).val < 2 * ((i 0).val / 2) + 2
  omega
theorem R_disjoint : ∀ a ∈ (Finset.univ : Finset (Dev nD)), ∀ b ∈ (Finset.univ : Finset (Dev nD)), a ≠ b → Disjoint (Rset a) (Rset b) := fun a _ b _ h => by
  rw [Finset.disjoint_left]
  intro i hi hj
  unfold Rset at hi hj
  rw [Finset.mem_filter] at hi hj
  exact h (Fin.ext (by omega))
theorem R_all : ∀ i, ∃ t ∈ (Finset.univ : Finset (Dev nD)), i ∈ Rset t := fun i => by
  refine ⟨⟨(i 0).val, (i 0).isLt⟩, Finset.mem_univ _, ?_⟩
  unfold Rset
  rw [Finset.mem_filter]
  exact ⟨Finset.mem_univ _, rfl⟩

/-- The experts' buffer at any contents is its eight pieces; -/
theorem W_split (c : Dev nD) (f : Buf (Elt F) ((c : Thread nD τ).loc cc0_scratch0)) :
    ((((c : Thread nD τ).loc cc0_scratch0) ↦{fullShare} f : sProp 𝕄)) ⊢ bigSep Finset.univ fun t : Fin 8 => slotE c t := by
  rw [whole_pieces (ℓ := (c : Thread nD τ).loc cc0_scratch0) Finset.univ Wset fullShare f W_disjoint W_all]
  exact bigSep_mono fun t _ => any_piece _ _ f
/-- gathered, they are the whole again. -/
theorem W_join (c : Dev nD) : (bigSep Finset.univ fun t : Fin 8 => slot m c t fullShare)
    ⊢ wh c cc0_scratch0 (WG m) := by
  unfold wh
  rw [whole_pieces (ℓ := (c : Thread nD τ).loc cc0_scratch0) Finset.univ Wset fullShare (WG m) W_disjoint W_all]
  exact Entails.rfl
/-- The same of the routes' buffer. -/
theorem R_split (c : Dev nD) (f : Buf (Elt F) ((c : Thread nD τ).loc cc0_scratch1)) :
    ((((c : Thread nD τ).loc cc0_scratch1) ↦{fullShare} f : sProp 𝕄)) ⊢ bigSep Finset.univ fun o : Dev nD => rowE c o := by
  rw [whole_pieces (ℓ := (c : Thread nD τ).loc cc0_scratch1) Finset.univ Rset fullShare f R_disjoint R_all]
  exact bigSep_mono fun t _ => any_piece _ _ f
theorem R_join (c : Dev nD) : (bigSep Finset.univ fun o : Dev nD => row m c o fullShare)
    ⊢ wh c cc0_scratch1 (RG m) := by
  unfold wh
  rw [whole_pieces (ℓ := (c : Thread nD τ).loc cc0_scratch1) Finset.univ Rset fullShare (RG m) R_disjoint R_all]
  exact Entails.rfl

/-! ## Before and after -/

/-- The positions and the tokens a device is dealt. -/
def dealt (c : Dev nD) : sProp 𝕄 :=
  iprop((bigSep Finset.univ fun k : Fin 20 => pos (F := F) c k) ∗ bigSep Finset.univ fun i : Fin 22 => tk (F := F) (tokCell (c, i)) (tokDuty i))

/-- How much all devices together owe cell `k` of device `c`, in payments. -/
def dues (c : Dev nD) (k : Fin 20) : ℕ := ∑ d : Dev nD, (pays d).count (c, k)

/-- Before the body: the records, what was dealt, the credits, and the scratch buffers at any contents; -/
def Φ₀ (c : Dev nD) : sProp 𝕄 :=
  iprop((∃ K, ctx m K) ∗ dealt (F := F) c ∗ (bigSep Finset.univ fun k : Fin 20 => cred (tallyAt (kcell (c, k)) () (dues c k * amtN k.val)))
    ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))
/-- after it: every cell closed, and the scratch buffers. -/
def Φ₁ (c : Dev nD) : sProp 𝕄 :=
  iprop((bigSep Finset.univ fun k : Fin 20 => zz (F := F) c k)
    ∗ wh c cc0_scratch0 (WG m) ∗ wh c cc0_scratch1 (RG m) ∗ wh c cc0_scratch2 (xbv m c))

/-- The kernel's result on device `c`. -/
def outAt (c : Dev nD) : (cc0_stg3_0 : Ref sig .tc).ty.Contents (Elt F) := out10 m c

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => rstg m c
    | ⟨2, _⟩ => wstg m c
    | ⟨3, _⟩ => outAt m c
  Φ t := match t with
    | ⟨0, _⟩ => Φ₀ m c
    | ⟨_ + 1, _⟩ => Φ₁ m c
  q _ := fullShare
  owed t := match t with
    | ⟨0, _⟩ => owedT (pays c)
    | ⟨_ + 1, _⟩ => 0

theorem credit_at0 (c : Dev nD) (k : Fin 20) (h : dues c k = 3 ∧ k = 0) :
    (cred (tallyAt (kcell (c, k)) () (dues c k * amtN k.val)) : sProp 𝕄) = cred (tallyAt (kcell (c, 0)) () 3) := by
  obtain ⟨h1, rfl⟩ := h
  rw [h1]; rfl
theorem credit_at1 (c : Dev nD) (k : Fin 20) (h : dues c k = 1) :
    (cred (tallyAt (kcell (c, k)) () (dues c k * amtN k.val)) : sProp 𝕄) = cr c k := by
  unfold cr
  rw [h, Nat.one_mul]

/-- What the body starts from, put together: everything dealt at the launch, the pieces lent to the other devices by the
    barrier standing apart. -/
theorem start_intro (c : Dev nD) (O : Vec F S1024x1024 .f32) (X : Vec F S1024x512 .bf16) :
    iprop(ow c (pays c) ∗ dealt (F := F) c ∗ (bigSep Finset.univ fun k : Fin 20 => cred (tallyAt (kcell (c, k)) () (dues c k * amtN k.val)))
      ∗ (bigSep Finset.univ fun t : Fin 8 => slotE (F := F) c t) ∗ (bigSep Finset.univ fun o : Dev nD => rowE (F := F) c o)
      ∗ wh c cc0_stg0_0 (xstg m c) ∗ wh c cc0_stg1_0 (rstg m c) ∗ wh c cc0_stg2_0 (wstg m c) ∗ wh c cc0_stg3_0 O ∗ wh c cc0_scratch2 X)
      ⊢ iprop(startP m c O X ∗ pos (F := F) c (rk c)) := by
  unfold dealt startP
  rw [cells_list c, cells_list c, toks_list, pieces_list c, devs_list c, bar1, bar2, bar3]
  iintro ⟨HO, ⟨⟨P0, P1, P2, P3, P4, P5, P6, P7, P8, P9, P10, P11, P12, P13, P14, P15, P16, P17, P18, P19⟩, ⟨T0, T1, T2, T3, T4, T5, T6, T7, T8, T9, T10, T11, T12, T13, T14, T15, T16, T17, T18, T19, T20, T21⟩⟩, ⟨C0, C1, C2, C3, C4, C5, C6, C7, C8, C9, C10, C11, C12, C13, C14, C15, C16, C17, C18, C19⟩, ⟨S0, S1, S2, S3, S4, S5, S6, S7⟩, ⟨R0, R1, R2, R3⟩, Hx, Hr, Hw, Hout, Hxb⟩
  ihave C0 := (Entails.of_eq (credit_at0 c 0 (by revert c; decide +kernel))) $$ C0
  ihave C4 := (Entails.of_eq (credit_at1 c 4 (by revert c; decide +kernel))) $$ C4
  ihave C5 := (Entails.of_eq (credit_at1 c 5 (by revert c; decide +kernel))) $$ C5
  ihave C6 := (Entails.of_eq (credit_at1 c 6 (by revert c; decide +kernel))) $$ C6
  ihave C10 := (Entails.of_eq (credit_at1 c 10 (by revert c; decide +kernel))) $$ C10
  ihave C11 := (Entails.of_eq (credit_at1 c 11 (by revert c; decide +kernel))) $$ C11
  ihave C12 := (Entails.of_eq (credit_at1 c 12 (by revert c; decide +kernel))) $$ C12
  ihave C17 := (Entails.of_eq (credit_at1 c (rk (sh c 1)) (by revert c; decide +kernel))) $$ C17
  ihave C18 := (Entails.of_eq (credit_at1 c (rk (sh c 2)) (by revert c; decide +kernel))) $$ C18
  ihave C19 := (Entails.of_eq (credit_at1 c (rk (sh c 3)) (by revert c; decide +kernel))) $$ C19
  isplitr [P16]
  · isplitl [HO]; · iexact HO
    isplitl [T0]; · iexact T0
    isplitl [T1]; · iexact T1
    isplitl [T2]; · iexact T2
    isplitl [T3]; · iexact T3
    isplitl [T4]; · iexact T4
    isplitl [T5]; · iexact T5
    isplitl [T6]; · iexact T6
    isplitl [T7]; · iexact T7
    isplitl [T8]; · iexact T8
    isplitl [T9]; · iexact T9
    isplitl [T10]; · iexact T10
    isplitl [T11]; · iexact T11
    isplitl [T12]; · iexact T12
    isplitl [T13]; · iexact T13
    isplitl [T14]; · iexact T14
    isplitl [T15]; · iexact T15
    isplitl [T16]; · iexact T16
    isplitl [T17]; · iexact T17
    isplitl [T19]; · iexact T19
    isplitl [T20]; · iexact T20
    isplitl [T21]; · iexact T21
    isplitl [P0]; · iexact P0
    isplitl [P1]; · iexact P1
    isplitl [P2]; · iexact P2
    isplitl [P3]; · iexact P3
    isplitl [P4]; · iexact P4
    isplitl [P5]; · iexact P5
    isplitl [P6]; · iexact P6
    isplitl [P7]; · iexact P7
    isplitl [P8]; · iexact P8
    isplitl [P9]; · iexact P9
    isplitl [P10]; · iexact P10
    isplitl [P11]; · iexact P11
    isplitl [P12]; · iexact P12
    isplitl [P13]; · iexact P13
    isplitl [P14]; · iexact P14
    isplitl [P15]; · iexact P15
    isplitl [P17]; · iexact P17
    isplitl [P18]; · iexact P18
    isplitl [P19]; · iexact P19
    isplitl [C0]; · iexact C0
    isplitl [C4]; · iexact C4
    isplitl [C5]; · iexact C5
    isplitl [C6]; · iexact C6
    isplitl [C10]; · iexact C10
    isplitl [C11]; · iexact C11
    isplitl [C12]; · iexact C12
    isplitl [C17]; · iexact C17
    isplitl [C18]; · iexact C18
    isplitl [C19]; · iexact C19
    isplitl [Hx]; · iexact Hx
    isplitl [Hr]; · iexact Hr
    isplitl [Hw]; · iexact Hw
    isplitl [Hout]; · iexact Hout
    isplitl [Hxb]; · iexact Hxb
    isplitl [R0]; · iexact R0
    isplitl [S0]; · iexact S0
    isplitl [S4]; · iexact S4
    isplitl [R1 S5 S6 S7]
    · isplitl [R1]; · iexact R1
      isplitl [S5]; · iexact S5
      isplitl [S6]; · iexact S6
      iexact S7
    isplitl [R2]; · iexact R2
    isplitl [R3]; · iexact R3
    isplitl [S1]; · iexact S1
    isplitl [S2]; · iexact S2
    iexact S3
  · iexact P16

/-- What the body leaves, put together. -/
theorem end_elim (c : Dev nD) :
    iprop(endP m c ∗ zz (F := F) c (rk c))
      ⊢ iprop(ow (F := F) c [] ∗ Φ₁ m c ∗ wh c cc0_stg0_0 (xstg m c) ∗ wh c cc0_stg1_0 (rstg m c) ∗ wh c cc0_stg2_0 (wstg m c) ∗ wh c cc0_stg3_0 (outAt m c)) := by
  unfold endP Φ₁
  rw [cells_list c]
  iintro ⟨⟨HO, Z0, Z1, Z2, Z3, Z4, Z5, Z6, Z7, Z8, Z9, Z10, Z11, Z12, Z13, Z14, Z15, Z17, Z18, Z19, Hx, Hr, Hw, Hout, Hxb, R0, R1, R2, R3, S0, S1, S2, S3, S4, S5, S6, S7⟩, Z16⟩
  isplitl [HO]; · iexact HO
  ihave HW := (W_join m c) $$ [S0 S1 S2 S3 S4 S5 S6 S7]
  · rw [pieces_list c]
    isplitl [S0]; · iexact S0
    isplitl [S1]; · iexact S1
    isplitl [S2]; · iexact S2
    isplitl [S3]; · iexact S3
    isplitl [S4]; · iexact S4
    isplitl [S5]; · iexact S5
    isplitl [S6]; · iexact S6
    iexact S7
  ihave HR := (R_join m c) $$ [R0 R1 R2 R3]
  · rw [devs_list c]
    isplitl [R0]; · iexact R0
    isplitl [R1]; · iexact R1
    isplitl [R2]; · iexact R2
    iexact R3
  isplitl [Z0 Z1 Z2 Z3 Z4 Z5 Z6 Z7 Z8 Z9 Z10 Z11 Z12 Z13 Z14 Z15 Z16 Z17 Z18 Z19 HW HR Hxb]
  · isplitl [Z0 Z1 Z2 Z3 Z4 Z5 Z6 Z7 Z8 Z9 Z10 Z11 Z12 Z13 Z14 Z15 Z16 Z17 Z18 Z19]
    · isplitl [Z0]; · iexact Z0
      isplitl [Z1]; · iexact Z1
      isplitl [Z2]; · iexact Z2
      isplitl [Z3]; · iexact Z3
      isplitl [Z4]; · iexact Z4
      isplitl [Z5]; · iexact Z5
      isplitl [Z6]; · iexact Z6
      isplitl [Z7]; · iexact Z7
      isplitl [Z8]; · iexact Z8
      isplitl [Z9]; · iexact Z9
      isplitl [Z10]; · iexact Z10
      isplitl [Z11]; · iexact Z11
      isplitl [Z12]; · iexact Z12
      isplitl [Z13]; · iexact Z13
      isplitl [Z14]; · iexact Z14
      isplitl [Z15]; · iexact Z15
      isplitl [Z16]; · iexact Z16
      isplitl [Z17]; · iexact Z17
      isplitl [Z18]; · iexact Z18
      iexact Z19
    isplitl [HW]; · iexact HW
    isplitl [HR]; · iexact HR
    iexact Hxb
  isplitl [Hx]; · iexact Hx
  isplitl [Hr]; · iexact Hr
  isplitl [Hw]; · iexact Hw
  iexact Hout

/-! ## The body obligation -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A whole staging buffer at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m 0 c).owesAt () t₀.castSucc
    ∗ (∃ d, stg c cc0_stg0_0 ((dats m 0 c).before (0 : Fin 4) t₀ d))
    ∗ (∃ d, stg c cc0_stg1_0 ((dats m 0 c).before (1 : Fin 4) t₀ d))
    ∗ (∃ d, stg c cc0_stg2_0 ((dats m 0 c).before (2 : Fin 4) t₀ d))
    ∗ (∃ d, stg c cc0_stg3_0 ((dats m 0 c).before (3 : Fin 4) t₀ d)))
def bodyPost (c : Dev nD) : sProp 𝕄 :=
  iprop(Φ₁ m c ∗ (dats m 0 c).owesAt () t₀.succ ∗ stg c cc0_stg0_0 (xstg m c) ∗ stg c cc0_stg1_0 (rstg m c)
    ∗ stg c cc0_stg2_0 (wstg m c) ∗ stg c cc0_stg3_0 (outAt m c))

theorem own_none (c : Dev nD) : ∀ r, 0 ≤ r → (Rd m).duties (kcell (c, rk c)) r = ∅ := fun r _ => by
  show (if r = 0 ∧ _ then dutyN c (kOf (csem (rk c))) else ∅) = ∅
  rw [kOf_csem]
  have h : dutyN c (rk c).val = ∅ := by revert c; decide +kernel
  rw [h, ite_self]

/-- The one cell nobody pays, the arrivals of the device's own routes, closes at once. -/
theorem close_own (K : Dev nD × Fin 20 → ℕ) (c : Dev nD) :
    iprop(ctx m K ∗ pos (F := F) c (rk c)) ⊢ (|={Set.univ}=> zz (F := F) c (rk c) : sProp 𝕄) := by
  iintro ⟨#Hctx, Hp⟩
  unfold pos zz
  iapply (Rounds.cell_close ER (Rd m) (κ := K (c, rk c)) (Set.mem_univ _) (fun h => h) (R := 0) (own_none m c))
  isplitr
  · iapply (ctx_inv m K (c, rk c)); iexact Hctx
  iexact Hp

/-- From what the pipeline hands the body to what it takes back. -/
theorem body_run (c : Dev nD) (h0 : AX.IsWhole) (h1 : AR.IsWhole) (h2 : AW.IsWhole) (h3 : AO.IsWhole) (h4 : WA.IsWhole) (h5 : RA'.IsWhole) (h6 : XB.IsWhole) :
    bodyPre m c ⊢ wp frame (wpE (defs₀ (F := F)) 𝒱₀ (c : Thread nD τ) none) Set.univ
      (cc0_body (F := F) AX h0 AR h1 AW h2 AO h3 WA h4 RA' h5 XB h6 cc0_scratch3 cc0_scratch4 cc0_scratch5 cc0_scratch6 cc0_scratch7 cc0_scratch8)
      (fun _ => bodyPost m c) := by
  unfold bodyPre Φ₀
  iintro ⟨⟨⟨%K, #Hctx⟩, Hd, Hcr, ⟨%f0, Hf0⟩, ⟨%f1, Hf1⟩, ⟨%f2, Hf2⟩⟩, Ho, ⟨%d0, %g0, %hg0, Hx⟩, ⟨%d1, %g1, %hg1, Hr⟩, ⟨%d2, %g2, %hg2, Hw⟩, ⟨%d3, %g3, %hg3, Hout⟩⟩
  have hx : g0 = xstg m c := by rw [hg0]; unfold Dat.before; rw [if_pos (fetch0_0 t₀)]; rfl
  have hr : g1 = rstg m c := by rw [hg1]; unfold Dat.before; rw [if_pos (fetch0_1 t₀)]; rfl
  have hw : g2 = wstg m c := by rw [hg2]; unfold Dat.before; rw [if_pos (fetch0_2 t₀)]; rfl
  subst hx hr hw
  unfold Dat.owesAt Pipeline.owesWithin
  icases Ho with ⟨%W, %hW, HO⟩
  ihave Hs := (start_intro m c g3 f2) $$ [Hd Hcr Hf0 Hf1 Hf2 HO Hx Hr Hw Hout]
  · isplitl [HO]
    · unfold ow; iexists W; iexact HO
    isplitl [Hd]; · iexact Hd
    isplitl [Hcr]; · iexact Hcr
    isplitl [Hf0]; · iapply (W_split c f0); iexact Hf0
    isplitl [Hf1]; · iapply (R_split c f1); iexact Hf1
    isplitl [Hx]; · unfold wh; iexact Hx
    isplitl [Hr]; · unfold wh; iexact Hr
    isplitl [Hw]; · unfold wh; iexact Hw
    isplitl [Hout]; · unfold wh; iexact Hout
    unfold wh; iexact Hf2
  icases Hs with ⟨Hs, Hp⟩
  imod (close_own m K c) $$ [Hp] with Hz
  · isplitr; · iexact Hctx
    iexact Hp
  iapply (sound_body m K c h0 h1 h2 h3 h4 h5 h6 g3 f2) $$ [Hs]
  · isplitr; · iexact Hctx
    iexact Hs
  iintro He
  ihave Hf := (end_elim m c) $$ [He Hz]
  · isplitl [He]; · iexact He
    iexact Hz
  icases Hf with ⟨HO, HΦ, Hx, Hr, Hw, Hout⟩
  unfold bodyPost wh
  isplitl [HΦ]; · iexact HΦ
  isplitl [HO]
  · unfold Dat.owesAt Pipeline.owesWithin ow
    icases HO with ⟨%W', HO⟩
    iexists W'
    isplitr; · ipureintro; exact fun _ _ => Or.inl trivial
    iexact HO
  isplitl [Hx]
  · iexists _; isplitr; · (ipureintro; rfl)
    iexact Hx
  isplitl [Hr]
  · iexists _; isplitr; · (ipureintro; rfl)
    iexact Hr
  isplitl [Hw]
  · iexists _; isplitr; · (ipureintro; rfl)
    iexact Hw
  iexists _; isplitr; · (ipureintro; rfl)
  iexact Hout

set_option maxRecDepth 8000 in
/-- The library's body obligation. -/
theorem body_obligation (c : Dev nD) : BodyObligation (dats (F := F) m 0 c) (defs₀ (F := F)) 𝒱₀ () Set.univ := fun t => by
  rw [fin_N t]
  rw [bigSep_W0, bigSep_W0]
  simp only [owns_whole_eq]
  exact body_run m c _ _ _ _ _ _ _

end Cert.KProof

end
-- ==== Proof.Launch.lean ====
/-
The launch: what each device is dealt, and the whole run of the program.
-/
module

public import Idealize.ShloMosaic.Lib.Pipeline.Launch
public import Idealize.ShloMosaic.Lib.Pipeline.CollectiveSegs
public import proofs.«01_k».proof.Proof.Oblig

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.ShloMosaic.Rounds
open Idealize.ShloMosaic.Pipeline (Dat Cfg Window BodyObligation cellOf)
open Idealize.SL.BI.BIBase Idealize.SL.BI.Laws Idealize.SL.ProofMode Idealize.SL.Sem

variable {F : FTy → Type} [FloatOps F]
local notation "𝕄" => MT nD τ sig Unit (Elt F) ℕ UU ℕ
variable (m : (ℓ : Loc nD τ sig) → Buf (Elt F) ℓ)

/-- The semaphores of the kernel's own: cells 1 to 19. -/
def osem (k : Fin 19) : SemLoc sig := csem k.succ

theorem ownSemFacts : Pipeline.OwnSemFacts cfg0.spec osem := by decide +kernel

theorem share_eq (c : Dev nD) (w : Fin cfg0.W) : (dats (F := F) m 0 c).share w = fullShare := by unfold Dat.share; split <;> rfl

/-! ## Minting the cells and the tokens -/

def cells : Finset (GSem nD τ sig) := Finset.univ.map ⟨kcell, kcell_injective⟩

/-- The token number `i` that device `p` pays with. -/
def tokOf (pi : Dev nD × Fin 22) : GSem nD τ sig × ℕ × Fin 4 := (kcell (tokCell pi), 0, tokDuty pi.2)
theorem tokOf_injective : Function.Injective tokOf := fun a b h =>
  tok_injective (Prod.ext (kcell_injective (congrArg Prod.fst h)) (congrArg (fun x : GSem nD τ sig × ℕ × Fin 4 => x.2.2) h))
def toks : Finset (GSem nD τ sig × ℕ × Fin 4) := Finset.univ.map ⟨tokOf, tokOf_injective⟩

/-- What device `c` is dealt at the launch. -/
def G (c : Dev nD) : sProp 𝕄 :=
  iprop((bigSep Finset.univ fun k : Fin 20 => roundState ER (Rd m) (kcell (c, k)) 0)
    ∗ (bigSep Finset.univ fun k : Fin 20 => iprop(atPos ER (kcell (c, k)) 0 ∅ 0 ∗ reached ER (kcell (c, k)) 0))
    ∗ bigSep Finset.univ fun i : Fin 22 => dutyTok ER (kcell (tokCell (c, i))) 0 (tokDuty i))

/-- What it holds once the cells stand. -/
def G' (c : Dev nD) : sProp 𝕄 := iprop((∃ K, records m K) ∗ dealt (F := F) c)

def u₀ : UU :=
  (initOf (Pipeline.cells cfgs cellOf_inj) (Pipeline.launchToks cfgs cellOf_inj), initOf cells toks)

theorem fund : BI.own (ER (initOf cells toks)) ⊢ (|==> bigSep Finset.univ (G m) : sProp 𝕄) := by
  have hX (Φ : GSem nD τ sig → sProp 𝕄) : bigSep cells Φ = bigSep Finset.univ fun c : Dev nD => bigSep Finset.univ fun k : Fin 20 => Φ (kcell (c, k)) := by
    unfold cells; rw [bigSep_map, bigSep_univ_prod]; rfl
  have hT : bigSep toks (fun x => (dutyTok ER x.1 x.2.1 x.2.2 : sProp 𝕄))
      = bigSep Finset.univ fun c : Dev nD => bigSep Finset.univ fun i : Fin 22 => dutyTok ER (kcell (tokCell (c, i))) 0 (tokDuty i) := by
    unfold toks; rw [bigSep_map, bigSep_univ_prod]; rfl
  iintro HX
  imod (Rounds.fund ER (Rd m) cells toks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## Setting up the cells -/

theorem unscoped_eq (c : Dev nD) : (unscopedSems0 c : sProp 𝕄) = semVal (kcell (c, 0)) 0 := by
  unfold unscopedSems0
  rw [bigSep_eq_bigSepL_of_eq [SemLoc.reg barS] (by decide) (by decide)]; rfl
theorem own_eq (c : Dev nD) : (Pipeline.ownSems0 (Ix := Unit) (Name := ℕ) (U := UU) (Lvl := ℕ) (Val := Elt F) (τ := τ) osem c : sProp 𝕄)
    = iprop(semVal (kcell (c, 1)) 0 ∗ semVal (kcell (c, 2)) 0 ∗ semVal (kcell (c, 3)) 0 ∗ semVal (kcell (c, 4)) 0 ∗ semVal (kcell (c, 5)) 0 ∗ semVal (kcell (c, 6)) 0 ∗ semVal (kcell (c, 7)) 0 ∗ semVal (kcell (c, 8)) 0 ∗ semVal (kcell (c, 9)) 0 ∗ semVal (kcell (c, 10)) 0 ∗ semVal (kcell (c, 11)) 0 ∗ semVal (kcell (c, 12)) 0 ∗ semVal (kcell (c, 13)) 0 ∗ semVal (kcell (c, 14)) 0 ∗ semVal (kcell (c, 15)) 0 ∗ semVal (kcell (c, 16)) 0 ∗ semVal (kcell (c, 17)) 0 ∗ semVal (kcell (c, 18)) 0 ∗ semVal (kcell (c, 19)) 0) :=
  Pipeline.ownSems0_eq_of_list c osem [0, 1, 2, 3, 4, 5, 6, 7, 8, 9, 10, 11, 12, 13, 14, 15, 16, 17, 18] (by decide) (by decide)
theorem cells_nat (Φ : Fin 20 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19) :=
  bigSep_univ_eq_bigSepL [0, 1, 2, 3, 4, 5, 6, 7, 8, 9, 10, 11, 12, 13, 14, 15, 16, 17, 18, 19] (by decide) (by decide) Φ

/-- The counters of a device, own and barrier, are its twenty cells' counters; -/
theorem sems_split (c : Dev nD) :
    iprop(Pipeline.ownSems0 (Ix := Unit) (Name := ℕ) (U := UU) (Lvl := ℕ) (Val := Elt F) (τ := τ) osem c ∗ unscopedSems0 c)
      ⊢ (bigSep Finset.univ fun k : Fin 20 => semVal (kcell (c, k)) 0 : sProp 𝕄) := by
  rw [unscoped_eq, own_eq, cells_nat]
  iintro ⟨⟨H1, H2, H3, H4, H5, H6, H7, H8, H9, H10, H11, H12, H13, H14, H15, H16, H17, H18, H19⟩, H0⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19
/-- and back. -/
theorem sems_join (c : Dev nD) :
    (bigSep Finset.univ fun k : Fin 20 => zz (F := F) c k)
      ⊢ iprop(Pipeline.ownSems0 (Ix := Unit) (Name := ℕ) (U := UU) (Lvl := ℕ) (Val := Elt F) (τ := τ) osem c ∗ unscopedSems0 c) := by
  rw [unscoped_eq, own_eq, cells_nat]
  unfold zz
  iintro ⟨H0, H1, H2, H3, H4, H5, H6, H7, H8, H9, H10, H11, H12, H13, H14, H15, H16, H17, H18, H19⟩
  isplitr [H0]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iexact H19
  · iexact H0

theorem core_alloc (c : Dev nD) :
    iprop(Pipeline.ownSems0 (Ix := Unit) (Name := ℕ) (U := UU) (Lvl := ℕ) (Val := Elt F) (τ := τ) osem c ∗ unscopedSems0 c ∗ G m c)
      ⊢ (|={Set.univ}=> iprop((bigSep Finset.univ fun k : Fin 20 => iprop(∃ κ : ℕ, cellInv ER (Rd m) κ (kcell (c, k))))
          ∗ (bigSep Finset.univ fun k : Fin 20 => iprop(atPos ER (kcell (c, k)) 0 ∅ 0 ∗ reached ER (kcell (c, k)) 0))
          ∗ bigSep Finset.univ fun i : Fin 22 => dutyTok ER (kcell (tokCell (c, i))) 0 (tokDuty i)) : sProp 𝕄) := by
  have hinv : iprop((bigSep Finset.univ fun k : Fin 20 => (semVal (kcell (c, k)) 0 : sProp 𝕄))
        ∗ bigSep Finset.univ fun k : Fin 20 => roundState ER (Rd m) (kcell (c, k)) 0)
      ⊢ (|={Set.univ}=> bigSep Finset.univ fun k : Fin 20 => iprop(∃ κ : ℕ, cellInv ER (Rd m) κ (kcell (c, k))) : sProp 𝕄) := by
    rw [← bigSep_sep']
    exact (bigSep_mono fun k _ => (Rounds.body_intro ER (Rd m) (kcell (c, k))).trans inv_alloc).trans (bigSep_fupd _ _)
  unfold G
  iintro ⟨Hown, Hu, Hst, Hat, Htok⟩
  ihave Hs := (sems_split (F := F) c) $$ [Hown Hu]
  · isplitl [Hown]; · iexact Hown
    iexact Hu
  imod hinv $$ [Hs Hst] with HI
  · isplitl [Hs]; · iexact Hs
    iexact Hst
  imodintro
  isplitl [HI]; · iexact HI
  isplitl [Hat]; · iexact Hat
  iexact Htok

/-- A fact that stays may be used for every member of a family. -/
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem deal (K : Dev nD × Fin 20 → ℕ) (c : Dev nD) : iprop(records m K ∗ dealt (F := F) c) ⊢ G' m c := by
  unfold G'
  iintro ⟨HR, HD⟩
  isplitl [HR]
  · iexists K; iexact HR
  · iexact HD

theorem regroup :
    (bigSep Finset.univ fun c : Dev nD => iprop((bigSep Finset.univ fun k : Fin 20 => iprop(∃ κ : ℕ, cellInv ER (Rd m) κ (kcell (c, k))))
          ∗ (bigSep Finset.univ fun k : Fin 20 => iprop(atPos ER (kcell (c, k)) 0 ∅ 0 ∗ reached ER (kcell (c, k)) 0))
          ∗ bigSep Finset.univ fun i : Fin 22 => dutyTok ER (kcell (tokCell (c, i))) 0 (tokDuty i)) : sProp 𝕄)
      ⊢ bigSep Finset.univ (G' m) := by
  rw [bigSep_sep', bigSep_sep', ← bigSep_univ_prod (fun ck : Dev nD × Fin 20 => iprop(∃ κ : ℕ, cellInv ER (Rd m) κ (kcell ck))),
    bigSep_congr (s := Finset.univ) (fun (c : Dev nD) _ => bigSep_sep' Finset.univ (fun k : Fin 20 => (atPos ER (kcell (c, k)) 0 ∅ 0 : sProp 𝕄)) (fun k => reached ER (kcell (c, k)) 0)),
    bigSep_sep', ← bigSep_univ_prod (fun ck : Dev nD × Fin 20 => (reached ER (kcell ck) 0 : sProp 𝕄))]
  iintro ⟨HI, ⟨Hat, #HR⟩, Htok⟩
  ihave HK := (BI.bigSep_exists_pi Finset.univ (fun (ck : Dev nD × Fin 20) (κ : ℕ) => (cellInv ER (Rd m) κ (kcell ck) : sProp 𝕄))) $$ HI
  icases HK with ⟨%K, #HI⟩
  iapply (with_persistent (R := records m K) fun c _ => deal m K c)
  isplitr
  · unfold records; isplitl; · iexact HI
    iexact HR
  · iapply (Entails.of_eq (bigSep_sep' Finset.univ (fun c : Dev nD => bigSep Finset.univ fun k : Fin 20 => pos (F := F) c k)
      (fun c => bigSep Finset.univ fun i : Fin 22 => tk (F := F) (tokCell (c, i)) (tokDuty i))).symm)
    unfold pos tk
    isplitl [Hat]; · iexact Hat
    iexact Htok

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit of the launch -/

/-- What each device owes at the launch. -/
def O₀ (c : Dev nD) : CellTallies nD τ sig Unit := owedT (pays c)

theorem credit_cell (c : Dev nD) (k : Fin 20) :
    tallyOn (kcell (c, k)) (launchCredit (Pipeline.owing O₀) 0 (kcell (c, k))) = tallyAt (kcell (c, k)) () (dues c k * amtN k.val) := by
  unfold tallyAt
  refine congrArg _ (Finsupp.ext fun u => ?_)
  cases u
  rw [Pipeline.launchCredit_owing, Finsupp.single_eq_same]
  unfold dues
  rw [Finset.sum_mul]
  exact Finset.sum_congr rfl fun d _ => owedT_apply (pays d) (c, k)

theorem creds (c : Dev nD) :
    (Pipeline.launchCred O₀ c : sProp 𝕄) ⊢ bigSep Finset.univ fun k : Fin 20 => cred (tallyAt (kcell (c, k)) () (dues c k * amtN k.val)) := by
  unfold Pipeline.launchCred
  refine (bigSep_subset (Finset.subset_univ (Finset.univ.map ⟨csem, csem_injective⟩))).trans ?_
  rw [bigSep_map]
  exact bigSep_mono fun k _ => Entails.of_eq (congrArg (fun x => (cred x : sProp 𝕄)) (credit_cell c k))

/-! ## The side conditions -/

/-- What the body's first state takes from the launch. -/
def start (c : Dev nD) : sProp 𝕄 :=
  iprop((∃ K, ctx m K) ∗ dealt (F := F) c ∗ bigSep Finset.univ fun k : Fin 20 => cred (tallyAt (kcell (c, k)) () (dues c k * amtN k.val)))

/-- The argument the kernel never reads. -/
def keep (c : Dev nD) : sProp 𝕄 := wh c main_arg1 (m ((c : Thread nD τ).loc main_arg1))

theorem launch_intro (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ (|={Set.univ}=> iprop(start m c ∗ keep m c) : sProp 𝕄) := by
  rw [Pipeline.unscopedRestP_none, unscopedRest0_eq]
  unfold G'
  iintro ⟨Hk, #Hlev, Hcr, -, ⟨%K, #HR⟩, HD⟩
  ihave Hc := (creds (F := F) c) $$ Hcr
  imodintro
  unfold start keep wh
  isplitr [Hk]
  · isplitr
    · iexists K
      unfold ctx
      isplitl
      · iexact HR
      · iexact Hlev
    isplitl [HD]; · iexact HD
    iexact Hc
  · iexact Hk

theorem phi0_intro (c : Dev nD) :
    iprop(start m c ∗ Pipeline.prefHeld Pipeline.Prefetch.none c (fun _ => fullShare.right) (fun k => k.elim0) ∗ Pipeline.scopedRest cfg0.spec c)
      ⊢ (dats (F := F) m 0 c).Φ 0 := by
  rw [show (dats (F := F) m 0 c).Φ 0 = Φ₀ m c from rfl, scopedRest0_eq]
  unfold start Φ₀
  iintro ⟨⟨HK, HD, HC⟩, -, Hf⟩
  isplitl [HK]; · iexact HK
  isplitl [HD]; · iexact HD
  isplitl [HC]; · iexact HC
  iexact Hf

theorem phi1_exit (c : Dev nD) :
    (dats (F := F) m 0 c).Φ (Fin.last cfg0.N)
      ⊢ iprop(unscopedSems0 c ∗ Pipeline.ownSems0 (Ix := Unit) (Name := ℕ) (U := UU) (Lvl := ℕ) (Val := Elt F) (τ := τ) osem c ∗ Pipeline.scopedRest cfg0.spec c) := by
  rw [show (dats (F := F) m 0 c).Φ (Fin.last cfg0.N) = Φ₁ m c from rfl, scopedRest0_eq]
  unfold Φ₁ wh
  iintro ⟨Hz, H0, H1, H2⟩
  ihave Hs := (sems_join (F := F) c) $$ Hz
  icases Hs with ⟨Hown, Hu⟩
  isplitl [Hu]; · iexact Hu
  isplitl [Hown]; · iexact Hown
  isplitl [H0]; · iexists _; iexact H0
  isplitl [H1]; · iexists _; iexact H1
  iexists _; iexact H2

theorem waits (c : Dev nD) : (levAts L lv : sProp 𝕄) ⊢ Pipeline.cellsWaits cfgs (dats (F := F) m) () 0 c :=
  Pipeline.cellsWaits_intro cfgs (dats (F := F) m) () 0 c fun w s t => by
    rcases t with ⟨_ | _, ht⟩
    · exact mayWait_of c _ (pays c) (by revert c; fin_cases w <;> fin_cases s <;> decide +kernel)
    · exact mayWait_of c _ [] (fun _ h => absurd h List.not_mem_nil)

/-! ## The run -/

/-- The state of a launch. -/
def s₀ (ρ : Dev nD → PrngReg) : MemSt nD τ sig (Elt F) := ⟨m, fun _ => 0, ρ⟩

/-- What the last state says of one device besides the windows' arrays. -/
def QY (c : Dev nD) (s : MemSt nD τ sig (Elt F)) : Prop :=
  (∀ sm : SemLoc sig, sm.isScoped .tc = false → s.sem ((c.tc : Thread nD τ), sm) = 0)
    ∧ s.mem ((c : Thread nD τ).loc main_arg1) = m ((c : Thread nD τ).loc main_arg1)

theorem read_keep (c : Dev nD) (s' : Phys nD τ sig (Elt F)) :
    iprop(keep m c ∗ SI s') ⊢ iprop(⌜s'.mem.mem ((c : Thread nD τ).loc main_arg1) = m ((c : Thread nD τ).loc main_arg1)⌝ ∗ SI s' : sProp 𝕄) := by
  have h := pointsTo_read_all (Ix := Unit) (Name := ℕ) (U := UU) (Lvl := ℕ) (Finset.univ : Finset (Fin 1)) (fun _ => (c : Thread nD τ).loc main_arg1)
    (fun _ => m ((c : Thread nD τ).loc main_arg1)) s' (q := fullShare)
  rw [bigSep_univ_eq_bigSepL [(0 : Fin 1)] (by decide) (by decide)] at h
  exact h.trans (sep_mono_left (Laws.pure_mono fun hh => hh 0 (Finset.mem_univ _)))

theorem last_read (c : Dev nD) (s' : Phys nD τ sig (Elt F)) :
    iprop(unscopedSems0 c ∗ keep m c ∗ SI s') ⊢ (|={Set.univ}=> iprop(⌜QY m c s'.mem⌝ ∗ SI s') : sProp 𝕄) := by
  iintro ⟨Hu, Hk, HSI⟩
  ihave H := (read_keep m c s') $$ [Hk HSI]
  · isplitl [Hk] <;> iassumption
  icases H with ⟨%hk, HSI⟩
  imod (Pipeline.unscopedSems0_read (X := unscopedSems0 c) (c := c) fupd_intro s') $$ [Hu HSI] with ⟨%hs, HSI⟩
  · isplitl [Hu] <;> iassumption
  imodintro
  isplitr
  · ipureintro; exact ⟨hs, hk⟩
  · iexact HSI

set_option maxRecDepth 8000 in
/-- Every run ends, with every counter at zero, the windows' arrays as the pipeline leaves them, and the unread argument as it was. -/
theorem run_main (ρ : Dev nD → PrngReg) : θ_run (defs (F := F)) (onTc (τ := τ) (main (F := F))) (s₀ m ρ) (fun r =>
    (∀ c : Dev nD, (∀ w : Fin cfg0.W, r.2.mem ((cfg0.win w).arr.view.loc (c : Thread nD τ)) = (dats (F := F) m 0 c).arrAt w cfg0.N)
      ∧ r.2.mem ((c : Thread nD τ).loc main_arg1) = m ((c : Thread nD τ).loc main_arg1)) ∧ r.2.sem = fun _ => 0) :=
  Pipeline.θ_run_region_owing_glob_pf (fun p => (cfgs p).toPCfg) (fun p => (cfgs p).toPCfg_adm) (dats (F := F) m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := fun c => unscopedSems0 c) (Z := keep m)
    (hX := launch_intro m ρ) (hin := phi0_intro m) (hout := phi1_exit m)
    (QY := QY m) (hY := last_read m)
    (hQ := fun _ h hs => ⟨fun c => ⟨(h c).1, (h c).2.2.2⟩, sem_eq_zero hs fun c => (h c).2.2.1⟩)

end Cert.KProof

end
-- ==== Proof.Frames.lean ====
/-
The frames: every run of the kernel and of the reference ends, the arguments as they were and every counter at zero.
-/
module

public import proofs.«01_k».proof.Defs
public import proofs.«01_k».proof.Proof.Launch
public import proofs.«01_k».proof.Proof.Gen.Kernel
public import proofs.«01_k».proof.Proof.Gen.ReferenceIdeal
public import proofs.«01_k».proof.Proof.Gen.ReferenceIdeal.Run
public import Idealize.ShloMosaic.Lib.Quiescent

@[expose] public section

noncomputable section

namespace Cert.KProof

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

/-- What the kernel leaves in its result array on device `c`. -/
def resultAt (c : Dev nD) : Buf (Elt F) ((c : Thread nD τ).loc main_v1) := (dats (F := F) m 0 c).arrAt (3 : Fin cfg0.W) cfg0.N

/-- Every run of the kernel ends with the result of `resultAt`, the arguments as they were and every counter at zero. -/
theorem run_all (ρ : Dev nD → PrngReg) : θ_run (defs (F := F)) (onTc (τ := τ) (main (F := F))) ⟨m, fun _ => 0, ρ⟩ (fun r =>
    (∀ c : Dev nD,
      r.2.mem ((c.tc : Thread nD τ).loc main_v1) = resultAt m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨fun c =>
    ⟨(h.1 c).1 (3 : Fin cfg0.W),
      ((h.1 c).1 (0 : Fin cfg0.W)).trans ((dats (F := F) m 0 c).arrAt_in (0 : Fin cfg0.W) rfl _),
      (h.1 c).2,
      ((h.1 c).1 (1 : Fin cfg0.W)).trans ((dats (F := F) m 0 c).arrAt_in (1 : Fin cfg0.W) rfl _),
      ((h.1 c).1 (2 : Fin cfg0.W)).trans ((dats (F := F) m 0 c).arrAt_in (2 : Fin cfg0.W) rfl _)⟩, h.2⟩) (run_main m ρ)

/-- The kernel's frame at any float values. -/
theorem run_frame (ρ : Dev nD → PrngReg) : θ_run (defs (F := F)) (onTc (τ := τ) (main (F := F))) ⟨m, fun _ => 0, ρ⟩ (fun r =>
    (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨fun c => (h.1 c).2, h.2⟩) (run_all m ρ)

theorem frame_KernelIdeal : Cert.quiescent_KernelIdeal (hKernelIdeal := Cert.KernelIdeal.Gen.facts) := fun m ρ _ =>
  run_frame (F := Ideal) m ρ

set_option maxRecDepth 10000 in
/-- The kernel at its own float values has the same body table, -/
theorem tables_eq : (Cert.Kernel.defs₀ (F := F)) = Cert.KernelIdeal.defs₀ := by
  unfold Cert.Kernel.defs₀ Cert.KernelIdeal.defs₀
  refine congrArg Defs.onTc ?_
  funext l a
  match l, a with
  | ⟨0, _⟩, _ => rfl
theorem defs_eq : (Cert.Kernel.defs (F := F)) = Cert.KernelIdeal.defs := congrArg (Pipeline.defs pcfgs) tables_eq
/-- so it is the same program. -/
theorem frame_Kernel : Cert.quiescent_Kernel (hKernel := Cert.Kernel.Gen.facts) := fun m ρ _ => by
  have key : ∀ D, D = Cert.KernelIdeal.defs (F := Bits) →
      θ_run D (onTc (τ := τ) (main (F := Bits))) ⟨m, fun _ => 0, ρ⟩ (fun r =>
        (∀ c : Dev nD,
          r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2)
          ∧ r.2.mem ((c.tc : Thread nD τ).loc main_arg3) = m ((c.tc : Thread nD τ).loc main_arg3)) ∧ r.2.sem = fun _ => 0) := by
    rintro _ rfl
    exact run_frame (F := Bits) m ρ
  exact key Cert.Kernel.defs defs_eq

theorem frame_ReferenceIdeal : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.KProof

end
-- ==== Proof.KernelValue.lean ====
/-
What the kernel computes, read with exact arithmetic: at a token's row, each expert in turn adds its product when the
token is routed to it and the token's place in that expert's queue is below the capacity.
-/
module

public import proofs.«01_k».proof.Proof.Body
public import Idealize.ShloMosaic.Lib.ValueIdx
public import Idealize.ShloMosaic.Lib.MatmulPlain
public import Idealize.ShloMosaic.Lib.Pipeline.Value

@[expose] public section

noncomputable section

namespace Cert.KProof

open Cert.KernelIdeal Cert.KernelIdeal.Gen
open Idealize.ShloMosaic Idealize.ShloMosaic.TcCoe Idealize.ShloMosaic.ValueIdx
open scoped BigOperators

/-! ## Yes and no as numbers -/

/-- A bit turned into a word and then into a number is 1 or 0. -/
theorem flag_num (b : Bool) : ((((BitVec.ofBool b).setWidth 32).toInt : ℝ) : EReal) = if b = true then 1 else 0 := by
  cases b
  · simp
  · have : ((BitVec.ofBool true).setWidth 32).toInt = 1 := by decide
    rw [this]; simp

/-- Whether two words agree, as a number. -/
theorem eqFlag_num (x y : BitVec 32) : (((((IntOp.cmpi .eq x y).setWidth 32 : BitVec 32)).toInt : ℝ) : EReal) = if x = y then 1 else 0 := by
  show ((((BitVec.ofBool (x == y)).setWidth 32).toInt : ℝ) : EReal) = _
  rw [flag_num]
  simp

/-- How many of the rows satisfy a condition, summed as ones and zeros. -/
theorem sum_flags {n : ℕ} (p : Fin n → Prop) [DecidablePred p] :
    (∑ i, if p i then (1 : EReal) else 0) = ((Finset.univ.filter p).card : ℕ) := by
  rw [Finset.sum_boole]

/-! ## One expert's step -/

section Step
variable {F : FTy → Type} [FloatOps F]

/-- The factor a token's row takes for one expert: kept and routed there. -/
def gate (rt : IVec S1024x1 32) (kp : FVec F S1024x1 .bf16) (e : BitVec 32) : FVec F S1024x1 .bf16 :=
  mulf kp (truncf .bf16 (sitofp .f32 (extui 32 (cmpi .eq rt (broadcast S1024x1 e)) natLt_1_32)) bitsLt_bf16_f32)

/-- One expert's product for the gated tokens. -/
def term (rt : IVec S1024x1 32) (kp : FVec F S1024x1 .bf16) (e : BitVec 32) (w : Vec F S1x512x1024 .bf16) (xb : Vec F S1024x512 .bf16) :
    FVec F S1024x1024 .f32 :=
  matmul dot_S1024x512_S512x1024_S1024x1024_1_0_0_1_n_n none (mulf xb (broadcastTo S1024x512 (gate rt kp e) broadcasts_S1024x1_S1024x512))
    (shapeCast S512x1024 w shapeCasts_S1x512x1024_S512x1024) (constant S1024x1024 .f32 0x00000000#32)

/-- One expert's product added to what is there. -/
def step (rt : IVec S1024x1 32) (kp : FVec F S1024x1 .bf16) (e : BitVec 32) (w : Vec F S1x512x1024 .bf16) (xb : Vec F S1024x512 .bf16)
    (acc : Vec F S1024x1024 .f32) : FVec F S1024x1024 .f32 :=
  addf (shapeCast S1024x1024 acc shapeCasts_S1024x1024_S1024x1024) (term rt kp e w xb)

end Step

/-- A column spread over the second axis, read at a place. -/
theorem spread_col {α : Type} {n k : ℕ} (v : (⟨2, ![n, 1]⟩ : Shape).Idx → α) (h : Shape.Broadcasts ⟨2, ![n, 1]⟩ ⟨2, ![n, k]⟩)
    (t : Fin n) (j : Fin k) : broadcastTo ⟨2, ![n, k]⟩ v h (ix2 t j) = v (ix2 t 0) := by
  refine broadcastTo_apply _ _ _ _ fun a => ?_
  match a with
  | ⟨0, _⟩ =>
    show t.val = if n = 1 then 0 else t.val
    have := t.isLt
    split <;> omega
  | ⟨1, _⟩ => rfl

/-- The factor, as a number. -/
theorem gate_at (rt : IVec S1024x1 32) (kp : FVec Ideal S1024x1 .bf16) (e : BitVec 32) (i : S1024x1.Idx) :
    gate rt kp e i = kp i * (if rt i = e then (1 : EReal) else 0) :=
  congrArg (kp i * ·) (eqFlag_num (rt i) e)

/-- One expert's product at a row and column. -/
theorem term_at (rt : IVec S1024x1 32) (kp : FVec Ideal S1024x1 .bf16) (e : BitVec 32) (w : Vec Ideal S1x512x1024 .bf16)
    (xb : Vec Ideal S1024x512 .bf16) (t h : Fin 1024) :
    term rt kp e w xb (ix2 t h) = ∑ k : Fin 512, (xb (ix2 t k) * (kp (ix2 t 0) * (if rt (ix2 t 0) = e then (1 : EReal) else 0))) * w (ix3 0 k h) := by
  have hw : ∀ k : Fin 512, shapeCast S512x1024 w shapeCasts_S1x512x1024_S512x1024 (ix2 k h) = w (ix3 0 k h) := fun k => by
    refine (shapeCast_dropUnit_apply _ _ _ _).trans (congrArg w ?_)
    funext a
    match a with
    | ⟨0, _⟩ => rfl
    | ⟨1, _⟩ => rfl
    | ⟨2, _⟩ => rfl
  have hx : ∀ k : Fin 512, mulf xb (broadcastTo S1024x512 (gate rt kp e) broadcasts_S1024x1_S1024x512) (ix2 t k)
      = xb (ix2 t k) * (kp (ix2 t 0) * (if rt (ix2 t 0) = e then (1 : EReal) else 0)) := fun k =>
    congrArg (xb (ix2 t k) * ·) ((spread_col _ _ t k).trans (gate_at rt kp e _))
  refine (Ideal.matmul_plain_apply none _ _ _ t h).trans ?_
  rw [constant_apply, Ideal.ofBits_zero_f32, zero_add]
  exact Finset.sum_congr rfl fun k _ => congrArg₂ (· * ·) (hx k) (hw k)

/-- Adding one expert's product, at a row and column, when the row's keep flag is known where it matters. -/
theorem step_gate (rt : IVec S1024x1 32) (kp : FVec Ideal S1024x1 .bf16) (e : BitVec 32) (w : Vec Ideal S1x512x1024 .bf16)
    (xb : Vec Ideal S1024x512 .bf16) (acc : Vec Ideal S1024x1024 .f32) (t h : Fin 1024) (P : Prop) [Decidable P]
    (hk : rt (ix2 t 0) = e → kp (ix2 t 0) = if P then (1 : EReal) else 0) :
    step rt kp e w xb acc (ix2 t h)
      = acc (ix2 t h) + if rt (ix2 t 0) = e ∧ P then ∑ k : Fin 512, xb (ix2 t k) * w (ix3 0 k h) else (0 : EReal) := by
  show shapeCast S1024x1024 acc shapeCasts_S1024x1024_S1024x1024 (ix2 t h) + term rt kp e w xb (ix2 t h) = _
  rw [shapeCast_self, term_at]
  congr 1
  by_cases h1 : rt (ix2 t 0) = e
  · rw [hk h1]
    by_cases h2 : P
    · simp [h1, h2]
    · simp [h1, h2]
  · simp [h1]

/-! ## The gathered arrays, read -/

section Loads
variable {F : FTy → Type} [FloatOps F] (m : (ℓ : Loc nD τ sig) → Buf (Elt F) ℓ)

/-- The expert loaded from the gathered buffer is the expert's own device's. -/
theorem ldW_at (off : Fin 3 → ℕ) (inb : ∀ a, off a + S1x512x1024.size a ≤ S16x512x1024.size a) (e : Fin 16) (ho : off = ![e.val, 0, 0])
    (k : Fin 512) (h : Fin 1024) :
    ldW m off inb (ix3 0 k h) = wstg m ⟨e.val / 4, by have := e.isLt; show _ < 4; omega⟩ (ix3 (⟨e.val % 4, by omega⟩ : Fin 4) k h) := by
  subst ho
  refine WG_at m _ _ _ ?_ ?_ ?_
  · show e.val + 1 * 0 = 4 * (e.val / 4) + e.val % 4
    omega
  · show 0 + 1 * k.val = k.val
    omega
  · show 0 + 1 * h.val = h.val
    omega

/-- The routes loaded from the gathered buffer are the device's own. -/
theorem ldR_at (off : Fin 3 → ℕ) (inb : ∀ a, off a + S1x1024x1.size a ≤ S4x1024x1.size a) (d : Dev nD) (ho : off = ![d.val, 0, 0])
    (s : Fin 1024) : ldR m off inb (ix3 0 s 0) = rstg m d (ix2 s 0) := by
  subst ho
  refine RG_at m _ _ _ ?_ ?_
  · show d.val + 1 * 0 = d.val
    omega
  · show 0 + 1 * s.val = s.val
    omega

end Loads

/-! ## The queue -/

section Queue
variable {F : FTy → Type} [FloatOps F]

/-- How many rows of one device's routes name each expert. -/
def tally (col : IVec S1024x16 32) (v : Vec F S1x1024x1 .i32) : FVec F S1x16 .f32 :=
  shapeCast S1x16 (multiReduction .add [0] S16 (sitofp .f32 (extui 32 (cmpi .eq
    (broadcastTo S1024x16 (shapeCast S1024x1 v shapeCasts_S1x1024x1_S1024x1) broadcasts_S1024x1_S1024x16) col) natLt_1_32))
    0x00000000#32 reduces_S1024x16_S16 (.inl rfl) rfl) shapeCasts_S16_S1x16

/-- A device's tally, or zeros. -/
def earlier (v2 d : BitVec 32) (w : FVec F S1x16 .f32) : FVec F S1x16 .f32 :=
  Scalar.select (Scalar.cmpi .sgt v2 d) w (broadcast S1x16 (Scalar.ofBits .f32 0x00000000#32))

/-- The sum along a row of sixteen. -/
def rowSum (v : FVec F S1024x16 .f32) : FVec F S1024x1 .f32 :=
  shapeCast S1024x1 (multiReduction .add [1] S1024 v 0x00000000#32 reduces_S1024x16_S1024 (.inl rfl) rfl) shapeCasts_S1024_S1024x1

/-- The square whose entry is 1 strictly below the diagonal. -/
def below : FVec F S1024x1024 .bf16 :=
  truncf .bf16 (sitofp .f32 (extui 32 (cmpi .slt (iota .tc S1024x1024 32 [1] iota_S1024x1024_d1_w32)
    (iota .tc S1024x1024 32 [0] iota_S1024x1024_d0_w32)) natLt_1_32)) bitsLt_bf16_f32

/-- A row's place in its expert's queue, from the marks of the device's own rows and the earlier devices' tallies. -/
def place (hotF : FVec F S1024x16 .f32) (hotB : FVec F S1024x16 .bf16) (offs : FVec F S1x16 .f32) : FVec F S1024x1 .f32 :=
  addf (rowSum (mulf (matmul dot_S1024x1024_S1024x16_S1024x16_1_0_0_1_n_n none below hotB (constant S1024x16 .f32 0x00000000#32)) hotF))
    (rowSum (mulf (broadcastTo S1024x16 offs broadcasts_S1x16_S1024x16) hotF))

/-- The kernel's offsets are the guarded tallies added up. -/
theorem offs_eq (v2 : BitVec 32) (col : IVec S1024x16 32) (a b d : Vec F S1x1024x1 .i32) :
    k0_pay10 v2 col a b d = addf (addf (addf (broadcast S1x16 (Scalar.ofBits .f32 0x00000000#32)) (earlier v2 0#32 (tally col a)))
      (earlier v2 1#32 (tally col b))) (earlier v2 2#32 (tally col d)) := rfl

/-- The kernel keeps the rows whose place is below the capacity. -/
theorem keep_eq (v2 : BitVec 32) (col : IVec S1024x16 32) (hotF : FVec F S1024x16 .f32) (hotB : FVec F S1024x16 .bf16) (offs : FVec F S1x16 .f32)
    (v : Vec F S1x1024x1 .i32) :
    k0_pay11 v2 col hotF hotB offs v = truncf .bf16 (sitofp .f32 (extui 32 (cmpf .olt (place hotF hotB (addf offs (earlier v2 3#32 (tally col v))))
      (broadcast S1024x1 (Scalar.ofBits .f32 0x434C0000#32))) natLt_1_32)) bitsLt_bf16_f32 := rfl

end Queue

/-- The capacity as a number. -/
theorem capacity_num : Ideal.ofBits .f32 0x434C0000#32 = ((204 : ℕ) : EReal) := by
  rw [show ((204 : ℕ) : EReal) = ((204 : ℝ) : EReal) by norm_cast]
  simp [Ideal.ofBits, Ideal.ieee, -EReal.coe_mul]; norm_num

/-- Numbers that differ only in being words of sixteen agree. -/
theorem word_inj (a b : Fin 16) : BitVec.ofNat 32 a.val = BitVec.ofNat 32 b.val ↔ a = b := by
  revert a b; decide +kernel

/-- A row's sum, as a finite sum. -/
theorem rowSum_at (v : FVec Ideal S1024x16 .f32) (t : Fin 1024) : rowSum v (ix2 t 0) = ∑ q : Fin 16, v (ix2 t q) := by
  refine (shapeCast_apply _ _ (ix2 t 0) (ix1 t) ?_).trans ?_
  · rw [Shape.rowMajor_val_one, Shape.rowMajor_val_two]
    exact (Nat.mul_one t.val).symm
  · refine (Ideal.multiReduction_add_single v _ reduces_S1024x16_S1024 (.inl rfl) rfl (ix1 t)).trans ?_
    refine Finset.sum_congr rfl fun q _ => congrArg v ?_
    funext a
    match a with
    | ⟨0, _⟩ => rfl
    | ⟨1, _⟩ => rfl

/-- A tally at an expert counts the rows routed there. -/
theorem tally_at (col : IVec S1024x16 32) (v : Vec Ideal S1x1024x1 .i32) (q : Fin 16) (hc : ∀ s : Fin 1024, col (ix2 s q) = BitVec.ofNat 32 q.val) :
    tally col v (ix2 0 q) = ((Finset.univ.filter fun s : Fin 1024 => v (ix3 0 s 0) = BitVec.ofNat 32 q.val).card : ℕ) := by
  refine (shapeCast_addUnit_apply _ _ _ (ix2 (0 : Fin 1) q)).trans ?_
  refine (Ideal.multiReduction_add_single _ _ reduces_S1024x16_S16 (.inl rfl) rfl _).trans ?_
  rw [← sum_flags]
  refine Finset.sum_congr rfl fun (s : Fin 1024) _ => ?_
  refine (eqFlag_num _ _).trans ?_
  have e : reduces_S1024x16_S16.lift (fun a : Fin 1 => ix2 (0 : Fin 1) q a.succ) s = ix2 s q := by
    funext a
    match a with
    | ⟨0, _⟩ => rfl
    | ⟨1, _⟩ => rfl
  have hv : broadcastTo S1024x16 (shapeCast S1024x1 v shapeCasts_S1x1024x1_S1024x1) broadcasts_S1024x1_S1024x16 (ix2 s q) = v (ix3 0 s 0) := by
    refine (spread_col _ _ s q).trans ((shapeCast_dropUnit_apply _ _ _ _).trans (congrArg v ?_))
    funext a
    match a with
    | ⟨0, _⟩ => rfl
    | ⟨1, _⟩ => rfl
    | ⟨2, _⟩ => rfl
  rw [e, hc s]
  exact if_congr (by rw [← hv]) rfl rfl

/-- A small number's word, read signed, is the number. -/
theorem word_toInt (n : ℕ) (h : n < 2 ^ 31) : (BitVec.ofNat 32 n).toInt = n := by
  have e : (BitVec.ofNat 32 n).toNat = n := by
    rw [BitVec.toNat_ofNat]
    exact Nat.mod_eq_of_lt (by omega)
  rw [BitVec.toInt_eq_toNat_of_lt (by rw [e]; omega), e]

/-- An entry of the square is 1 when its column comes before its row. -/
theorem below_at (t s : Fin 1024) : (below : FVec Ideal S1024x1024 .bf16) (ix2 t s) = if s < t then (1 : EReal) else 0 := by
  refine (flag_num (BitVec.slt (iota .tc S1024x1024 32 [1] iota_S1024x1024_d1_w32 (ix2 t s)) (iota .tc S1024x1024 32 [0] iota_S1024x1024_d0_w32 (ix2 t s)))).trans ?_
  rw [iota_single_apply, iota_single_apply]
  refine if_congr ?_ rfl rfl
  show BitVec.slt (BitVec.ofNat 32 s.val) (BitVec.ofNat 32 t.val) = true ↔ s.val < t.val
  rw [BitVec.slt_iff_toInt_lt, word_toInt s.val (by omega), word_toInt t.val (by omega), Int.ofNat_lt]

section Rank
variable (m : (ℓ : Loc nD τ sig) → Buf (Elt Ideal) ℓ)

/-- How many of device `d`'s rows are routed to expert `e`. -/
def routed (d : Dev nD) (e : Fin 16) : ℕ := (Finset.univ.filter fun s : Fin 1024 => rstg m d (ix2 s 0) = BitVec.ofNat 32 e.val).card

/-- How many of device `c`'s rows before row `t` are routed to expert `e`. -/
def routedBefore (c : Dev nD) (t : Fin 1024) (e : Fin 16) : ℕ :=
  (Finset.univ.filter fun s : Fin 1024 => s < t ∧ rstg m c (ix2 s 0) = BitVec.ofNat 32 e.val).card

/-- The place of device `c`'s row `t` in the queue of expert `e`, over all devices. -/
def rank (c : Dev nD) (t : Fin 1024) (e : Fin 16) : ℕ := routedBefore m c t e + ∑ d : Dev nD, if d < c then routed m d e else 0

/-- The comparison of device numbers, as a bit. -/
theorem later_word (c d : Dev nD) : Scalar.cmpi .sgt (kv2 c) (BitVec.ofNat 32 d.val) = BitVec.ofBool (decide (d < c)) := by
  revert c d; decide +kernel

/-- A device's tally where it comes earlier, at an expert. -/
theorem earlier_at (c d : Dev nD) (off : Fin 3 → ℕ) (inb : ∀ a, off a + S1x1024x1.size a ≤ S4x1024x1.size a) (ho : off = ![d.val, 0, 0]) (e : Fin 16) :
    earlier (F := Ideal) (kv2 c) (BitVec.ofNat 32 d.val) (tally (kCol m c) (ldR m off inb)) (ix2 0 e)
      = ((if d < c then routed m d e else 0 : ℕ) : EReal) := by
  unfold earlier
  rw [later_word]
  by_cases h : d < c
  · rw [if_pos h, decide_eq_true h]
    refine (tally_at _ _ e fun s => iota_single_apply _ _ _ _ _ _).trans ?_
    simp only [ldR_at m off inb d ho]
    rfl
  · rw [if_neg h, decide_eq_false h]
    exact Ideal.ofBits_zero_f32.trans Nat.cast_zero.symm

/-- The tallies of the earlier devices, at an expert. -/
theorem offs_at (c : Dev nD) (e : Fin 16) :
    addf (kOffs m c) (earlier (kv2 c) 3#32 (tally (kCol m c) (ldR m ![3, 0, 0] inb_S4x1024x1_S1x1024x1_3_0_0))) (ix2 0 e)
      = ((∑ d : Dev nD, if d < c then routed m d e else 0 : ℕ) : EReal) := by
  have e0 := earlier_at m c 0 ![0, 0, 0] inb_S4x1024x1_S1x1024x1_0_0_0 rfl e
  have e1 := earlier_at m c 1 ![1, 0, 0] inb_S4x1024x1_S1x1024x1_1_0_0 rfl e
  have e2 := earlier_at m c 2 ![2, 0, 0] inb_S4x1024x1_S1x1024x1_2_0_0 rfl e
  have e3 := earlier_at m c 3 ![3, 0, 0] inb_S4x1024x1_S1x1024x1_3_0_0 rfl e
  show (((Ideal.ofBits .f32 0x00000000#32 + earlier (F := Ideal) (kv2 c) (BitVec.ofNat 32 (0 : Dev nD).val) (tally (kCol m c) (ldR m ![0, 0, 0] _)) (ix2 0 e))
    + earlier (F := Ideal) (kv2 c) (BitVec.ofNat 32 (1 : Dev nD).val) (tally (kCol m c) (ldR m ![1, 0, 0] _)) (ix2 0 e))
    + earlier (F := Ideal) (kv2 c) (BitVec.ofNat 32 (2 : Dev nD).val) (tally (kCol m c) (ldR m ![2, 0, 0] _)) (ix2 0 e))
    + earlier (F := Ideal) (kv2 c) (BitVec.ofNat 32 (3 : Dev nD).val) (tally (kCol m c) (ldR m ![3, 0, 0] _)) (ix2 0 e) = _
  rw [e0, e1, e2, e3, Ideal.ofBits_zero_f32, zero_add, ← Nat.cast_add, ← Nat.cast_add, ← Nat.cast_add]
  exact congrArg Nat.cast (Fin.sum_univ_four (fun d : Fin 4 => if d < c then routed m d e else 0)).symm

/-- The marks: whether a row is routed to an expert. -/
theorem hot_at (c : Dev nD) (s : Fin 1024) (q : Fin 16) :
    kHotF m c (ix2 s q) = if rstg m c (ix2 s 0) = BitVec.ofNat 32 q.val then (1 : EReal) else 0 := by
  refine (eqFlag_num _ _).trans ?_
  have h1 : broadcastTo S1024x16 (k0_pay5 (F := Ideal) (rstg m c)) broadcasts_S1024x1_S1024x16 (ix2 s q) = rstg m c (ix2 s 0) :=
    (spread_col _ _ s q).trans (congrFun (shapeCast_self (s := S1024x1) (rstg m c) shapeCasts_S1024x1_S1024x1) _)
  have h2 : iota .tc S1024x16 32 [1] iota_S1024x16_d1_w32 (ix2 s q) = BitVec.ofNat 32 q.val := iota_single_apply _ _ _ _ _ _
  exact if_congr (by rw [← h1, ← h2]) rfl rfl

/-- Where a row is routed to an expert, its sum against the marks keeps that expert's entry. -/
theorem sum_hot (c : Dev nD) (t : Fin 1024) (e : Fin 16) (he : rstg m c (ix2 t 0) = BitVec.ofNat 32 e.val) (v : FVec Ideal S1024x16 .f32) :
    rowSum (mulf v (kHotF m c)) (ix2 t 0) = v (ix2 t e) := by
  rw [rowSum_at, Finset.sum_eq_single e]
  · rw [mulf_apply, hot_at, if_pos he, mul_one]
  · intro q _ hq
    rw [mulf_apply, hot_at, if_neg (fun h => hq ((word_inj q e).mp (h.symm.trans he))), mul_zero]
  · intro h; exact absurd (Finset.mem_univ e) h

/-- A routed row's place, as a number. -/
theorem place_at (c : Dev nD) (t : Fin 1024) (e : Fin 16) (he : rstg m c (ix2 t 0) = BitVec.ofNat 32 e.val) :
    place (kHotF m c) (kHotB m c) (addf (kOffs m c) (earlier (kv2 c) 3#32 (tally (kCol m c) (ldR m ![3, 0, 0] inb_S4x1024x1_S1x1024x1_3_0_0)))) (ix2 t 0)
      = ((rank m c t e : ℕ) : EReal) := by
  unfold place
  rw [addf_apply, sum_hot m c t e he, sum_hot m c t e he, rank, Nat.cast_add]
  refine congrArg₂ (· + ·) ?_ ?_
  · refine (Ideal.matmul_plain_apply none _ _ _ t e).trans ?_
    rw [constant_apply, Ideal.ofBits_zero_f32, zero_add, routedBefore, ← sum_flags]
    refine Finset.sum_congr rfl fun s _ => ?_
    rw [below_at, show kHotB m c (ix2 s e) = kHotF m c (ix2 s e) from rfl, hot_at, ite_and]
    split <;> simp
  · refine (broadcastTo_apply _ _ _ (ix2 0 e) fun a => ?_).trans (offs_at m c e)
    match a with
    | ⟨0, _⟩ => rfl
    | ⟨1, _⟩ => rfl

/-- A routed row is kept when its place is below the capacity. -/
theorem keep_at (c : Dev nD) (t : Fin 1024) (e : Fin 16) (he : rstg m c (ix2 t 0) = BitVec.ofNat 32 e.val) :
    kKeep m c (ix2 t 0) = if rank m c t e < 204 then (1 : EReal) else 0 := by
  unfold kKeep
  rw [keep_eq]
  refine (flag_num (decide (place (kHotF m c) (kHotB m c) (addf (kOffs m c) (earlier (kv2 c) 3#32 (tally (kCol m c) (ldR m ![3, 0, 0] inb_S4x1024x1_S1x1024x1_3_0_0)))) (ix2 t 0)
    < Ideal.ofBits .f32 0x434C0000#32))).trans ?_
  refine if_congr ?_ rfl rfl
  rw [decide_eq_true_iff, place_at m c t e he, capacity_num, Nat.cast_lt]

/-! ## The sixteen experts in turn -/

/-- A token's entry. -/
def tok (c : Dev nD) (t : Fin 1024) (k : Fin 512) : EReal := xstg m c (ix2 t k)

/-- An expert's weight, on the device that has it. -/
def wt (e : Fin 16) (k : Fin 512) (h : Fin 1024) : EReal :=
  wstg m ⟨e.val / 4, by have := e.isLt; show _ < 4; omega⟩ (ix3 (⟨e.val % 4, by omega⟩ : Fin 4) k h)

/-- What expert `e` adds at row `t` and column `h` on device `c`. -/
def share (c : Dev nD) (t h : Fin 1024) (e : Fin 16) : EReal :=
  if rstg m c (ix2 t 0) = BitVec.ofNat 32 e.val ∧ rank m c t e < 204 then
    ∑ k : Fin 512, tok m c t k * wt m e k h
  else 0

/-- One expert's step adds its share. -/
theorem step_at (c : Dev nD) (t h : Fin 1024) (e : Fin 16) (word : BitVec 32) (off : Fin 3 → ℕ)
    (inb : ∀ a, off a + S1x512x1024.size a ≤ S16x512x1024.size a) (hw : word = BitVec.ofNat 32 e.val) (ho : off = ![e.val, 0, 0])
    (acc : Vec Ideal S1024x1024 .f32) :
    step (kRt m c) (kKeep m c) word (ldW m off inb) (xbv m c) acc (ix2 t h) = acc (ix2 t h) + share m c t h e := by
  have hr : kRt m c = rstg m c := shapeCast_self (s := S1024x1) (rstg m c) shapeCasts_S1024x1_S1024x1
  have hx : xbv m c = xstg m c := (shapeCast_self (s := S1024x512) _ shapeCasts_S1024x512_S1024x512).trans
    (shapeCast_self (s := S1024x512) (xstg m c) shapeCasts_S1024x512_S1024x512)
  rw [hw, step_gate _ _ _ _ _ _ t h (rank m c t e < 204) (fun hq => keep_at m c t e (by rw [← hr]; exact hq)), hr, hx]
  refine congrArg (acc (ix2 t h) + ·) (if_congr Iff.rfl (Finset.sum_congr rfl fun k _ => ?_) rfl)
  rw [ldW_at m off inb e ho k h]
  rfl

/-- The order in which device `c` goes through the experts: its own four, then those that reach it from either side. -/
def order (c : Dev nD) (i : Fin 16) : Fin 16 :=
  ⟨(4 * c.val + (![0, 1, 2, 3, 12, 13, 6, 7, 8, 9, 10, 11, 4, 5, 14, 15] : Fin 16 → ℕ) i) % 16, Nat.mod_lt _ (by decide)⟩

/-- Every device goes through every expert once. -/
theorem order_bij (c : Dev nD) : Function.Bijective (order c) := by
  revert c; decide +kernel

/-! Each step's expert word and the place of its weights in the gathered buffer, as `order` names them. -/

theorem word0 (c : Dev nD) : (Scalar.addi (Scalar.muli (kv2 c) 4#32) 0#32) = BitVec.ofNat 32 (order c 0).val := by
  revert c; decide +kernel
theorem at0 (c : Dev nD) : (k0_off9 c 0#32) = ![(order c 0).val, 0, 0] := by
  revert c; decide +kernel
theorem word1 (c : Dev nD) : (Scalar.addi (Scalar.muli (kv2 c) 4#32) 1#32) = BitVec.ofNat 32 (order c 1).val := by
  revert c; decide +kernel
theorem at1 (c : Dev nD) : (k0_off9 c 1#32) = ![(order c 1).val, 0, 0] := by
  revert c; decide +kernel
theorem word2 (c : Dev nD) : (Scalar.addi (Scalar.muli (kv2 c) 4#32) 2#32) = BitVec.ofNat 32 (order c 2).val := by
  revert c; decide +kernel
theorem at2 (c : Dev nD) : (k0_off9 c 2#32) = ![(order c 2).val, 0, 0] := by
  revert c; decide +kernel
theorem word3 (c : Dev nD) : (Scalar.addi (Scalar.muli (kv2 c) 4#32) 3#32) = BitVec.ofNat 32 (order c 3).val := by
  revert c; decide +kernel
theorem at3 (c : Dev nD) : (k0_off9 c 3#32) = ![(order c 3).val, 0, 0] := by
  revert c; decide +kernel
theorem word4 (c : Dev nD) : (Scalar.addi (Scalar.muli (Scalar.remsi (Scalar.addi (Scalar.subi (Scalar.subi (kv2 c) 0#32) 1#32) 4#32) 4#32) 4#32) 0#32) = BitVec.ofNat 32 (order c 4).val := by
  revert c; decide +kernel
theorem at4 (c : Dev nD) : (k0_off12 c 0#32 0#32) = ![(order c 4).val, 0, 0] := by
  revert c; decide +kernel
theorem word5 (c : Dev nD) : (Scalar.addi (Scalar.muli (Scalar.remsi (Scalar.addi (Scalar.subi (Scalar.subi (kv2 c) 0#32) 1#32) 4#32) 4#32) 4#32) 1#32) = BitVec.ofNat 32 (order c 5).val := by
  revert c; decide +kernel
theorem at5 (c : Dev nD) : (k0_off12 c 0#32 1#32) = ![(order c 5).val, 0, 0] := by
  revert c; decide +kernel
theorem word6 (c : Dev nD) : (Scalar.addi (Scalar.addi (Scalar.muli (Scalar.remsi (Scalar.addi (Scalar.addi (kv2 c) 0#32) 1#32) 4#32) 4#32) 2#32) 0#32) = BitVec.ofNat 32 (order c 6).val := by
  revert c; decide +kernel
theorem at6 (c : Dev nD) : (k0_off13 c 0#32 0#32) = ![(order c 6).val, 0, 0] := by
  revert c; decide +kernel
theorem word7 (c : Dev nD) : (Scalar.addi (Scalar.addi (Scalar.muli (Scalar.remsi (Scalar.addi (Scalar.addi (kv2 c) 0#32) 1#32) 4#32) 4#32) 2#32) 1#32) = BitVec.ofNat 32 (order c 7).val := by
  revert c; decide +kernel
theorem at7 (c : Dev nD) : (k0_off13 c 0#32 1#32) = ![(order c 7).val, 0, 0] := by
  revert c; decide +kernel
theorem word8 (c : Dev nD) : (Scalar.addi (Scalar.muli (Scalar.remsi (Scalar.addi (Scalar.subi (Scalar.subi (kv2 c) 1#32) 1#32) 4#32) 4#32) 4#32) 0#32) = BitVec.ofNat 32 (order c 8).val := by
  revert c; decide +kernel
theorem at8 (c : Dev nD) : (k0_off12 c 1#32 0#32) = ![(order c 8).val, 0, 0] := by
  revert c; decide +kernel
theorem word9 (c : Dev nD) : (Scalar.addi (Scalar.muli (Scalar.remsi (Scalar.addi (Scalar.subi (Scalar.subi (kv2 c) 1#32) 1#32) 4#32) 4#32) 4#32) 1#32) = BitVec.ofNat 32 (order c 9).val := by
  revert c; decide +kernel
theorem at9 (c : Dev nD) : (k0_off12 c 1#32 1#32) = ![(order c 9).val, 0, 0] := by
  revert c; decide +kernel
theorem word10 (c : Dev nD) : (Scalar.addi (Scalar.addi (Scalar.muli (Scalar.remsi (Scalar.addi (Scalar.addi (kv2 c) 1#32) 1#32) 4#32) 4#32) 2#32) 0#32) = BitVec.ofNat 32 (order c 10).val := by
  revert c; decide +kernel
theorem at10 (c : Dev nD) : (k0_off13 c 1#32 0#32) = ![(order c 10).val, 0, 0] := by
  revert c; decide +kernel
theorem word11 (c : Dev nD) : (Scalar.addi (Scalar.addi (Scalar.muli (Scalar.remsi (Scalar.addi (Scalar.addi (kv2 c) 1#32) 1#32) 4#32) 4#32) 2#32) 1#32) = BitVec.ofNat 32 (order c 11).val := by
  revert c; decide +kernel
theorem at11 (c : Dev nD) : (k0_off13 c 1#32 1#32) = ![(order c 11).val, 0, 0] := by
  revert c; decide +kernel
theorem word12 (c : Dev nD) : (Scalar.addi (Scalar.muli (Scalar.remsi (Scalar.addi (Scalar.subi (Scalar.subi (kv2 c) 2#32) 1#32) 4#32) 4#32) 4#32) 0#32) = BitVec.ofNat 32 (order c 12).val := by
  revert c; decide +kernel
theorem at12 (c : Dev nD) : (k0_off12 c 2#32 0#32) = ![(order c 12).val, 0, 0] := by
  revert c; decide +kernel
theorem word13 (c : Dev nD) : (Scalar.addi (Scalar.muli (Scalar.remsi (Scalar.addi (Scalar.subi (Scalar.subi (kv2 c) 2#32) 1#32) 4#32) 4#32) 4#32) 1#32) = BitVec.ofNat 32 (order c 13).val := by
  revert c; decide +kernel
theorem at13 (c : Dev nD) : (k0_off12 c 2#32 1#32) = ![(order c 13).val, 0, 0] := by
  revert c; decide +kernel
theorem word14 (c : Dev nD) : (Scalar.addi (Scalar.addi (Scalar.muli (Scalar.remsi (Scalar.addi (Scalar.addi (kv2 c) 2#32) 1#32) 4#32) 4#32) 2#32) 0#32) = BitVec.ofNat 32 (order c 14).val := by
  revert c; decide +kernel
theorem at14 (c : Dev nD) : (k0_off13 c 2#32 0#32) = ![(order c 14).val, 0, 0] := by
  revert c; decide +kernel
theorem word15 (c : Dev nD) : (Scalar.addi (Scalar.addi (Scalar.muli (Scalar.remsi (Scalar.addi (Scalar.addi (kv2 c) 2#32) 1#32) 4#32) 4#32) 2#32) 1#32) = BitVec.ofNat 32 (order c 15).val := by
  revert c; decide +kernel
theorem at15 (c : Dev nD) : (k0_off13 c 2#32 1#32) = ![(order c 15).val, 0, 0] := by
  revert c; decide +kernel

/-! Each accumulator is the one before with the next experts' steps. -/

theorem out1_eq (c : Dev nD) : out1 m c = step (kRt m c) (kKeep m c) (Scalar.addi (Scalar.muli (kv2 c) 4#32) 1#32) (ldW m (k0_off9 c 1#32) (k0_off9_inb c 1)) (xbv m c) (term (kRt m c) (kKeep m c) (Scalar.addi (Scalar.muli (kv2 c) 4#32) 0#32) (ldW m (k0_off9 c 0#32) (k0_off9_inb c 0)) (xbv m c)) := rfl
theorem out2_eq (c : Dev nD) : out2 m c = step (kRt m c) (kKeep m c) (Scalar.addi (Scalar.muli (kv2 c) 4#32) 3#32) (ldW m (k0_off9 c 3#32) (k0_off9_inb c 3)) (xbv m c) (step (kRt m c) (kKeep m c) (Scalar.addi (Scalar.muli (kv2 c) 4#32) 2#32) (ldW m (k0_off9 c 2#32) (k0_off9_inb c 2)) (xbv m c) (out1 m c)) := rfl
theorem out3_eq (c : Dev nD) : out3 m c = step (kRt m c) (kKeep m c) (Scalar.addi (Scalar.muli (Scalar.remsi (Scalar.addi (Scalar.subi (Scalar.subi (kv2 c) 0#32) 1#32) 4#32) 4#32) 4#32) 0#32) (ldW m (k0_off12 c 0#32 0#32) (k0_off12_inb c 0 0)) (xbv m c) (out2 m c) := rfl
theorem out4_eq (c : Dev nD) : out4 m c = step (kRt m c) (kKeep m c) (Scalar.addi (Scalar.addi (Scalar.muli (Scalar.remsi (Scalar.addi (Scalar.addi (kv2 c) 0#32) 1#32) 4#32) 4#32) 2#32) 0#32) (ldW m (k0_off13 c 0#32 0#32) (k0_off13_inb c 0 0)) (xbv m c) (step (kRt m c) (kKeep m c) (Scalar.addi (Scalar.muli (Scalar.remsi (Scalar.addi (Scalar.subi (Scalar.subi (kv2 c) 0#32) 1#32) 4#32) 4#32) 4#32) 1#32) (ldW m (k0_off12 c 0#32 1#32) (k0_off12_inb c 0 1)) (xbv m c) (out3 m c)) := rfl
theorem out5_eq (c : Dev nD) : out5 m c = step (kRt m c) (kKeep m c) (Scalar.addi (Scalar.addi (Scalar.muli (Scalar.remsi (Scalar.addi (Scalar.addi (kv2 c) 0#32) 1#32) 4#32) 4#32) 2#32) 1#32) (ldW m (k0_off13 c 0#32 1#32) (k0_off13_inb c 0 1)) (xbv m c) (out4 m c) := rfl
theorem out6_eq (c : Dev nD) : out6 m c = step (kRt m c) (kKeep m c) (Scalar.addi (Scalar.muli (Scalar.remsi (Scalar.addi (Scalar.subi (Scalar.subi (kv2 c) 1#32) 1#32) 4#32) 4#32) 4#32) 1#32) (ldW m (k0_off12 c 1#32 1#32) (k0_off12_inb c 1 1)) (xbv m c) (step (kRt m c) (kKeep m c) (Scalar.addi (Scalar.muli (Scalar.remsi (Scalar.addi (Scalar.subi (Scalar.subi (kv2 c) 1#32) 1#32) 4#32) 4#32) 4#32) 0#32) (ldW m (k0_off12 c 1#32 0#32) (k0_off12_inb c 1 0)) (xbv m c) (out5 m c)) := rfl
theorem out7_eq (c : Dev nD) : out7 m c = step (kRt m c) (kKeep m c) (Scalar.addi (Scalar.addi (Scalar.muli (Scalar.remsi (Scalar.addi (Scalar.addi (kv2 c) 1#32) 1#32) 4#32) 4#32) 2#32) 1#32) (ldW m (k0_off13 c 1#32 1#32) (k0_off13_inb c 1 1)) (xbv m c) (step (kRt m c) (kKeep m c) (Scalar.addi (Scalar.addi (Scalar.muli (Scalar.remsi (Scalar.addi (Scalar.addi (kv2 c) 1#32) 1#32) 4#32) 4#32) 2#32) 0#32) (ldW m (k0_off13 c 1#32 0#32) (k0_off13_inb c 1 0)) (xbv m c) (out6 m c)) := rfl
theorem out8_eq (c : Dev nD) : out8 m c = step (kRt m c) (kKeep m c) (Scalar.addi (Scalar.muli (Scalar.remsi (Scalar.addi (Scalar.subi (Scalar.subi (kv2 c) 2#32) 1#32) 4#32) 4#32) 4#32) 0#32) (ldW m (k0_off12 c 2#32 0#32) (k0_off12_inb c 2 0)) (xbv m c) (out7 m c) := rfl
theorem out9_eq (c : Dev nD) : out9 m c = step (kRt m c) (kKeep m c) (Scalar.addi (Scalar.addi (Scalar.muli (Scalar.remsi (Scalar.addi (Scalar.addi (kv2 c) 2#32) 1#32) 4#32) 4#32) 2#32) 0#32) (ldW m (k0_off13 c 2#32 0#32) (k0_off13_inb c 2 0)) (xbv m c) (step (kRt m c) (kKeep m c) (Scalar.addi (Scalar.muli (Scalar.remsi (Scalar.addi (Scalar.subi (Scalar.subi (kv2 c) 2#32) 1#32) 4#32) 4#32) 4#32) 1#32) (ldW m (k0_off12 c 2#32 1#32) (k0_off12_inb c 2 1)) (xbv m c) (out8 m c)) := rfl
theorem out10_eq (c : Dev nD) : out10 m c = step (kRt m c) (kKeep m c) (Scalar.addi (Scalar.addi (Scalar.muli (Scalar.remsi (Scalar.addi (Scalar.addi (kv2 c) 2#32) 1#32) 4#32) 4#32) 2#32) 1#32) (ldW m (k0_off13 c 2#32 1#32) (k0_off13_inb c 2 1)) (xbv m c) (out9 m c) := rfl

/-- The first expert's product is a step from zero. -/
theorem term_step (rt : IVec S1024x1 32) (kp : FVec Ideal S1024x1 .bf16) (e : BitVec 32) (w : Vec Ideal S1x512x1024 .bf16)
    (xb : Vec Ideal S1024x512 .bf16) (i : S1024x1024.Idx) : term rt kp e w xb i = step rt kp e w xb (fun _ => (0 : EReal)) i := by
  show _ = shapeCast S1024x1024 (fun _ => (0 : EReal)) shapeCasts_S1024x1024_S1024x1024 i + term rt kp e w xb i
  rw [shapeCast_self, zero_add]

/-! The same at a row and a column, each step adding its expert's share. -/

theorem out1_at (c : Dev nD) (t h : Fin 1024) : out1 m c (ix2 t h) = share m c t h (order c 0) + share m c t h (order c 1) := by
  rw [out1_eq, step_at m c t h (order c 1) _ _ _ (word1 c) (at1 c), term_step, step_at m c t h (order c 0) _ _ _ (word0 c) (at0 c), zero_add]
theorem out2_at (c : Dev nD) (t h : Fin 1024) : out2 m c (ix2 t h) = out1 m c (ix2 t h) + share m c t h (order c 2) + share m c t h (order c 3) := by
  rw [out2_eq, step_at m c t h (order c 3) _ _ _ (word3 c) (at3 c), step_at m c t h (order c 2) _ _ _ (word2 c) (at2 c)]
theorem out3_at (c : Dev nD) (t h : Fin 1024) : out3 m c (ix2 t h) = out2 m c (ix2 t h) + share m c t h (order c 4) := by
  rw [out3_eq, step_at m c t h (order c 4) _ _ _ (word4 c) (at4 c)]
theorem out4_at (c : Dev nD) (t h : Fin 1024) : out4 m c (ix2 t h) = out3 m c (ix2 t h) + share m c t h (order c 5) + share m c t h (order c 6) := by
  rw [out4_eq, step_at m c t h (order c 6) _ _ _ (word6 c) (at6 c), step_at m c t h (order c 5) _ _ _ (word5 c) (at5 c)]
theorem out5_at (c : Dev nD) (t h : Fin 1024) : out5 m c (ix2 t h) = out4 m c (ix2 t h) + share m c t h (order c 7) := by
  rw [out5_eq, step_at m c t h (order c 7) _ _ _ (word7 c) (at7 c)]
theorem out6_at (c : Dev nD) (t h : Fin 1024) : out6 m c (ix2 t h) = out5 m c (ix2 t h) + share m c t h (order c 8) + share m c t h (order c 9) := by
  rw [out6_eq, step_at m c t h (order c 9) _ _ _ (word9 c) (at9 c), step_at m c t h (order c 8) _ _ _ (word8 c) (at8 c)]
theorem out7_at (c : Dev nD) (t h : Fin 1024) : out7 m c (ix2 t h) = out6 m c (ix2 t h) + share m c t h (order c 10) + share m c t h (order c 11) := by
  rw [out7_eq, step_at m c t h (order c 11) _ _ _ (word11 c) (at11 c), step_at m c t h (order c 10) _ _ _ (word10 c) (at10 c)]
theorem out8_at (c : Dev nD) (t h : Fin 1024) : out8 m c (ix2 t h) = out7 m c (ix2 t h) + share m c t h (order c 12) := by
  rw [out8_eq, step_at m c t h (order c 12) _ _ _ (word12 c) (at12 c)]
theorem out9_at (c : Dev nD) (t h : Fin 1024) : out9 m c (ix2 t h) = out8 m c (ix2 t h) + share m c t h (order c 13) + share m c t h (order c 14) := by
  rw [out9_eq, step_at m c t h (order c 14) _ _ _ (word14 c) (at14 c), step_at m c t h (order c 13) _ _ _ (word13 c) (at13 c)]
theorem out10_at (c : Dev nD) (t h : Fin 1024) : out10 m c (ix2 t h) = out9 m c (ix2 t h) + share m c t h (order c 15) := by
  rw [out10_eq, step_at m c t h (order c 15) _ _ _ (word15 c) (at15 c)]

/-- The kernel's result at a row and column: the sum of all experts' shares. -/
theorem out_at (c : Dev nD) (t h : Fin 1024) : out10 m c (ix2 t h) = ∑ e : Fin 16, share m c t h e := by
  rw [out10_at, out9_at, out8_at, out7_at, out6_at, out5_at, out4_at, out3_at, out2_at, out1_at,
    ← Function.Bijective.sum_comp (order_bij c) (share m c t h)]
  simp only [Fin.sum_univ_castSucc, Fin.sum_univ_zero, zero_add]
  rfl

end Rank

end Cert.KProof
-- ==== Proof.RefValue.lean ====
/-
What the reference computes, read with exact arithmetic: at a token's row, the sum over the experts of the token's
product with the expert it is routed to, where fewer tokens before it than the capacity are routed there too.
-/
module

public import proofs.«01_k».proof.Proof.Gen.ReferenceIdeal
public import proofs.«01_k».proof.Proof.Gen.ReferenceIdeal.Run
public import Idealize.ShloMosaic.Lib.ValueIdx
public import Idealize.ShloMosaic.Lib.IdealHost
public import Idealize.ShloMosaic.Lib.Routing.OpsOne
public import Idealize.ShloMosaic.Lib.Pointwise.Contract
public import Idealize.ShloMosaic.Lib.Pipeline.Value

@[expose] public section

noncomputable section

namespace Cert.KProof.Ref

open Cert.ReferenceIdeal Cert.ReferenceIdeal.Gen Idealize.SL.Sem
open Idealize.ShloMosaic hiding ix0 ix1 ix2 ix3 ix4 ix5
open Idealize.ShloMosaic.TcCoe Idealize.ShloMosaic.ValueIdx
open scoped BigOperators

section Text
variable {F : FTy → Type} [FloatOps F]

/-- Whether a token is routed to an expert. -/
def chosen (r : IVec S4096x1 32) : IVec S4096x16 1 :=
  cmpi .eq (broadcastInDim S4096x16 ![0, 1] bcast_S4096x1_S4096x16_0_1 r)
    (broadcastInDim S4096x16 ![0, 1] bcast_S1x16_S4096x16_0_1 (broadcastInDim S1x16 ![1] bcast_S16_S1x16_1 (iotaInDim S16 32 0)))

/-- How many tokens before a token are routed to an expert, as a word. -/
def waiting (r : IVec S4096x1 32) : IVec S4096x16 32 :=
  subi (Host.reduceWindow IntOp.addi ![4096, 1] ![1, 1] ![4095, 0] ![0, 0] (extui 32 (chosen r) natLt_1_32)
    (broadcastInDim S_ ![] bcast_S_S_ (constantI S_ 32 0#32)) reduceWindows_S4096x16_S4096x16_w4096s1p4095_0_w1s1p0_0 h_S_)
    (extui 32 (chosen r) natLt_1_32)

/-- Whether an expert takes a token. -/
def taken (r : IVec S4096x1 32) : IVec S4096x16 1 :=
  andi (chosen r) (cmpi .slt (waiting r) (broadcastInDim S4096x16 ![] bcast_S_S4096x16 (constantI S_ 32 204#32)))

/-- Every token's product with every expert. -/
def products (x : FVec F S4096x512 .bf16) (w : FVec F S16x512x1024 .bf16) : FVec F S4096x16x1024 .f32 :=
  Host.dotGeneral dot_S4096x512_S16x512x1024_S4096x16x1024_1_1_0_02_n_n none (extf .f32 x bitsLt_bf16_f32) (extf .f32 w bitsLt_bf16_f32)

/-- The reference's result. -/
def result (x : FVec F S4096x512 .bf16) (r : IVec S4096x1 32) (w : FVec F S16x512x1024 .bf16) : FVec F S4096x1024 .f32 :=
  Host.reduceAdd (select (broadcastInDim S4096x16x1024 ![0, 1, 2] bcast_S4096x16x1_S4096x16x1024_0_1_2
      (broadcastInDim S4096x16x1 ![0, 1] bcast_S4096x16_S4096x16x1_0_1 (taken r))) (products x w)
      (broadcastInDim S4096x16x1024 ![] bcast_S_S4096x16x1024 (id (constant S_ .f32 0x00000000#32))))
    (constant S_ .f32 0x00000000#32) reducesTo_S4096x16x1024_S4096x1024_d1 h_S_

/-- The reference ends with its result in place and its arguments as they were. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v16) = result (m ((c.tc : Thread nD τ).loc main_arg0)) (m ((c.tc : Thread nD τ).loc main_arg2))
        (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Cert.ReferenceIdeal.Value.run m ρ

end Text

variable (r : IVec S4096x1 32)

/-- Whether a token is routed to an expert, at a row and expert. -/
theorem chosen_at (t : Fin 4096) (e : Fin 16) : chosen r (ix2 t e) = BitVec.ofBool (decide (r (ix2 t 0) = BitVec.ofNat 32 e.val)) := by
  have h : chosen r (ix2 t e) = BitVec.ofBool (r (ix2 t 0) == BitVec.ofNat 32 e.val) := by
    refine congrArg₂ (fun a b : BitVec 32 => BitVec.ofBool (a == b)) (congrArg r ?_) rfl
    funext a
    match a with
    | ⟨0, _⟩ => rfl
    | ⟨1, _⟩ => rfl
  rw [h]; congr 1

/-- 1 where token `i` is routed to expert `q`, 0 elsewhere. -/
def mark (i q : ℕ) : ℕ := if h : i < 4096 then (if r (ix2 ⟨i, h⟩ 0) = BitVec.ofNat 32 q then 1 else 0) else 0

/-- A token's flag as a word is its mark. -/
theorem mark_word (t : Fin 4096) (e : Fin 16) : extui 32 (chosen r) natLt_1_32 (ix2 t e) = BitVec.ofNat 32 (mark r t.val e.val) := by
  rw [extui_apply, chosen_at, mark, dif_pos t.isLt]
  by_cases h : r (ix2 t 0) = BitVec.ofNat 32 e.val
  · rw [decide_eq_true h, if_pos h]; rfl
  · rw [decide_eq_false h, if_neg h]; rfl

/-- A list's sum over the first numbers, as a finite sum. -/
theorem sum_range_marks (n : ℕ) (f : ℕ → ℕ) : ((List.range n).map f).sum = ∑ i ∈ Finset.range n, f i := by
  rw [Finset.sum, Finset.range_val, Multiset.range, Multiset.map_coe, Multiset.sum_coe]

/-- The tokens before a token that are routed to an expert. -/
def ahead (t : Fin 4096) (e : Fin 16) : ℕ := ∑ i ∈ Finset.range t.val, mark r i e.val

/-- No more tokens wait than there are. -/
theorem ahead_le (t : Fin 4096) (e : Fin 16) : ahead r t e ≤ 4096 := by
  refine (Finset.sum_le_card_nsmul _ _ 1 fun i _ => ?_).trans ?_
  · unfold mark; split
    · split <;> omega
    · omega
  · rw [Finset.card_range, smul_eq_mul, mul_one]; exact t.isLt.le

/-- The running sum less the token's own mark counts the tokens before it. -/
theorem waiting_at (t : Fin 4096) (e : Fin 16) : waiting r (ix2 t e) = BitVec.ofNat 32 (ahead r t e) := by
  have h := Routing.cumsum_rows (R := 4096) (Rm1 := 4095) (C := 16) rfl (extui 32 (chosen r) natLt_1_32) (mark r) (mark_word r)
    (broadcastInDim S_ ![] bcast_S_S_ (constantI S_ 32 0#32)) rfl reduceWindows_S4096x16_S4096x16_w4096s1p4095_0_w1s1p0_0 h_S_ t e
  rw [sum_range_marks, Finset.sum_range_succ, ← ahead, BitVec.ofNat_add] at h
  refine (congrArg₂ (fun a b : BitVec 32 => a - b) h (mark_word r t e)).trans ?_
  exact BitVec.add_sub_cancel _ _

/-- An expert takes a token that is routed to it while fewer than the capacity came before. -/
theorem taken_at (t : Fin 4096) (e : Fin 16) :
    taken r (ix2 t e) = BitVec.ofBool (decide (r (ix2 t 0) = BitVec.ofNat 32 e.val ∧ ahead r t e < 204)) := by
  have h : taken r (ix2 t e) = chosen r (ix2 t e) &&& BitVec.ofBool (BitVec.slt (waiting r (ix2 t e)) 204#32) := rfl
  have hs : BitVec.slt (BitVec.ofNat 32 (ahead r t e)) 204#32 = decide (ahead r t e < 204) := by
    have := ahead_le r t e
    have e1 : (BitVec.ofNat 32 (ahead r t e)).toNat = ahead r t e := by
      rw [BitVec.toNat_ofNat]; exact Nat.mod_eq_of_lt (by omega)
    rw [Bool.eq_iff_iff, BitVec.slt_iff_toInt_lt, BitVec.toInt_eq_toNat_of_lt (by rw [e1]; omega), e1, decide_eq_true_iff]
    show (_ : ℤ) < 204 ↔ _
    omega
  rw [h, chosen_at, waiting_at, hs]
  by_cases h1 : r (ix2 t 0) = BitVec.ofNat 32 e.val <;> by_cases h2 : ahead r t e < 204 <;> simp [h1, h2]

section Value
variable (x : FVec Ideal S4096x512 .bf16) (w : FVec Ideal S16x512x1024 .bf16)

/-- One product, as a sum along the contracted axis. -/
theorem products_at (t : Fin 4096) (e : Fin 16) (h : Fin 1024) :
    products x w (ix3 t e h) = ∑ k : Fin 512, (x (ix2 t k) * w (ix3 e k h) : EReal) := by
  refine (Ideal.matmul_apply₁_of dot_S4096x512_S16x512x1024_S4096x16x1024_1_1_0_02_n_n (a := 1) rfl (K := 512) rfl x w (fun _ => 0) (ix3 t e h)
    (fun k => ix2 t k) (fun k => ix3 e k h) (fun k => ?_) (fun k => ?_)).trans (zero_add _)
  · funext a
    match a with
    | ⟨0, _⟩ => rfl
    | ⟨1, _⟩ => rfl
  · funext a
    match a with
    | ⟨0, _⟩ => rfl
    | ⟨1, _⟩ => rfl
    | ⟨2, _⟩ => rfl

/-- The reference's result at a token and a column. -/
theorem result_at (t : Fin 4096) (h : Fin 1024) :
    result x r w (ix2 t h) = ∑ e : Fin 16, if r (ix2 t 0) = BitVec.ofNat 32 e.val ∧ ahead r t e < 204 then
      ∑ k : Fin 512, (x (ix2 t k) * w (ix3 e k h) : EReal) else 0 := by
  refine (hostReduceAdd_apply _ _ _ _ _).trans ?_
  refine (Ideal.hostReduceAdd_single _ (by decide : Shape.Reduces S4096x16x1024 [1] S4096x1024) _ _ _).trans ?_
  rw [constant_apply, Ideal.ofBits_zero_f32, zero_add]
  refine Finset.sum_congr rfl fun (e : Fin 16) _ => ?_
  have hl : (by decide : Shape.Reduces S4096x16x1024 [1] S4096x1024).lift (ix2 t h) e = ix3 t e h := by
    funext a
    match a with
    | ⟨0, _⟩ => rfl
    | ⟨1, _⟩ => rfl
    | ⟨2, _⟩ => rfl
  rw [hl]
  have ht : broadcastInDim S4096x16x1024 ![0, 1, 2] bcast_S4096x16x1_S4096x16x1024_0_1_2
      (broadcastInDim S4096x16x1 ![0, 1] bcast_S4096x16_S4096x16x1_0_1 (taken r)) (ix3 t e h) = taken r (ix2 t e) := by
    refine congrArg (taken r) ?_
    funext a
    match a with
    | ⟨0, _⟩ => rfl
    | ⟨1, _⟩ => rfl
  rw [select_apply, ht, taken_at, products_at]
  by_cases hh : r (ix2 t 0) = BitVec.ofNat 32 e.val ∧ ahead r t e < 204
  · rw [decide_eq_true hh, if_pos hh]; rfl
  · rw [decide_eq_false hh, if_neg hh]; exact Ideal.ofBits_zero_f32

end Value

end Cert.KProof.Ref
-- ==== Proof.Value.lean ====
/-
The kernel's result on every device is its block of the reference's: the same tokens, the same experts, and the same
place in the queue counted device by device or all at once.
-/
module

public import proofs.«01_k».proof.Defs
public import proofs.«01_k».proof.Proof.Frames
public import proofs.«01_k».proof.Proof.KernelValue
public import proofs.«01_k».proof.Proof.RefValue
public import proofs.«01_k».proof.Proof.Gen.KernelIdeal.Points

@[expose] public section

noncomputable section

namespace Cert.KProof

open Cert.KernelIdeal Cert.KernelIdeal.Gen Idealize.SL.Sem
open Idealize.ShloMosaic hiding ix0 ix1 ix2 ix3 ix4 ix5
open Idealize.ShloMosaic.TcCoe Idealize.ShloMosaic.ValueIdx
open scoped BigOperators

/-! ## The windows are the whole arrays -/

section Whole
variable {F : FTy → Type} [FloatOps F] (m : (ℓ : Loc nD τ sig) → Buf (Elt F) ℓ)

/-- The token block that a device fetched is its argument. -/
theorem xstg_eq (c : Dev nD) : xstg m c = m ((c : Thread nD τ).loc main_arg0) := by
  funext i
  refine congrArg (m ((c : Thread nD τ).loc main_arg0)) (funext fun a => Fin.ext ?_)
  match a with
  | ⟨0, _⟩ => exact (show 0 * _ + 1 * (i 0).val = (i 0).val by omega)
  | ⟨1, _⟩ => exact (show 0 * _ + 1 * (i 1).val = (i 1).val by omega)

/-- The route block that a device fetched is its argument. -/
theorem rstg_eq (c : Dev nD) : rstg m c = m ((c : Thread nD τ).loc main_arg2) := by
  funext i
  refine congrArg (m ((c : Thread nD τ).loc main_arg2)) (funext fun a => Fin.ext ?_)
  match a with
  | ⟨0, _⟩ => exact (show 0 * _ + 1 * (i 0).val = (i 0).val by omega)
  | ⟨1, _⟩ => exact (show 0 * _ + 1 * (i 1).val = (i 1).val by omega)

/-- The expert block that a device fetched is its argument. -/
theorem wstg_eq (c : Dev nD) : wstg m c = m ((c : Thread nD τ).loc main_arg3) := by
  funext i
  refine congrArg (m ((c : Thread nD τ).loc main_arg3)) (funext fun a => Fin.ext ?_)
  match a with
  | ⟨0, _⟩ => exact (show 0 * _ + 1 * (i 0).val = (i 0).val by omega)
  | ⟨1, _⟩ => exact (show 0 * _ + 1 * (i 1).val = (i 1).val by omega)
  | ⟨2, _⟩ => exact (show 0 * _ + 1 * (i 2).val = (i 2).val by omega)

/-- The result's window leaves every index where it is. -/
theorem out_emb (i : S1024x1024.Idx) : ((cfg0.win 3).blk t₀).view.emb i = i := by
  refine funext fun a => Fin.ext ?_
  match a with
  | ⟨0, _⟩ => exact (show 0 * _ + 1 * (i 0).val = (i 0).val by omega)
  | ⟨1, _⟩ => exact (show 0 * _ + 1 * (i 1).val = (i 1).val by omega)

/-- What the kernel leaves in its result array is its last accumulator. -/
theorem result_eq (c : Dev nD) : resultAt m c = out10 m c := by
  funext i
  refine (dats m 0 c).arrAt_apply_of_mem (3 : Fin cfg0.W) (out10 m c) (fun t _ => ?_) cfg0.N t₀ i t₀.isLt (flush0_3 t₀) ?_
  · rw [fin_N t]
    funext j
    exact (congrArg (out10 m c) (out_emb j)).symm
  · refine Finset.mem_map.mpr ⟨i, Finset.mem_univ _, out_emb i⟩

end Whole

/-! ## Counting by devices -/

/-- A sum over the members below a bound is the sum up to the bound. -/
theorem sum_below {n : ℕ} (b : ℕ) (hb : b ≤ n) (f : ℕ → ℕ) : (∑ i : Fin n, if i.val < b then f i.val else 0) = ∑ i ∈ Finset.range b, f i := by
  rw [← Finset.sum_range (fun i => if i < b then f i else 0), ← Finset.sum_filter]
  refine Finset.sum_congr (Finset.ext fun i => ?_) fun _ _ => rfl
  simp only [Finset.mem_filter, Finset.mem_range]
  omega

/-- A sum over whole blocks of 1024, block by block. -/
theorem sum_blocks (f : ℕ → ℕ) (n : ℕ) :
    ∑ i ∈ Finset.range (n * 1024), f i = ∑ d ∈ Finset.range n, ∑ s ∈ Finset.range 1024, f (d * 1024 + s) := by
  induction n with
  | zero => simp
  | succ n ih => rw [Nat.succ_mul, Finset.sum_range_add, ih, Finset.sum_range_succ _ n]

/-! ## The two results -/

/-- A device's row among all rows. -/
def allRow (c : Fin 4) (t : Fin 1024) : Fin 4096 := ⟨c.val * 1024 + t.val, by omega⟩

section Agree
variable (m : (ℓ : Loc nD τ sig) → Buf (Elt Ideal) ℓ)
variable (x : FVec Ideal ⟨2, ![4096, 512]⟩ .bf16) (r : IVec ⟨2, ![4096, 1]⟩ 32) (w : FVec Ideal ⟨3, ![16, 512, 1024]⟩ .bf16)

/-- The mark of a device's row is that of the same row among all rows. -/
theorem mark_row (hr : ∀ (c : Dev nD) (t : Fin 1024), rstg m c (ix2 t 0) = r (ix2 (allRow c t) 0)) (d : Dev nD) (s : Fin 1024) (e : Fin 16) :
    (if rstg m d (ix2 s 0) = BitVec.ofNat 32 e.val then 1 else 0) = Ref.mark r (d.val * 1024 + s.val) e.val := by
  unfold Ref.mark
  rw [dif_pos (show d.val * 1024 + s.val < 4096 from (allRow d s).isLt), hr]
  rfl

/-- A row's place in the queue, counted over the devices, is its place among all rows. -/
theorem rank_eq (hr : ∀ (c : Dev nD) (t : Fin 1024), rstg m c (ix2 t 0) = r (ix2 (allRow c t) 0)) (c : Dev nD) (t : Fin 1024) (e : Fin 16) :
    rank m c t e = Ref.ahead r (allRow c t) e := by
  have h1 : routedBefore m c t e = ∑ s ∈ Finset.range t.val, Ref.mark r (c.val * 1024 + s) e.val := by
    rw [routedBefore, Finset.card_filter, ← sum_below (n := 1024) t.val t.isLt.le]
    refine Finset.sum_congr rfl fun s _ => ?_
    rw [← mark_row m r hr c s e, ite_and]
    rfl
  have h2 : ∀ d : Dev nD, routed m d e = ∑ s ∈ Finset.range 1024, Ref.mark r (d.val * 1024 + s) e.val := fun d => by
    rw [routed, Finset.card_filter, Finset.sum_range]
    exact Finset.sum_congr rfl fun s _ => mark_row m r hr d s e
  have h3 : (∑ d : Dev nD, if d < c then routed m d e else 0) = ∑ i ∈ Finset.range (c.val * 1024), Ref.mark r i e.val := by
    rw [sum_blocks, ← sum_below (n := 4) c.val c.isLt.le]
    exact Finset.sum_congr rfl fun d _ => if_congr Iff.rfl (h2 d) rfl
  rw [rank, h1, h3, add_comm, ← Finset.sum_range_add (fun i => Ref.mark r i e.val)]
  rfl

/-- One device's result is its block of the reference's. -/
theorem out_eq (hx : ∀ (c : Dev nD) (t : Fin 1024) (k : Fin 512), tok m c t k = x (ix2 (allRow c t) k))
    (hr : ∀ (c : Dev nD) (t : Fin 1024), rstg m c (ix2 t 0) = r (ix2 (allRow c t) 0))
    (hw : ∀ (e : Fin 16) (k : Fin 512) (h : Fin 1024), wt m e k h = w (ix3 e k h)) (c : Dev nD) (t h : Fin 1024) :
    out10 m c (ix2 t h) = Ref.result x r w (ix2 (allRow c t) h) := by
  rw [out_at, Ref.result_at]
  refine Finset.sum_congr rfl fun e _ => ?_
  unfold share
  have hp : rstg m c (ix2 t 0) = BitVec.ofNat 32 e.val ∧ rank m c t e < 204
      ↔ r (ix2 (allRow c t) 0) = BitVec.ofNat 32 e.val ∧ Ref.ahead r (allRow c t) e < 204 := by
    rw [hr, rank_eq m r hr]
  by_cases h1 : rstg m c (ix2 t 0) = BitVec.ofNat 32 e.val ∧ rank m c t e < 204
  · rw [if_pos h1, if_pos (hp.mp h1)]
    exact Finset.sum_congr rfl fun k _ => congrArg₂ (· * ·) (hx c t k) (hw e k h)
  · rw [if_neg h1, if_neg (mt hp.mpr h1)]

end Agree

/-- On every launch from blocks of the same arrays, every device ends with its block of the reference's result. -/
theorem algebraic : Cert.algebraic_KernelIdeal_ReferenceIdeal (hKernelIdeal := Cert.KernelIdeal.Gen.facts) (hReferenceIdeal := Cert.ReferenceIdeal.Gen.facts) := by
  intro m g m' g' _ hm
  have ex := fun c => (hm c).1
  have er := fun c => (hm c).2.2.1
  have ew := fun c => (hm c).2.2.2
  refine ⟨Ref.result (F := Ideal) (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg2))
    (m' (((0 : Dev Cert.ReferenceIdeal.nD).tc : Thread Cert.ReferenceIdeal.nD Cert.ReferenceIdeal.τ).loc Cert.ReferenceIdeal.main_arg3)), ?_, ?_⟩
  · refine (θ_run defs _ _).mono (fun s h c => ⟨?_, (h.1 c).2⟩) (run_all m g)
    refine (h.1 c).1.trans ((result_eq m c).trans ?_)
    funext i
    rw [ValueIdx.eq_ix2 i]
    refine (out_eq m _ _ _ (fun c t k => ?_) (fun c t => ?_) (fun e k h => ?_) c (i 0) (i 1)).trans (congrArg _ ?_)
    · refine (congrFun ((xstg_eq m c).trans (ex c)) (ix2 t k)).trans (congrArg
        (m' (((0 : Dev Cert.ReferenceIdeal.nD).tc : Thread Cert.ReferenceIdeal.nD Cert.ReferenceIdeal.τ).loc Cert.ReferenceIdeal.main_arg0)) ?_)
      funext a
      match a with
      | ⟨0, _⟩ => rfl
      | ⟨1, _⟩ => rfl
    · refine (congrFun ((rstg_eq m c).trans (er c)) (ix2 t 0)).trans (congrArg
        (m' (((0 : Dev Cert.ReferenceIdeal.nD).tc : Thread Cert.ReferenceIdeal.nD Cert.ReferenceIdeal.τ).loc Cert.ReferenceIdeal.main_arg2)) ?_)
      funext a
      match a with
      | ⟨0, _⟩ => rfl
      | ⟨1, _⟩ => rfl
    · refine (congrFun ((wstg_eq m _).trans (ew _)) (ix3 _ k h)).trans (congrArg
        (m' (((0 : Dev Cert.ReferenceIdeal.nD).tc : Thread Cert.ReferenceIdeal.nD Cert.ReferenceIdeal.τ).loc Cert.ReferenceIdeal.main_arg3)) ?_)
      funext a
      match a with
      | ⟨0, _⟩ => exact Fin.ext (Nat.div_add_mod' e.val 4)
      | ⟨1, _⟩ => rfl
      | ⟨2, _⟩ => rfl
    · funext a
      match a with
      | ⟨0, _⟩ => rfl
      | ⟨1, _⟩ => rfl
  · exact (θ_run Cert.ReferenceIdeal.defs _ _).mono (fun s h => h 0) (Ref.run (F := Ideal) m' g')

end Cert.KProof
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.KProof.frame_Kernel, Cert.KProof.frame_KernelIdeal, Cert.KProof.frame_ReferenceIdeal, trivial, Cert.KProof.algebraic⟩

end Cert.Proof

end
